-- ==== Defs.lean ====
def Pre_KernelIdeal (m : (ℓ : Loc Cert.KernelIdeal.nD Cert.KernelIdeal.τ Cert.KernelIdeal.sig) → Buf (Elt Ideal) ℓ) : Prop :=
  True

def Pre_KernelIdeal_router_finite_bias_zero [hPre_router_finite_bias_zero : Cert.Pre_router_finite_bias_zero.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite_bias_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite_bias_zero [hPre_router_finite_bias_zero : Cert.Pre_router_finite_bias_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite_bias_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Gather [hPre_dest_in_rows : Cert.Pre_dest_in_rows.Facts] (m : (ℓ : Loc Cert.Gather.nD Cert.Gather.τ Cert.Gather.sig) → Buf (Elt Bits) ℓ) : Prop :=
  ∀ c : Dev Cert.Gather.nD,
    (Cert.Pre_dest_in_rows.fn (F := Bits) (m ((c.tc : Thread Cert.Gather.nD Cert.Gather.τ).loc Cert.Gather.main_arg0)) (m ((c.tc : Thread Cert.Gather.nD Cert.Gather.τ).loc Cert.Gather.main_arg1))) = (fun _ => 1#1)

def Pre_GatherIdeal [hPre_dest_in_rows : Cert.Pre_dest_in_rows.Facts] (m : (ℓ : Loc Cert.GatherIdeal.nD Cert.GatherIdeal.τ Cert.GatherIdeal.sig) → Buf (Elt Ideal) ℓ) : Prop :=
  ∀ c : Dev Cert.GatherIdeal.nD,
    (Cert.Pre_dest_in_rows.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1))) = (fun _ => 1#1)

def Pre_GatherReferenceIdeal [hPre_dest_in_rows : Cert.Pre_dest_in_rows.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_dest_in_rows.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_router_finite_bias_zero [hKernelIdeal : Cert.KernelIdeal.Facts] [hPre_router_finite_bias_zero : Cert.Pre_router_finite_bias_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite_bias_zero m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_router_finite_bias_zero [hReferenceIdeal : Cert.ReferenceIdeal.Facts] [hPre_router_finite_bias_zero : Cert.Pre_router_finite_bias_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite_bias_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Gather [hGather : Cert.Gather.Facts] [hPre_dest_in_rows : Cert.Pre_dest_in_rows.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] [hPre_dest_in_rows : Cert.Pre_dest_in_rows.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] [hPre_dest_in_rows : Cert.Pre_dest_in_rows.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def algebraic_KernelIdeal_ReferenceIdeal_pre_router_finite_bias_zero [hKernelIdeal : Cert.KernelIdeal.Facts] [hReferenceIdeal : Cert.ReferenceIdeal.Facts] [hPre_router_finite_bias_zero : Cert.Pre_router_finite_bias_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite_bias_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v20)) (v3 : (c : Dev Cert.KernelIdeal.nD) → Buf (Elt Ideal) ((c.tc : Thread Cert.KernelIdeal.nD Cert.KernelIdeal.τ).loc Cert.KernelIdeal.main_c_0)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v20) = v2 c
          ∧ r.2.mem ((c.tc : Thread Cert.KernelIdeal.nD Cert.KernelIdeal.τ).loc Cert.KernelIdeal.main_c_0) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_c_12) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Gather_GatherIdeal : Prop :=
  True

def algebraic_GatherIdeal_GatherReferenceIdeal [hGatherIdeal : Cert.GatherIdeal.Facts] [hGatherReferenceIdeal : Cert.GatherReferenceIdeal.Facts] [hPre_dest_in_rows : Cert.Pre_dest_in_rows.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)) →
    ∃ (v0 : (c : Dev Cert.GatherIdeal.nD) → Buf (Elt Ideal) ((c.tc : Thread Cert.GatherIdeal.nD Cert.GatherIdeal.τ).loc Cert.GatherIdeal.main_v9)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v9) = v0 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v7) = v0 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1))

def Claim : Prop :=
  ∃ (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hPre_router_finite_bias_zero : Cert.Pre_router_finite_bias_zero.Facts) (hPre_dest_in_rows : Cert.Pre_dest_in_rows.Facts),
    quiescent_KernelIdeal (hKernelIdeal := hKernelIdeal)
    ∧ quiescent_KernelIdeal_pre_router_finite_bias_zero (hKernelIdeal := hKernelIdeal) (hPre_router_finite_bias_zero := hPre_router_finite_bias_zero)
    ∧ quiescent_ReferenceIdeal (hReferenceIdeal := hReferenceIdeal)
    ∧ quiescent_ReferenceIdeal_pre_router_finite_bias_zero (hReferenceIdeal := hReferenceIdeal) (hPre_router_finite_bias_zero := hPre_router_finite_bias_zero)
    ∧ quiescent_Gather (hGather := hGather) (hPre_dest_in_rows := hPre_dest_in_rows)
    ∧ quiescent_GatherIdeal (hGatherIdeal := hGatherIdeal) (hPre_dest_in_rows := hPre_dest_in_rows)
    ∧ quiescent_GatherReferenceIdeal (hGatherReferenceIdeal := hGatherReferenceIdeal) (hPre_dest_in_rows := hPre_dest_in_rows)
    ∧ algebraic_KernelIdeal_ReferenceIdeal_pre_router_finite_bias_zero (hKernelIdeal := hKernelIdeal) (hReferenceIdeal := hReferenceIdeal) (hPre_router_finite_bias_zero := hPre_router_finite_bias_zero)
    ∧ preserves_Gather_GatherIdeal
    ∧ algebraic_GatherIdeal_GatherReferenceIdeal (hGatherIdeal := hGatherIdeal) (hGatherReferenceIdeal := hGatherReferenceIdeal) (hPre_dest_in_rows := hPre_dest_in_rows)
-- ==== Pre_dest_in_rows.lean ====
abbrev S5120x1024 : Shape := ⟨2, ![5120, 1024]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : FVec F S5120x1024 .f32) (main_arg1 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 5120#32
  let main_v2 : IVec S4096 32 := broadcastInDim S4096 ![] bcast_S_S4096 main_c_0
  let main_v3 : IVec S4096 1 := cmpi .slt main_arg1 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  main_v5
-- ==== Pre_router_finite_bias_zero.lean ====
abbrev S2048x2x1024 : Shape := ⟨3, ![2048, 2, 1024]⟩
abbrev S8x1024 : Shape := ⟨2, ![8, 1024]⟩
abbrev S8 : Shape := ⟨1, ![8]⟩
abbrev S8x2x1024x1024 : Shape := ⟨4, ![8, 2, 1024, 1024]⟩
abbrev S8x2x1024 : Shape := ⟨3, ![8, 2, 1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_
  bcast_S_S8x2x1024 : S_.BroadcastsInDim S8x2x1024 (![] : Fin 0 → Fin S8x2x1024.rank)
  reducesTo_S8x2x1024_S_d0_1_2 : S8x2x1024.ReducesTo [0, 1, 2] S_

variable [Facts]

def fn_part1 {F : FTy → Type} [FloatOps F] (main_v13 : IVec S_ 1) (main_v15 : IVec S8x2x1024 1) (main_c_5 : IVec S_ 1) : IVec S_ 1 :=
  let main_v16 : IVec S_ 1 := (fun x v => Host.reduce IntOp.andi x v reducesTo_S8x2x1024_S_d0_1_2 h_S_) main_v15 main_c_5
  let main_v17 : IVec S_ 1 := andi main_v13 main_v16
  main_v17

def fn {F : FTy → Type} [FloatOps F] (main_arg0 : FVec F S2048x2x1024 .f32) (main_arg1 : FVec F S8x1024 .f32) (main_arg2 : FVec F S8 .f32) (main_arg3 : FVec F S8x2x1024x1024 .f32) (main_arg4 : FVec F S8x2x1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_cst_4 : FVec F S_ .f32 := constant S_ .f32 0x00000000#32
  let main_v14 : FVec F S8x2x1024 .f32 := broadcastInDim S8x2x1024 ![] bcast_S_S8x2x1024 main_cst_4
  let main_v15 : IVec S8x2x1024 1 := cmpf .oeq main_arg4 main_v14
  let main_c_5 : IVec S_ 1 := constantI S_ 1 1#1
  fn_part1 (F := F) main_v13 main_v15 main_c_5
-- ==== KernelIdeal.lean ====
abbrev S2048x2x1024 : Shape := ⟨3, ![2048, 2, 1024]⟩
abbrev S8x1024 : Shape := ⟨2, ![8, 1024]⟩
abbrev S8 : Shape := ⟨1, ![8]⟩
abbrev S8x2x1024x1024 : Shape := ⟨4, ![8, 2, 1024, 1024]⟩
abbrev S8x2x1024 : Shape := ⟨3, ![8, 2, 1024]⟩
abbrev S4096x1024 : Shape := ⟨2, ![4096, 1024]⟩
abbrev S1x8 : Shape := ⟨2, ![1, 8]⟩
abbrev S4096x1 : Shape := ⟨2, ![4096, 1]⟩
abbrev S40x1 : Shape := ⟨2, ![40, 1]⟩
abbrev S512x1024 : Shape := ⟨2, ![512, 1024]⟩
abbrev S512x1 : Shape := ⟨2, ![512, 1]⟩
abbrev S4096x8 : Shape := ⟨2, ![4096, 8]⟩
abbrev S512x8 : Shape := ⟨2, ![512, 8]⟩
abbrev S512 : Shape := ⟨1, ![512]⟩
abbrev S8x8 : Shape := ⟨2, ![8, 8]⟩
abbrev S40x8 : Shape := ⟨2, ![40, 8]⟩
abbrev S40 : Shape := ⟨1, ![40]⟩
abbrev S128x128 : Shape := ⟨2, ![128, 128]⟩
abbrev S128x8 : Shape := ⟨2, ![128, 8]⟩
abbrev S128 : Shape := ⟨1, ![128]⟩
abbrev S128x1 : Shape := ⟨2, ![128, 1]⟩
abbrev S4096 : Shape := ⟨1, ![4096]⟩
abbrev S_ : Shape := ⟨0, ![]⟩
abbrev S32768 : Shape := ⟨1, ![32768]⟩
abbrev S32768x128 : Shape := ⟨2, ![32768, 128]⟩
abbrev S40960x128 : Shape := ⟨2, ![40960, 128]⟩
abbrev S512x128 : Shape := ⟨2, ![512, 128]⟩
abbrev S5120x1024 : Shape := ⟨2, ![5120, 1024]⟩
abbrev S128x1024 : Shape := ⟨2, ![128, 1024]⟩
abbrev S1x2x1024x1024 : Shape := ⟨4, ![1, 2, 1024, 1024]⟩
abbrev S1 : Shape := ⟨1, ![1]⟩
abbrev S1x2x1024 : Shape := ⟨3, ![1, 2, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩

abbrev nBuf : Table → Nat
  | .hbm => 33
  | .local .tc .vmem => 21
  | .local .tc .smem => 1
  | .local .scVector .vmem => 4
  | _ => 0

abbrev bufTy : (tb : Table) → Fin (nBuf tb) → BufTy
  | .hbm, ⟨0, _⟩ => ⟨S2048x2x1024, .f32⟩
  | .hbm, ⟨1, _⟩ => ⟨S8x1024, .f32⟩
  | .hbm, ⟨2, _⟩ => ⟨S8, .f32⟩
  | .hbm, ⟨3, _⟩ => ⟨S8x2x1024x1024, .f32⟩
  | .hbm, ⟨4, _⟩ => ⟨S8x2x1024, .f32⟩
  | .hbm, ⟨5, _⟩ => ⟨S4096x1024, .f32⟩
  | .hbm, ⟨6, _⟩ => ⟨S1x8, .f32⟩
  | .hbm, ⟨7, _⟩ => ⟨S4096x1024, .f32⟩
  | .hbm, ⟨8, _⟩ => ⟨S4096x1, .f32⟩
  | .hbm, ⟨9, _⟩ => ⟨S1x8, .f32⟩
  | .hbm, ⟨10, _⟩ => ⟨S1x8, .f32⟩
  | .hbm, ⟨11, _⟩ => ⟨S4096x1, .i32⟩
  | .hbm, ⟨12, _⟩ => ⟨S40x1, .i32⟩
  | .hbm, ⟨13, _⟩ => ⟨S4096, .i32⟩
  | .hbm, ⟨14, _⟩ => ⟨S4096x8, .i32⟩
  | .hbm, ⟨15, _⟩ => ⟨S4096x1, .i32⟩
  | .hbm, ⟨16, _⟩ => ⟨S_, .i32⟩
  | .hbm, ⟨17, _⟩ => ⟨S4096x1, .i32⟩
  | .hbm, ⟨18, _⟩ => ⟨S4096x1, .i32⟩
  | .hbm, ⟨19, _⟩ => ⟨S4096x8, .i32⟩
  | .hbm, ⟨20, _⟩ => ⟨S4096x8, .i32⟩
  | .hbm, ⟨21, _⟩ => ⟨S32768, .i32⟩
  | .hbm, ⟨22, _⟩ => ⟨S32768x128, .f32⟩
  | .hbm, ⟨23, _⟩ => ⟨S40960x128, .f32⟩
  | .hbm, ⟨24, _⟩ => ⟨S5120x1024, .f32⟩
  | .hbm, ⟨25, _⟩ => ⟨S5120x1024, .f32⟩
  | .hbm, ⟨26, _⟩ => ⟨S40960x128, .f32⟩
  | .hbm, ⟨27, _⟩ => ⟨S32768x128, .f32⟩
  | .hbm, ⟨28, _⟩ => ⟨S2048x2x1024, .f32⟩
  | .hbm, ⟨29, _⟩ => ⟨S8, .f32⟩
  | .hbm, ⟨30, _⟩ => ⟨S8, .f32⟩
  | .hbm, ⟨31, _⟩ => ⟨S4096, .f32⟩
  | .hbm, ⟨32, _⟩ => ⟨S_, .i32⟩
  | .local .tc .vmem, ⟨0, _⟩ => ⟨S512x1024, .f32⟩
  | .local .tc .vmem, ⟨1, _⟩ => ⟨S512x1024, .f32⟩
  | .local .tc .vmem, ⟨2, _⟩ => ⟨S8x1024, .f32⟩
  | .local .tc .vmem, ⟨3, _⟩ => ⟨S1x8, .f32⟩
  | .local .tc .vmem, ⟨4, _⟩ => ⟨S512x1024, .f32⟩
  | .local .tc .vmem, ⟨5, _⟩ => ⟨S512x1024, .f32⟩
  | .local .tc .vmem, ⟨6, _⟩ => ⟨S512x1, .f32⟩
  | .local .tc .vmem, ⟨7, _⟩ => ⟨S512x1, .f32⟩
  | .local .tc .vmem, ⟨8, _⟩ => ⟨S1x8, .f32⟩
  | .local .tc .vmem, ⟨9, _⟩ => ⟨S1x8, .f32⟩
  | .local .tc .vmem, ⟨10, _⟩ => ⟨S4096x1, .i32⟩
  | .local .tc .vmem, ⟨11, _⟩ => ⟨S40x1, .i32⟩
  | .local .tc .vmem, ⟨12, _⟩ => ⟨S4096x8, .f32⟩
  | .local .tc .vmem, ⟨13, _⟩ => ⟨S128x1024, .f32⟩
  | .local .tc .vmem, ⟨14, _⟩ => ⟨S128x1024, .f32⟩
  | .local .tc .vmem, ⟨15, _⟩ => ⟨S1x2x1024x1024, .f32⟩
  | .local .tc .vmem, ⟨16, _⟩ => ⟨S1x2x1024x1024, .f32⟩
  | .local .tc .vmem, ⟨17, _⟩ => ⟨S1x2x1024, .f32⟩
  | .local .tc .vmem, ⟨18, _⟩ => ⟨S1x2x1024, .f32⟩
  | .local .tc .vmem, ⟨19, _⟩ => ⟨S128x1024, .f32⟩
  | .local .tc .vmem, ⟨20, _⟩ => ⟨S128x1024, .f32⟩
  | .local .tc .smem, ⟨0, _⟩ => ⟨S40, .i32⟩
  | .local .scVector .vmem, ⟨0, _⟩ => ⟨S512, .i32⟩
  | .local .scVector .vmem, ⟨1, _⟩ => ⟨S512x128, .f32⟩
  | .local .scVector .vmem, ⟨2, _⟩ => ⟨S512, .i32⟩
  | .local .scVector .vmem, ⟨3, _⟩ => ⟨S512x128, .f32⟩
  | _, _ => ⟨S2048x2x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_0 : Ref sig .tc := ⟨.hbm, 32, rfl⟩
abbrev main_v14 : Ref sig .tc := ⟨.smem, 0, rfl⟩
abbrev main_v11_scv : Ref sig .scVector := ⟨.hbm, 22, rfl⟩
abbrev main_v10_scv : Ref sig .scVector := ⟨.hbm, 21, rfl⟩
abbrev main_v12_scv : Ref sig .scVector := ⟨.hbm, 23, rfl⟩
abbrev main_v16_scv : Ref sig .scVector := ⟨.hbm, 26, rfl⟩
abbrev main_v17_scv : Ref sig .scVector := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc1_scratch0 : Ref sig .scVector := ⟨.vmem, 0, rfl⟩
abbrev cc1_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c512_i32 : BitVec 32 := 512#32
  let v32 : BitVec 32 := Scalar.muli arg0 c512_i32
  let v33 : Index := Scalar.indexCast v32
  let c0_10 : Index := 0#32
  ![v33.toNat, 0]
def k0_cond2 (i : grid0.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_26 : BitVec 32 := 0#32
  let v58 : BitVec 1 := Scalar.cmpi .ne v57 c0_i32_26
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![2, 16], ![false, false]⟩

@[reducible] def k1_t1_loop : Scf.Loop 32 :=
  let c0_i32 : BitVec 32 := 0#32
  let c2_i32_0 : BitVec 32 := 2#32
  let v3 : BitVec 32 := Scalar.addi c0_i32 c2_i32_0
  let c1_i32 : BitVec 32 := 1#32
  ⟨c0_i32, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let c0_i32 : BitVec 32 := 0#32
  let c1_i32 : BitVec 32 := 1#32
  let arg8 : BitVec 32 := Scf.iv c0_i32 c1_i32 k1_t1
  let c512_i32 : BitVec 32 := 512#32
  let v4 : BitVec 32 := Scalar.muli arg8 c512_i32
  let v5 : BitVec 32 := Scalar.addi c0_i32_2 v4
  let v6 : BitVec 32 := Scalar.addi v2 v5
  ![v6.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let c0_i32 : BitVec 32 := 0#32
  let c1_i32 : BitVec 32 := 1#32
  let arg8 : BitVec 32 := Scf.iv c0_i32 c1_i32 k1_t1
  let c512_i32 : BitVec 32 := 512#32
  let v4 : BitVec 32 := Scalar.muli arg8 c512_i32
  let v5 : BitVec 32 := Scalar.addi c0_i32_2 v4
  let v7 : BitVec 32 := Scalar.addi v2 v5
  let c0_i32_7_r1 : BitVec 32 := 0#32
  ![v7.toNat, 0]
abbrev grid2 : Pipeline.Grid := ⟨1, ![40], ![false]⟩

abbrev pre2 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (k2_off1_inb : ∀ i : grid2.Coords, ∀ a, (k2_off1 i) a + S1.size a ≤ S40.size a) (numel1_S1 : S1.numel = 1) (pf : pre2.Contents (Elt F)) (i : grid2.Coords) : Fin 4 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc2_transform_2 (k2_off1_inb : ∀ i : grid2.Coords, ∀ a, (k2_off1 i) a + S1.size a ≤ S40.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S40) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S128x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x2x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

@[reducible] def k3_t1_loop : Scf.Loop 32 :=
  let c0_i32 : BitVec 32 := 0#32
  let c2_i32_0 : BitVec 32 := 2#32
  let v3 : BitVec 32 := Scalar.addi c0_i32 c2_i32_0
  let c1_i32 : BitVec 32 := 1#32
  ⟨c0_i32, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let c0_i32 : BitVec 32 := 0#32
  let c1_i32 : BitVec 32 := 1#32
  let arg8 : BitVec 32 := Scf.iv c0_i32 c1_i32 k3_t1
  let c512_i32 : BitVec 32 := 512#32
  let v4 : BitVec 32 := Scalar.muli arg8 c512_i32
  let v5 : BitVec 32 := Scalar.addi c0_i32_2 v4
  let v6 : BitVec 32 := Scalar.addi v2 v5
  ![v6.toNat]
def k3_off2 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let c0_i32 : BitVec 32 := 0#32
  let c1_i32 : BitVec 32 := 1#32
  let arg8 : BitVec 32 := Scf.iv c0_i32 c1_i32 k3_t1
  let c512_i32 : BitVec 32 := 512#32
  let v4 : BitVec 32 := Scalar.muli arg8 c512_i32
  let v5 : BitVec 32 := Scalar.addi c0_i32_2 v4
  let v9 : BitVec 32 := Scalar.addi v2 v5
  let c0_i32_7_r1 : BitVec 32 := 0#32
  ![v9.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S2048x2x1024 : Shape := ⟨3, ![2048, 2, 1024]⟩
abbrev S8x1024 : Shape := ⟨2, ![8, 1024]⟩
abbrev S8 : Shape := ⟨1, ![8]⟩
abbrev S8x2x1024x1024 : Shape := ⟨4, ![8, 2, 1024, 1024]⟩
abbrev S8x2x1024 : Shape := ⟨3, ![8, 2, 1024]⟩
abbrev S4096x1024 : Shape := ⟨2, ![4096, 1024]⟩
abbrev S1024x8 : Shape := ⟨2, ![1024, 8]⟩
abbrev S4096x8 : Shape := ⟨2, ![4096, 8]⟩
abbrev S1x8 : Shape := ⟨2, ![1, 8]⟩
abbrev S_ : Shape := ⟨0, ![]⟩
abbrev S4096 : Shape := ⟨1, ![4096]⟩
abbrev S4096x1 : Shape := ⟨2, ![4096, 1]⟩
abbrev S1x4096x1024 : Shape := ⟨3, ![1, 4096, 1024]⟩
abbrev S8x4096x1024 : Shape := ⟨3, ![8, 4096, 1024]⟩
abbrev S8x1x1024x1024 : Shape := ⟨4, ![8, 1, 1024, 1024]⟩
abbrev S8x1024x1024 : Shape := ⟨3, ![8, 1024, 1024]⟩
abbrev S8x1x1024 : Shape := ⟨3, ![8, 1, 1024]⟩
abbrev S4096x2 : Shape := ⟨2, ![4096, 2]⟩

abbrev nBuf : Space → Nat
  | .hbm => 94
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S8x1024, .f32⟩
  | .hbm, ⟨2, _⟩ => ⟨S8, .f32⟩
  | .hbm, ⟨3, _⟩ => ⟨S8x2x1024x1024, .f32⟩
  | .hbm, ⟨4, _⟩ => ⟨S8x2x1024, .f32⟩
  | .hbm, ⟨5, _⟩ => ⟨S4096x1024, .f32⟩
  | .hbm, ⟨6, _⟩ => ⟨S1024x8, .f32⟩
  | .hbm, ⟨7, _⟩ => ⟨S4096x8, .f32⟩
  | .hbm, ⟨8, _⟩ => ⟨S1x8, .f32⟩
  | .hbm, ⟨9, _⟩ => ⟨S4096x8, .f32⟩
  | .hbm, ⟨10, _⟩ => ⟨S4096x8, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x8, .f32⟩
  | .hbm, ⟨24, _⟩ => ⟨S4096x8, .f32⟩
  | .hbm, ⟨25, _⟩ => ⟨S_, .f32⟩
  | .hbm, ⟨26, _⟩ => ⟨S4096, .f32⟩
  | .hbm, ⟨27, _⟩ => ⟨S4096x8, .i32⟩
  | .hbm, ⟨28, _⟩ => ⟨S_, .f32⟩
  | .hbm, ⟨29, _⟩ => ⟨S_, .i32⟩
  | .hbm, ⟨30, _⟩ => ⟨S4096, .f32⟩
  | .hbm, ⟨31, _⟩ => ⟨S4096, .i32⟩
  | .hbm, ⟨32, _⟩ => ⟨S_, .i32⟩
  | .hbm, ⟨33, _⟩ => ⟨S8, .i32⟩
  | .hbm, ⟨34, _⟩ => ⟨S_, .i32⟩
  | .hbm, ⟨35, _⟩ => ⟨S_, .i32⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S_, .i32⟩
  | .hbm, ⟨47, _⟩ => ⟨S4096, .i32⟩
  | .hbm, ⟨48, _⟩ => ⟨S8, .i32⟩
  | .hbm, ⟨49, _⟩ => ⟨S8, .f32⟩
  | .hbm, ⟨50, _⟩ => ⟨S1x4096x1024, .f32⟩
  | .hbm, ⟨51, _⟩ => ⟨S8x4096x1024, .f32⟩
  | .hbm, ⟨52, _⟩ => ⟨S8x1x1024x1024, .f32⟩
  | .hbm, ⟨53, _⟩ => ⟨S8x1024x1024, .f32⟩
  | .hbm, ⟨54, _⟩ => ⟨S8x4096x1024, .f32⟩
  | .hbm, ⟨55, _⟩ => ⟨S8x1x1024, .f32⟩
  | .hbm, ⟨56, _⟩ => ⟨S8x1024, .f32⟩
  | .hbm, ⟨57, _⟩ => ⟨S8x1x1024, .f32⟩
  | .hbm, ⟨58, _⟩ => ⟨S8x4096x1024, .f32⟩
  | .hbm, ⟨59, _⟩ => ⟨S8x4096x1024, .f32⟩
  | .hbm, ⟨60, _⟩ => ⟨S8x1x1024x1024, .f32⟩
  | .hbm, ⟨61, _⟩ => ⟨S8x1024x1024, .f32⟩
  | .hbm, ⟨62, _⟩ => ⟨S8x4096x1024, .f32⟩
  | .hbm, ⟨63, _⟩ => ⟨S8x1x1024, .f32⟩
  | .hbm, ⟨64, _⟩ => ⟨S8x1024, .f32⟩
  | .hbm, ⟨65, _⟩ => ⟨S8x1x1024, .f32⟩
  | .hbm, ⟨66, _⟩ => ⟨S8x4096x1024, .f32⟩
  | .hbm, ⟨67, _⟩ => ⟨S8x4096x1024, .f32⟩
  | .hbm, ⟨68, _⟩ => ⟨S4096, .i32⟩
  | .hbm, ⟨69, _⟩ => ⟨S_, .i32⟩
  | .hbm, ⟨70, _⟩ => ⟨S4096, .i32⟩
  | .hbm, ⟨71, _⟩ => ⟨S4096, .i1⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S4096, .i32⟩
  | .hbm, ⟨76, _⟩ => ⟨S_, .i32⟩
  | .hbm, ⟨77, _⟩ => ⟨S4096, .i32⟩
  | .hbm, ⟨78, _⟩ => ⟨S4096, .i1⟩
  | .hbm, ⟨79, _⟩ => ⟨S_, .i32⟩
  | .hbm, ⟨80, _⟩ => ⟨S4096, .i32⟩
  | .hbm, ⟨81, _⟩ => ⟨S4096, .i32⟩
  | .hbm, ⟨82, _⟩ => ⟨S4096, .i32⟩
  | .hbm, ⟨83, _⟩ => ⟨S4096x1, .i32⟩
  | .hbm, ⟨84, _⟩ => ⟨S4096x1, .i32⟩
  | .hbm, ⟨85, _⟩ => ⟨S4096x2, .i32⟩
  | .hbm, ⟨86, _⟩ => ⟨S4096x1024, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S2048x2x1024, .f32⟩
  | .hbm, ⟨91, _⟩ => ⟨S_, .f32⟩
  | .hbm, ⟨92, _⟩ => ⟨S8, .f32⟩
  | .hbm, ⟨93, _⟩ => ⟨S_, .i32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_c_3 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_9 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_c_12 : Ref sig .tc := ⟨.hbm, 93, rfl⟩

abbrev nD : Nat := 1
abbrev τ : Topo := Topo.v7x

variable {F : FTy → Type} [FloatOps F]
-- ==== Gather.lean ====
abbrev S5120x1024 : Shape := ⟨2, ![5120, 1024]⟩
abbrev S4096 : Shape := ⟨1, ![4096]⟩
abbrev S40960x128 : Shape := ⟨2, ![40960, 128]⟩
abbrev S4096x8 : Shape := ⟨2, ![4096, 8]⟩
abbrev S4096x1 : Shape := ⟨2, ![4096, 1]⟩
abbrev S_ : Shape := ⟨0, ![]⟩
abbrev S32768 : Shape := ⟨1, ![32768]⟩
abbrev S32768x128 : Shape := ⟨2, ![32768, 128]⟩
abbrev S512 : Shape := ⟨1, ![512]⟩
abbrev S512x128 : Shape := ⟨2, ![512, 128]⟩
abbrev S2048x2x1024 : Shape := ⟨3, ![2048, 2, 1024]⟩

abbrev nBuf : Table → Nat
  | .hbm => 13
  | .local .scVector .vmem => 2
  | _ => 0

abbrev bufTy : (tb : Table) → Fin (nBuf tb) → BufTy
  | .hbm, ⟨0, _⟩ => ⟨S5120x1024, .f32⟩
  | .hbm, ⟨1, _⟩ => ⟨S4096, .i32⟩
  | .hbm, ⟨2, _⟩ => ⟨S40960x128, .f32⟩
  | .hbm, ⟨3, _⟩ => ⟨S4096x8, .i32⟩
  | .hbm, ⟨4, _⟩ => ⟨S4096x1, .i32⟩
  | .hbm, ⟨5, _⟩ => ⟨S_, .i32⟩
  | .hbm, ⟨6, _⟩ => ⟨S4096x1, .i32⟩
  | .hbm, ⟨7, _⟩ => ⟨S4096x1, .i32⟩
  | .hbm, ⟨8, _⟩ => ⟨S4096x8, .i32⟩
  | .hbm, ⟨9, _⟩ => ⟨S4096x8, .i32⟩
  | .hbm, ⟨10, _⟩ => ⟨S32768, .i32⟩
  | .hbm, ⟨11, _⟩ => ⟨S32768x128, .f32⟩
  | .hbm, ⟨12, _⟩ => ⟨S2048x2x1024, .f32⟩
  | .local .scVector .vmem, ⟨0, _⟩ => ⟨S512, .i32⟩
  | .local .scVector .vmem, ⟨1, _⟩ => ⟨S512x128, .f32⟩
  | _, _ => ⟨S5120x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v0_scv : Ref sig .scVector := ⟨.hbm, 2, rfl⟩
abbrev main_v7_scv : Ref sig .scVector := ⟨.hbm, 10, rfl⟩
abbrev main_v8_scv : Ref sig .scVector := ⟨.hbm, 11, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2_i32_0 : BitVec 32 := 2#32
  let v3 : BitVec 32 := Scalar.addi c0_i32 c2_i32_0
  let c1_i32 : BitVec 32 := 1#32
  ⟨c0_i32, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let c0_i32 : BitVec 32 := 0#32
  let c1_i32 : BitVec 32 := 1#32
  let arg8 : BitVec 32 := Scf.iv c0_i32 c1_i32 k0_t1
  let c512_i32 : BitVec 32 := 512#32
  let v4 : BitVec 32 := Scalar.muli arg8 c512_i32
  let v5 : BitVec 32 := Scalar.addi c0_i32_2 v4
  let v6 : BitVec 32 := Scalar.addi v2 v5
  ![v6.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c0_i32_2 : BitVec 32 := 0#32
  let c0_i32 : BitVec 32 := 0#32
  let c1_i32 : BitVec 32 := 1#32
  let arg8 : BitVec 32 := Scf.iv c0_i32 c1_i32 k0_t1
  let c512_i32 : BitVec 32 := 512#32
  let v4 : BitVec 32 := Scalar.muli arg8 c512_i32
  let v5 : BitVec 32 := Scalar.addi c0_i32_2 v4
  let v9 : BitVec 32 := Scalar.addi v2 v5
  let c0_i32_7_r1 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S5120x1024 : Shape := ⟨2, ![5120, 1024]⟩
abbrev S4096 : Shape := ⟨1, ![4096]⟩
abbrev S_ : Shape := ⟨0, ![]⟩
abbrev S4096x1 : Shape := ⟨2, ![4096, 1]⟩
abbrev S4096x1024 : Shape := ⟨2, ![4096, 1024]⟩
abbrev S2048x2x1024 : Shape := ⟨3, ![2048, 2, 1024]⟩

abbrev nBuf : Space → Nat
  | .hbm => 12
  | .vmem => 0
  | .smem => 0
  | _ => 0

abbrev bufTy : (tb : Table) → Fin (tcTables nBuf tb) → BufTy
  | .hbm, ⟨0, _⟩ => ⟨S5120x1024, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S4096x1, .i32⟩
  | .hbm, ⟨10, _⟩ => ⟨S4096x1024, .f32⟩
  | .hbm, ⟨11, _⟩ => ⟨S2048x2x1024, .f32⟩
  | _, _ => ⟨S5120x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.GatherTile.lean ====
/-
  One tile of the SparseCore gather. The tile `(c, s)` owns 1024 rows of the output, in two chunks of 512. For each chunk
  it fetches the 512 row numbers, streams the named rows of the table into its row buffer and copies the buffer to the
  chunk. The loop keeps one fact about the output: the rows of the chunks already done hold the rows of the table that
  the list names (`gat`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.GatherIdeal
public import proofs.«01_k».proof.Proof.Gen.GatherIdeal.Skeleton

@[expose] public section

noncomputable section

namespace Cert.Proof.GatherTile

open Cert.GatherIdeal Cert.GatherIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The launch's set-up -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

/-- The table of rows, the list of row numbers, and the output. -/
abbrev yLoc (d : Dev nD) : Loc nD τ sig := (SparseCore.T d).loc main_v0
abbrev iLoc (d : Dev nD) : Loc nD τ sig := (SparseCore.T d).loc main_v7
abbrev oLoc (d : Dev nD) : Loc nD τ sig := (SparseCore.T d).loc main_v8

local notation "yV" => (Memref.whole Cert.GatherIdeal.main_v0_scv : Memref Cert.GatherIdeal.sig Kind.scVector Space.hbm Cert.GatherIdeal.S40960x128 EltTy.f32)
local notation "iV" => (Memref.whole Cert.GatherIdeal.main_v7_scv : Memref Cert.GatherIdeal.sig Kind.scVector Space.hbm Cert.GatherIdeal.S32768 EltTy.i32)
local notation "oV" => (Memref.whole Cert.GatherIdeal.main_v8_scv : Memref Cert.GatherIdeal.sig Kind.scVector Space.hbm Cert.GatherIdeal.S32768x128 EltTy.f32)
local notation "sV" => (Memref.whole Cert.GatherIdeal.cc0_scratch0 : Memref Cert.GatherIdeal.sig Kind.scVector Space.vmem Cert.GatherIdeal.S512 EltTy.i32)
local notation "rV" => (Memref.whole Cert.GatherIdeal.cc0_scratch1 : Memref Cert.GatherIdeal.sig Kind.scVector Space.vmem Cert.GatherIdeal.S512x128 EltTy.f32)

/-- The rows of the output that belong to band `n` of 1024 rows. -/
def band (n : ℕ) : Finset S32768x128.Idx := Finset.univ.filter fun i => (i 0).val / 1024 = n

theorem mem_band {n : ℕ} {i : S32768x128.Idx} : i ∈ band n ↔ (i 0).val / 1024 = n := by simp [band]

/-- What the gather leaves: row `r` of the output is the row of the table the list names at `r`. -/
def gat (fI : S32768.Idx → Elt F .i32) (fY : S40960x128.Idx → Elt F .f32) : S32768x128.Idx → Elt F .f32 :=
  fun i => fY (ix2 (n0 := 40960) (n1 := 128) ⟨(fI (ix1 (n := 32768) (i 0))).toNat % 40960, Nat.mod_lt _ (by decide)⟩ (i 1))

/-- A tile's share of the table and of the list: half for each core, then a sixteenth of that. -/
abbrev qT (c : Fin 2) (s : Fin 16) : PosShare TreeShare :=
  pieceOf (pieceOf fullShare 2 (by decide) c) 16 (by decide) s

section Tile

variable [FloatOps F]
variable (d : Dev nD) (L : grid0.Coords)
variable (fI : S32768.Idx → Elt F .i32) (fY : S40960x128.Idx → Elt F .f32)

abbrev cV (L : grid0.Coords) : Fin τ.nSC := (L 0).castLE hcore0
abbrev jV (L : grid0.Coords) : Fin τ.nSub := (L 1).castLE hsub0
/-- The tile's thread and its band. -/
abbrev thr (d : Dev nD) (L : grid0.Coords) : Thread nD τ := V d (cV L) (jV L)
abbrev bandOf (L : grid0.Coords) : Finset S32768x128.Idx := band (2 * (L 1).val + (L 0).val)

/-- The chunk a trip writes, and the part of the list it reads. -/
abbrev oCh (L : grid0.Coords) (k : Fin k0_t1_loop.trips) : Memref sig .scVector .hbm S512x128 .f32 :=
  (oV).slice (Rect.unit (s := S32768x128) (k0_off2 L k) S512x128.size (k0_off2_inb L k)) (fun _ => rfl)
abbrev iCh (L : grid0.Coords) (k : Fin k0_t1_loop.trips) : Memref sig .scVector .hbm S512 .i32 :=
  (iV).slice (Rect.unit (s := S32768) (k0_off1 L k) S512.size (k0_off1_inb L k)) (fun _ => rfl)
abbrev yAll : Memref sig .scVector .hbm S40960x128 .f32 :=
  (yV).slice (Rect.unit (s := S40960x128) ![0, 0] S40960x128.size inb_S40960x128_S40960x128_0_0) (fun _ => rfl)

omit [FloatOps F] in
theorem trips_eq : k0_t1_loop.trips = 2 := by decide

omit [FloatOps F] in
theorem core_lt : (L 0).val < 2 := (L 0).isLt
omit [FloatOps F] in
theorem sub_lt : (L 1).val < 16 := (L 1).isLt

omit [FloatOps F] in
theorem mem_oCh (k : Fin k0_t1_loop.trips) (i : S32768x128.Idx) :
    i ∈ (oCh L k).view.set ↔ 2048 * (L 1).val + 1024 * (L 0).val + 512 * k.val ≤ (i 0).val
      ∧ (i 0).val < 2048 * (L 1).val + 1024 * (L 0).val + 512 * k.val + 512 := by
  rw [show (oCh L k).view.set = (Rect.unit (s := S32768x128) (k0_off2 L k) S512x128.size (k0_off2_inb L k)).set from
    View.set_slice_whole _ _, Rect.mem_set_unit, k0_off2_eq]
  have h1 : (i 1).val < 128 := (i 1).isLt
  constructor
  · intro h; exact h 0
  · intro h a
    match a with
    | 0 => exact h
    | 1 => exact ⟨Nat.zero_le _, by show (i 1).val < 0 + 128; omega⟩

omit [FloatOps F] in
theorem oCh_subset (k : Fin k0_t1_loop.trips) : (oCh L k).view.set ⊆ bandOf L := by
  intro i hi
  rw [mem_oCh] at hi
  have hk : k.val < 2 := lt_of_lt_of_eq k.isLt trips_eq
  exact mem_band.mpr (by omega)

omit [FloatOps F] in
/-- Where element `x` of the chunk lies in the output. -/
theorem emb_oCh (k : Fin k0_t1_loop.trips) (x : S512x128.Idx) (h : 2048 * (L 1).val + 1024 * (L 0).val + 512 * k.val + (x 0).val < 32768) :
    (oCh L k).view.emb x = (ix2 (n0 := 32768) (n1 := 128) ⟨_, h⟩ (x 1) : S32768x128.Idx) := by
  refine funext fun a => Fin.ext ?_
  show (k0_off2 L k) a + 1 * (x a).val = _
  rw [k0_off2_eq, Nat.one_mul]
  match a with
  | 0 => rfl
  | 1 => exact Nat.zero_add _

omit [FloatOps F] in
theorem emb_iCh (k : Fin k0_t1_loop.trips) (x : S512.Idx) (h : 2048 * (L 1).val + 1024 * (L 0).val + 512 * k.val + (x 0).val < 32768) :
    (iCh L k).view.emb x = (ix1 (n := 32768) ⟨_, h⟩ : S32768.Idx) := by
  refine funext fun a => Fin.ext ?_
  show (k0_off1 L k) a + 1 * (x a).val = _
  rw [k0_off1_eq, Nat.one_mul]
  match a with
  | 0 => rfl

/-! ## What the tile holds -/

abbrev cA (d : Dev nD) (c : Fin τ.nSC) (i : Fin τ.nSub) : GSem nD τ sig := (V d c i, .dma cc0_scratch2.sem)
abbrev cB (d : Dev nD) (c : Fin τ.nSC) (i : Fin τ.nSub) : GSem nD τ sig := (V d c i, .dma cc0_scoped0.sem)
abbrev cC (d : Dev nD) (c : Fin τ.nSC) (i : Fin τ.nSub) : GSem nD τ sig := (V d c i, .dma cc0_scoped1.sem)

omit [FloatOps F] in
theorem ownSems0_V :
    (ownSems0 (thr d L) : sProp 𝕄)
      = iprop(semVal (cA d (cV L) (jV L)) 0 ∗ semVal (cB d (cV L) (jV L)) 0 ∗ semVal (cC d (cV L) (jV L)) 0
          ∗ bigSep ((((ownCells (thr d L)).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

omit [FloatOps F] in
/-- The tile's own buffers are its two scratch buffers, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the loop keeps before trip `k`: the output's band, with the rows of the first `k` chunks done; the shares of the
    table and of the list; the scratch buffers at some contents; the three counters at zero; the waits owed. -/
def inv (q : PosShare TreeShare) (O : CellTallies nD τ sig (HIx 1)) (W : Waits sig (HIx 1)) (k : Nat) (_ : PUnit) : sProp 𝕄 :=
  iprop(Transfers.MayWaits (thr d L) (none : HIx 1) O
    ∗ ((iV).view.loc (thr d L) ↦{q} fI)
    ∗ ((yV).view.loc (thr d L) ↦{q} fY)
    ∗ (∃ f, ⌜∀ i ∈ bandOf L, (i 0).val < 2048 * (L 1).val + 1024 * (L 0).val + 512 * k → f i = gat fI fY i⌝
        ∗ (oV).view.loc (thr d L) ↦[bandOf L]{fullShare} f)
    ∗ (∃ f, (sV).view.loc (thr d L) ↦{fullShare} f)
    ∗ (∃ f, (rV).view.loc (thr d L) ↦{fullShare} f)
    ∗ semVal (cA d (cV L) (jV L)) 0 ∗ semVal (cB d (cV L) (jV L)) 0 ∗ semVal (cC d (cV L) (jV L)) 0
    ∗ ∃ W', ⌜∀ p ∈ W', p ∈ W ∨ p.2 = none⌝ ∗ owes (thr d L) O W')

omit [FloatOps F] in
/-- The numbers the stream reads are in range: they are the fetched part of the list. -/
theorem in_range (hI : ∀ j, (fI j).toNat < 40960) (k : Fin k0_t1_loop.trips) (fs : Buf (Elt F) ((thr d L).loc cc0_scratch0)) (pay : S512.Idx → Elt F .i32)
    (hpay : pay = (iCh L k).view.read (Elt F) fI) :
    ∀ x, ((sV).view.read (Elt F) (View.write (Elt F) (sV).view fs pay Finset.univ) x).toNat < S40960x128.size gathers_S40960x128_S512x128.axis := by
  subst hpay; intro x
  rw [View.write_whole_univ]
  simp only [Memref.view_whole, View.read_whole]
  rw [show ∀ j, (iCh L k).view.read (Elt F) fI j = fI ((iCh L k).view.emb j) from fun j => (View.read_apply _ _).trans (cast_eq _ _)]
  exact hI _

omit [FloatOps F] in
/-- What the row buffer holds after the stream, element by element: the output's element of the chunk. -/
theorem row_val (hI : ∀ j, (fI j).toNat < 40960) (k : Fin k0_t1_loop.trips) (fs : Buf (Elt F) ((thr d L).loc cc0_scratch0))
    (fr : Buf (Elt F) ((thr d L).loc cc0_scratch1)) (hn : S512.numel = S512x128.size gathers_S40960x128_S512x128.axis') (hin) (x : S512x128.Idx) :
    (rV).view.read (Elt F) (View.write (Elt F) (rV).view fr (SparseCore.gatherPayload (F := F) (e := .f32) gathers_S40960x128_S512x128 ((yAll).view.read (Elt F) fY)
      (SparseCore.rows (F := F) ((sV).view.read (Elt F) (View.write (Elt F) (sV).view fs ((iCh L k).view.read (Elt F) fI) Finset.univ)) hn hin)) Finset.univ) x
      = gat fI fY ((oCh L k).view.emb x) := by
  have hk : k.val < 2 := lt_of_lt_of_eq k.isLt trips_eq
  have hc : (L 0).val < 2 := (L 0).isLt
  have hs : (L 1).val < 16 := (L 1).isLt
  have hx0 : (x 0).val < 512 := (x 0).isLt
  have hb : 2048 * (L 1).val + 1024 * (L 0).val + 512 * k.val + (x 0).val < 32768 := by omega
  rw [View.write_whole_univ, emb_oCh L k x hb]
  simp only [Memref.view_whole, View.read_whole]
  unfold SparseCore.gatherPayload gat
  rw [View.read_apply, cast_eq]
  congr 1
  have hsym : S512.rowMajor.symm ((x 0).cast hn.symm) = (ix1 (n := 512) (x 0) : S512.Idx) :=
    (Equiv.symm_apply_eq _).mpr (Fin.ext (by rw [Shape.rowMajor_val_one]; rfl))
  refine funext fun a => Fin.ext ?_
  match a with
  | 0 =>
    show 0 + 1 * (Shape.Gathers.idx _ _ x gathers_S40960x128_S512x128.axis).val = _
    rw [Shape.Gathers.idx_axis]
    show 0 + 1 * ((View.write (Elt F) (View.whole cc0_scratch0) fs ((iCh L k).view.read (Elt F) fI) Finset.univ
      (S512.rowMajor.symm ((x 0).cast hn.symm)) : Elt F .i32).toNat) = _
    rw [hsym, View.write_whole_univ, View.read_apply, cast_eq, emb_iCh L k (ix1 (n := 512) (x 0)) hb, Nat.zero_add, Nat.one_mul]
    exact (Nat.mod_eq_of_lt (hI _)).symm
  | 1 =>
    show 0 + 1 * (Shape.Gathers.idx _ _ x 1).val = _
    rw [Shape.Gathers.idx_of_ne _ _ _ _ (by decide)]
    simp
    rfl

set_option maxHeartbeats 4000000 in
theorem tile_body (hF : (K (F := F)).Facts) (hI : ∀ j, (fI j).toNat < 40960) (q : PosShare TreeShare) (fO : S32768x128.Idx → Elt F .f32)
    (O : CellTallies nD τ sig (HIx 1)) (W : Waits sig (HIx 1)) (hO : ∀ g, O g none = 0) :
    iprop(levAts (K (F := F)).L (K (F := F)).lev ∗ emp
        ∗ ((iLoc d ↦{q} fI : sProp 𝕄) ∗ (yLoc d ↦{q} fY) ∗ oLoc d ↦[bandOf L]{fullShare} fO)
        ∗ scopedBufs (thr d L) ∗ scopedSems0 (thr d L) ∗ owes (thr d L) O W)
      ⊢ wp frame (wpE (defs₀ (F := F)) 𝒱₀ (thr d L) none) Set.univ
          (cc0_run L yV (Memref.isWhole_whole _) iV (Memref.isWhole_whole _) oV (Memref.isWhole_whole _)
            sV (Memref.isWhole_whole _) rV (Memref.isWhole_whole _) cc0_scratch2 cc0_scoped0 cc0_scoped1)
          fun _ => iprop(((iLoc d ↦{q} fI : sProp 𝕄) ∗ (yLoc d ↦{q} fY) ∗ oLoc d ↦[bandOf L]{fullShare} gat fI fY)
            ∗ scopedBufs (thr d L) ∗ scopedSems0 (thr d L)
            ∗ ∃ W', ⌜∀ p ∈ W', p ∈ W ∨ p.2 = none⌝ ∗ owes (thr d L) O W') := by
  simp only [cc0_run_eq_skeleton]; unfold cc0_run_skel
  rw [(K (F := F)).scopedBufs_V hF d (cV L) (jV L), SparseCore.Cfg.scopedSems0_V (Val := Elt F) d (cV L) (jV L), ownSems0_V, ownBufs_V]
  iintro ⟨#Hlv, -, ⟨Hi, Hy, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  sl_for (inv d L fI fY q O W) $$ [Hmw Hi Hy Ho Hs Hr HsemA HsemB HsemC HO]
  case region =>
    intro k _
    unfold inv
    iintro ⟨#Hmw, Hi, Hy, ⟨%f, %hf, Ho⟩, ⟨%fs, Hs⟩, ⟨%fr, Hr⟩, HsemA, HsemB, HsemC, %W', %hW', HO⟩
    ihave Hoc := (pointsTo_split_subset (q := fullShare) (f := f) (oCh_subset L k)).1 $$ Ho
    icases Hoc with ⟨Hoc, Hor⟩
    ihave Hoc' := (show _ ⊢ ((oCh L k).view.loc (thr d L) ↦[(oCh L k).view.set]{fullShare} f : sProp 𝕄) from .rfl) $$ Hoc
    sl_exec (disch := exact View.amount_pos _ _ (show 0 < S512.numel by decide))
    ihave Hys := (pointsTo_split_subset (q := q) (f := fY) (S := Finset.univ) (Finset.subset_univ (yAll).view.set)).1 $$ Hy
    icases Hys with ⟨Hys, Hyr⟩
    have hrs : (rV).view.set = Finset.univ := View.set_whole _
    have hss : (sV).view.set = Finset.univ := View.set_whole _
    ihave Hr'' := (Entails.of_eq (show ((rV).view.loc (thr d L) ↦{fullShare} fr : sProp 𝕄)
        = (rV).view.loc (thr d L) ↦[(rV).view.set]{fullShare} fr by rw [hrs])) $$ Hr
    ihave Hs'' := (Entails.of_eq (show ((sV).view.loc (thr d L) ↦{fullShare} View.write (Elt F) (sV).view fs (tile_body.sl.dma0 L fI k) Finset.univ : sProp 𝕄)
        = (sV).view.loc (thr d L) ↦[(sV).view.set]{fullShare} View.write (Elt F) (sV).view fs (tile_body.sl.dma0 L fI k) Finset.univ
        by rw [hss])) $$ Hs
    have hN : ∀ h : S40960x128.Gathers 0 S512x128, ∑ j, ((rV).slice (S512x128.rowRect h.axis' j) (S512x128.stride_rowRect h.axis' j)).view.dmaCredit
        = (rV).view.dmaCredit := by decide +kernel
    iapply (SparseCore.wp_indirectGatherLocal countersEmb 𝒱₀ (thr d L) none (hg := gathers_S40960x128_S512x128) (default : HIx 1)
        (rV).view.dmaCredit (hN _) (by decide) (in_range d L fI hI k fs _ rfl)) $$ [Hys Hr'' Hs'' HsemA]
    · isplitl [Hys]; · iexact Hys
      isplitl [Hr'']; · iexact Hr''
      isplitl [Hs'']; · iexact Hs''
      iexact HsemA
    iintro Hfl
    sl_exec
    iapply (Transfers.wp_waitLocalO countersEmb 𝒱₀ (thr d L) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr, Hys, Hs⟩, HsemA, HO⟩
    ihave Hy := (pointsTo_split_subset (ℓ := (yV).view.loc (thr d L)) (q := q) (f := fY) (S := Finset.univ) (Finset.subset_univ (yAll).view.set)).2 $$ [Hys Hyr]; · isplitl [Hys] <;> iassumption
    ihave Hr3 := (Entails.of_eq (show ((rV).view.loc (thr d L) ↦[(rV).view.set]{fullShare} _ : sProp 𝕄)
        = (rV).view.loc (thr d L) ↦{fullShare} _ by rw [hrs])) $$ Hr
    ihave Hs3 := (Entails.of_eq (show ((sV).view.loc (thr d L) ↦[(sV).view.set]{fullShare} _ : sProp 𝕄)
        = (sV).view.loc (thr d L) ↦{fullShare} _ by rw [hss])) $$ Hs
    sl_exec (disch := exact View.amount_pos _ _ (show 0 < S512x128.numel by decide))
    sl_step
    have hrd : ∀ x, ((oCh L k).view.writes (Elt F) f [⟨Rect.whole S512x128, tile_body.sl.dma0_1 d L fI fY hI k fs fr⟩]) ((oCh L k).view.emb x)
        = gat fI fY ((oCh L k).view.emb x) := fun x =>
      (congrFun (View.read_writes_whole (oCh L k).view f _) x).trans (row_val d L fI fY hI k fs fr _ _ x)
    let g : S32768x128.Idx → Elt F .f32 := fun i => if i ∈ (oCh L k).view.set then gat fI fY i else f i
    ihave Hoc := (Entails.of_eq (pointsTo_congr (ℓ := (oV).view.loc (thr d L)) (I := (oCh L k).view.set) (q := fullShare) (g := g) (fun i hi => by
        obtain ⟨x, -, rfl⟩ := Finset.mem_map.mp hi
        exact (hrd x).trans (if_pos hi).symm))) $$ Hoc'
    ihave Hor' := (Entails.of_eq (pointsTo_congr (ℓ := (oV).view.loc (thr d L)) (I := bandOf L \ (oCh L k).view.set) (q := fullShare) (g := g) (fun i hi =>
        (if_neg (Finset.mem_sdiff.mp hi).2).symm))) $$ Hor
    ihave Ho := (pointsTo_split_subset (ℓ := (oV).view.loc (thr d L)) (q := fullShare) (f := g) (oCh_subset L k)).2 $$ [Hoc Hor']; · isplitl [Hoc] <;> iassumption
    isplitr; · iexact Hmw
    isplitl [Hi]; · iexact Hi
    isplitl [Hy]; · iexact Hy
    isplitl [Ho]
    · iexists g; isplitr
      · ipureintro; intro i hi hlt
        by_cases hm : i ∈ (oCh L k).view.set
        · exact if_pos hm
        · rw [mem_oCh] at hm
          refine (if_neg (by rw [mem_oCh]; exact hm)).trans (hf i hi ?_)
          omega
      · iexact Ho
    isplitl [Hs3]; · iexists _; iexact Hs3
    isplitl [Hr3]; · iexists _; iexact Hr3
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi]; · iexact Hi
    isplitl [Hy]; · iexact Hy
    isplitl [Ho]
    · iexists fO; isplitr
      · ipureintro; intro i hi hlt
        have hi' := mem_band.mp hi
        omega
      · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hi, Hy, ⟨%f, %hf, Ho⟩, ⟨%fs, Hs⟩, ⟨%fr, Hr⟩, HsemA, HsemB, HsemC, %W', %hW', HO⟩
  sl_exec
  sl_step
  isplitl [Hi Hy Ho]
  · isplitl [Hi]; · iexact Hi
    isplitl [Hy]; · iexact Hy
    iapply (Entails.of_eq (pointsTo_congr (ℓ := (oV).view.loc (thr d L)) (I := bandOf L) (q := fullShare) (g := gat fI fY) (fun i hi => hf i hi (by
        have hi' := mem_band.mp hi
        have ht : Scf.trips k0_t1_loop.lb k0_t1_loop.ub k0_t1_loop.st = 2 := trips_eq
        rw [ht]
        omega)))) $$ Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.GatherTile

end
-- ==== Proof.GatherRun.lean ====
/-
  The run of the whole gather program: the host operations before the call, the SparseCore call, the reshape after it. At
  the end every host buffer is at `V3`, a valuation written out by the program's own operations and `gat`.
-/
module

public import proofs.«01_k».proof.Proof.GatherTile
public import Idealize.ShloMosaic.Lib.Pipeline.Frame

@[expose] public section

noncomputable section

namespace Cert.Proof.GatherRun

open Cert.GatherIdeal Cert.GatherIdeal.Gen Cert.Proof.GatherTile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held sub_ucRefs)
open Idealize.ShloMosaic.StableHlo (held after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

/-- Before the call: the table as rows of 128, the list of row numbers. -/
abbrev ops1 : List (HloOp τ sig (Elt F)) :=
  [StableHlo.reshape main_arg0 main_v0 (rfl : (.f32 : EltTy) = .f32) shapeCasts_S5120x1024_S40960x128,
   StableHlo.nullary main_v1 (iotaInDim S4096x8 32 1),
   StableHlo.unary main_arg1 main_v2 (broadcastInDim S4096x1 ![0] bcast_S4096_S4096x1_0 : (⟨S4096, .i32⟩ : BufTy).Contents (Elt F) → (⟨S4096x1, .i32⟩ : BufTy).Contents (Elt F)),
   StableHlo.nullary main_c (constantI S_ 32 8#32),
   StableHlo.unary main_c main_v3 (broadcastInDim S4096x1 ![] bcast_S_S4096x1 : (⟨S_, .i32⟩ : BufTy).Contents (Elt F) → (⟨S4096x1, .i32⟩ : BufTy).Contents (Elt F)),
   StableHlo.binary main_v2 main_v3 main_v4 (muli : (⟨S4096x1, .i32⟩ : BufTy).Contents (Elt F) → (⟨S4096x1, .i32⟩ : BufTy).Contents (Elt F) → (⟨S4096x1, .i32⟩ : BufTy).Contents (Elt F)),
   StableHlo.unary main_v4 main_v5 (broadcastInDim S4096x8 ![0, 1] bcast_S4096x1_S4096x8_0_1 : (⟨S4096x1, .i32⟩ : BufTy).Contents (Elt F) → (⟨S4096x8, .i32⟩ : BufTy).Contents (Elt F)),
   StableHlo.binary main_v5 main_v1 main_v6 (addi : (⟨S4096x8, .i32⟩ : BufTy).Contents (Elt F) → (⟨S4096x8, .i32⟩ : BufTy).Contents (Elt F) → (⟨S4096x8, .i32⟩ : BufTy).Contents (Elt F)),
   StableHlo.reshape main_v6 main_v7 (rfl : (.i32 : EltTy) = .i32) shapeCasts_S4096x8_S32768]

/-- After the call. -/
abbrev ops2 : List (HloOp τ sig (Elt F)) :=
  [StableHlo.reshape main_v8 main_v9 (rfl : (.f32 : EltTy) = .f32) shapeCasts_S32768x128_S2048x2x1024]

theorem main_eq (d : Dev nD) : main (F := F) d = (StableHlo.seq ops1 >>= fun _ => sc.run d 0 >>= fun _ => StableHlo.seq ops2 >>= fun _ => pure ⟨⟩) := by
  simp only [StableHlo.seq_bind_seqK]; rfl

theorem ops1_bufs : ∀ op ∈ ops1 (F := F), op.bufs ⊆ ucRefs τ sig := by
  intro op h
  refine sub_ucRefs op ?_
  revert op h
  rw [← List.forall_iff_forall_mem]
  simp only [ops1, List.Forall, StableHlo.reshape_bufs, StableHlo.nullary_bufs, StableHlo.unary_bufs, StableHlo.binary_bufs]
  decide
theorem ops1_fresh : ∀ op ∈ ops1 (F := F), op.fresh = ∅ := by
  intro _ h; (repeat (cases h with | head => rfl | tail _ h => ?_)); exact nomatch h
theorem ops2_bufs : ∀ op ∈ ops2 (F := F), op.bufs ⊆ ucRefs τ sig := by
  intro op h
  refine sub_ucRefs op ?_
  revert op h
  rw [← List.forall_iff_forall_mem]
  simp only [ops2, List.Forall, StableHlo.reshape_bufs, StableHlo.nullary_bufs, StableHlo.unary_bufs, StableHlo.binary_bufs]
  decide
theorem ops2_fresh : ∀ op ∈ ops2 (F := F), op.fresh = ∅ := by
  intro _ h; (repeat (cases h with | head => rfl | tail _ h => ?_)); exact nomatch h

/-- The device's buffers at the call, after it, and at the end. -/
abbrev V1 (d : Dev nD) : Valuation τ sig (Elt F) := after ops1 (fun b => m (d, b))
abbrev cI (d : Dev nD) : S32768.Idx → Elt F .i32 := V1 m d (Proc.devRef .tc main_v7)
abbrev cY (d : Dev nD) : S40960x128.Idx → Elt F .f32 := V1 m d (Proc.devRef .tc main_v0)
def V2 (d : Dev nD) : Valuation τ sig (Elt F) := Function.update (V1 m d) (Proc.devRef .tc main_v8) (gat (cI m d) (cY m d))
abbrev V3 (d : Dev nD) : Valuation τ sig (Elt F) := after ops2 (V2 m d)

/-! ## Dividing the arrays over the tiles -/

abbrev qC (c : Fin 2) : PosShare TreeShare := pieceOf fullShare 2 (by decide) c

theorem band_cover (i : S32768x128.Idx) : i ∈ Finset.univ.biUnion fun p : Fin 2 × Fin 16 => band (2 * p.2.val + p.1.val) := by
  have hi : (i 0).val < 32768 := (i 0).isLt
  have e : (i 0).val / 1024 = 2 * ((i 0).val / 1024 / 2) + (i 0).val / 1024 % 2 := by omega
  rw [Finset.mem_biUnion]
  exact ⟨(⟨(i 0).val / 1024 % 2, by omega⟩, ⟨(i 0).val / 1024 / 2, by omega⟩), Finset.mem_univ _, mem_band.mpr e⟩

theorem band_disjoint (p p' : Fin 2 × Fin 16) (hne : p ≠ p') : Disjoint (band (2 * p.2.val + p.1.val)) (band (2 * p'.2.val + p'.1.val)) := by
  refine Finset.disjoint_left.mpr fun i hi hi' => hne ?_
  have h1 := mem_band.mp hi
  have h2 := mem_band.mp hi'
  have e1 := p.1.isLt
  have e2 := p'.1.isLt
  exact Prod.ext (Fin.ext (by omega)) (Fin.ext (by omega))

omit [FloatOps F] in
theorem oPts_bands (d : Dev nD) (f : Buf (Elt F) (oLoc d)) :
    (oLoc d ↦{fullShare} f : sProp 𝕄)
      = bigSep Finset.univ fun c : Fin 2 => bigSep Finset.univ fun s : Fin 16 => oLoc d ↦[band (2 * s.val + c.val)]{fullShare} f := by
  rw [← bigSep_univ_prod (fun p : Fin 2 × Fin 16 => (oLoc d ↦[band (2 * p.2.val + p.1.val)]{fullShare} f : sProp 𝕄)),
    ← pointsTo_biUnion Finset.univ (ℓ := oLoc d) (fun p : Fin 2 × Fin 16 => band (2 * p.2.val + p.1.val)) fun p _ p' _ h => band_disjoint p p' h,
    show (Finset.univ.biUnion fun p : Fin 2 × Fin 16 => band (2 * p.2.val + p.1.val)) = Finset.univ from Finset.eq_univ_of_forall band_cover]

/-! ## What the call carries -/

abbrev c2 (c : Fin ((K (F := F)).nCore 0)) : Fin 2 := Fin.cast (rfl : (K (F := F)).nCore 0 = 2) c
abbrev s16 (s : Fin ((K (F := F)).nSub 0)) : Fin 16 := Fin.cast (rfl : (K (F := F)).nSub 0 = 16) s

abbrev corePts (d : Dev nD) (c : Fin 2) (f : Buf (Elt F) (oLoc d)) : sProp 𝕄 :=
  iprop((iLoc d ↦{qC c} cI m d) ∗ (yLoc d ↦{qC c} cY m d) ∗ bigSep Finset.univ fun s : Fin 16 => oLoc d ↦[band (2 * s.val + c.val)]{fullShare} f)
abbrev tilePts (d : Dev nD) (c : Fin 2) (s : Fin 16) (f : Buf (Elt F) (oLoc d)) : sProp 𝕄 :=
  iprop((iLoc d ↦{qT c s} cI m d) ∗ (yLoc d ↦{qT c s} cY m d) ∗ oLoc d ↦[band (2 * s.val + c.val)]{fullShare} f)

/-- The output before the call and after it. -/
abbrev o1 (d : Dev nD) : Buf (Elt F) (oLoc d) := V1 m d (Proc.devRef .tc main_v8)
abbrev o2 (d : Dev nD) : Buf (Elt F) (oLoc d) := gat (cI m d) (cY m d)

def P : (K (F := F)).Pay (nD := nD) (Val := Elt F) (Name := ℕ) (U := UU) where
  st := fun q d c => match q with | 0 => corePts m d (c2 c) (o1 m d)
  dn := fun q d c => match q with | 0 => corePts m d (c2 c) (o2 m d)
  go := fun q d c i => match q with | 0 => tilePts m d (c2 c) (s16 i) (o1 m d)
  td := fun q d c i => match q with | 0 => tilePts m d (c2 c) (s16 i) (o2 m d)
  x := fun _ _ => iprop(emp)

instance P_storable : (P (F := F) m).IsStorable where
  st q d c := match q with | 0 => (inferInstance : BI.Storable (upEmb : UEmb _ 𝕄) (corePts m d (c2 c) (o1 m d)))
  dn q d c := match q with | 0 => (inferInstance : BI.Storable (upEmb : UEmb _ 𝕄) (corePts m d (c2 c) (o2 m d)))
  go q d c i := match q with | 0 => (inferInstance : BI.Storable (upEmb : UEmb _ 𝕄) (tilePts m d (c2 c) (s16 i) (o1 m d)))
  td q d c i := match q with | 0 => (inferInstance : BI.Storable (upEmb : UEmb _ 𝕄) (tilePts m d (c2 c) (s16 i) (o2 m d)))

omit [FloatOps F] in
theorem core_tiles (d : Dev nD) (c : Fin 2) (f : Buf (Elt F) (oLoc d)) (fI : Buf (Elt F) (iLoc d)) (fY : Buf (Elt F) (yLoc d)) :
    (iprop((iLoc d ↦{qC c} fI) ∗ (yLoc d ↦{qC c} fY) ∗ bigSep Finset.univ fun s : Fin 16 => oLoc d ↦[band (2 * s.val + c.val)]{fullShare} f) : sProp 𝕄)
      = bigSep Finset.univ fun s : Fin 16 => iprop((iLoc d ↦{qT c s} fI) ∗ (yLoc d ↦{qT c s} fY) ∗ oLoc d ↦[band (2 * s.val + c.val)]{fullShare} f) := by
  rw [bigSep_sep', bigSep_sep', pointsTo_piecesOf Finset.univ fI (o := 16) (by decide) (qC c), pointsTo_piecesOf Finset.univ fY (o := 16) (by decide) (qC c)]

theorem vecSplit : (K (F := F)).VecSplit' (P m) 0 := by
  intro d c
  show corePts m d (c2 c) (o1 m d) ⊢ |={Set.univ}=> iprop(
      (bigSep Finset.univ fun i : Fin ((K (F := F)).nSub 0) => tilePts m d (c2 c) (s16 i) (o1 m d))
      ∗ ((bigSep Finset.univ fun i : Fin ((K (F := F)).nSub 0) => tilePts m d (c2 c) (s16 i) (o2 m d)) -∗ corePts m d (c2 c) (o2 m d)))
  have h : ∀ f, (bigSep Finset.univ fun i : Fin ((K (F := F)).nSub 0) => tilePts m d (c2 c) (s16 i) f) = corePts m d (c2 c) f := fun f =>
    (core_tiles d (c2 c) f (cI m d) (cY m d)).symm
  rw [h, h]
  iintro H; imodintro
  isplitl [H]; · iexact H
  iintro H; iexact H

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_run (coordsV c s)
          (Memref.whole main_v0_scv) (Memref.isWhole_whole _) (Memref.whole main_v7_scv) (Memref.isWhole_whole _) (Memref.whole main_v8_scv) (Memref.isWhole_whole _)
          (Memref.whole cc0_scratch0) (Memref.isWhole_whole _) (Memref.whole cc0_scratch1) (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the run asks of the launch memory: the list's numbers name rows of the table. -/
def InRows : Prop := ∀ (d : Dev nD) (j : S32768.Idx), (cI m d j).toNat < 40960

set_option maxRecDepth 16384 in
theorem tileObl (hF : (K (F := F)).Facts) (hpre : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (cI m d) (cY m d) hF (hpre d) (qT (c2 c) (s16 i)) (o1 m d) O W hO).trans
    (wp_mono frame _ _ fun _ => obl_post)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

/-- The call's three arrays among the host's buffers. -/
def arrs : Finset (DevRef τ sig) := {Proc.devRef .tc main_v7, Proc.devRef .tc main_v0, Proc.devRef .tc main_v8}
theorem arrs_sub : arrs ⊆ ucRefs τ sig := by decide

omit [FloatOps F] in
theorem held_arrs (d : Dev nD) (W : Valuation τ sig (Elt F)) :
    (held (d.tc : Thread nD τ) arrs W : sProp 𝕄)
      = iprop((iLoc d ↦{fullShare} W (Proc.devRef .tc main_v7)) ∗ (yLoc d ↦{fullShare} W (Proc.devRef .tc main_v0)) ∗ oLoc d ↦{fullShare} W (Proc.devRef .tc main_v8)) := by
  unfold held arrs
  rw [SparseCore.bigSep_insert' (by decide), SparseCore.bigSep_insert' (by decide), bigSep_singleton]

omit [FloatOps F] in
theorem held_cores (d : Dev nD) (fI : Buf (Elt F) (iLoc d)) (fY : Buf (Elt F) (yLoc d)) (f : Buf (Elt F) (oLoc d)) :
    (iprop((iLoc d ↦{fullShare} fI) ∗ (yLoc d ↦{fullShare} fY) ∗ oLoc d ↦{fullShare} f) : sProp 𝕄)
      = bigSep Finset.univ fun c : Fin 2 => iprop((iLoc d ↦{qC c} fI) ∗ (yLoc d ↦{qC c} fY) ∗ bigSep Finset.univ fun s : Fin 16 => oLoc d ↦[band (2 * s.val + c.val)]{fullShare} f) := by
  rw [bigSep_sep', bigSep_sep', ← oPts_bands, pointsTo_piecesOf Finset.univ fI (o := 2) (by decide) fullShare, pointsTo_piecesOf Finset.univ fY (o := 2) (by decide) fullShare]

theorem V2_eq (d : Dev nD) : V2 m d (Proc.devRef .tc main_v8) = o2 m d := by
  unfold V2; exact Function.update_self ..
theorem V2_ne (d : Dev nD) (b : DevRef τ sig) (h : b ≠ Proc.devRef .tc main_v8) : V2 m d b = V1 m d b := by
  unfold V2; exact Function.update_of_ne h ..

abbrev FIN (d : Dev nD) : sProp 𝕄 := held (d.tc : Thread nD τ) (ucRefs τ sig) (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  have hub : (unscopedBufs d (fun b => m ((SparseCore.T d : Thread nD τ).loc b)) : sProp 𝕄) = held (d.tc : Thread nD τ) (ucRefs τ sig) (fun b => m (d, b)) :=
    unscopedBufs_held d (fun b => m (d, b))
  rw [hub]
  iintro ⟨#Hctx, Hst, ⟨Hb, Hh, Hts, -⟩, -⟩
  iapply (StableHlo.wp_seq 𝒱 none Set.univ d (ucRefs τ sig) _ ops1 ops1_bufs ops1_fresh (fun b => m (d, b))) $$ [Hb Hh]
  · isplitl [Hb] <;> iassumption
  iintro ⟨Hb, Hh⟩
  ihave Hh' := (Entails.of_eq (StableHlo.held_sub_split (Ix := HIx 1) (Name := ℕ) (U := UU) (Lvl := ℕ) (d.tc : Thread nD τ) arrs_sub (V1 m d))) $$ Hh
  icases Hh' with ⟨Ha, Hr⟩
  ihave Ha' := (Entails.of_eq ((held_arrs d (V1 m d)).trans (held_cores d _ _ _))) $$ Ha
  rw [wp_bind]
  iapply ((K (F := F)).wp_run (D (F := F)) 𝒱 (EH := EH) (P := P m) κ d 0) $$ [Hst Ha' Hb Hts Hr]
  isplitr; · iexact Hctx
  isplitl [Hst]; · iexact Hst
  isplitl [Ha']; · iexact Ha'
  iintro ⟨Hst, Hdn⟩
  ihave Ha := (show (bigSep Finset.univ fun c : Fin ((K (F := F)).nCore 0) => (P m).dn 0 d c) ⊢ (held (d.tc : Thread nD τ) arrs (V2 m d) : sProp 𝕄) from
    Entails.of_eq (by
      rw [held_arrs, V2_eq, V2_ne m d _ (by decide), V2_ne m d _ (by decide)]
      exact (held_cores d (cI m d) (cY m d) (o2 m d)).symm)) $$ Hdn
  ihave Hr' := (Entails.of_eq (StableHlo.held_congr (Ix := HIx 1) (Name := ℕ) (U := UU) (Lvl := ℕ) (d.tc : Thread nD τ) (V := V1 m d) (V' := V2 m d) (fun b hb =>
    (V2_ne m d b (fun e => (Finset.mem_sdiff.mp hb).2 (e ▸ by decide))).symm))) $$ Hr
  ihave Hh := (Entails.of_eq (StableHlo.held_sub_split (Ix := HIx 1) (Name := ℕ) (U := UU) (Lvl := ℕ) (d.tc : Thread nD τ) arrs_sub (V2 m d)).symm) $$ [Ha Hr']
  · isplitl [Ha] <;> iassumption
  iapply (StableHlo.wp_seq 𝒱 none Set.univ d (ucRefs τ sig) _ ops2 ops2_bufs ops2_fresh (V2 m d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-! ## The run -/

def fq (d : Dev nD) (s' : Phys nD τ sig (Elt F)) : Prop := ∀ b ∈ ucRefs τ sig, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- Every host buffer ends at `V3`, every counter at zero. -/
def QC : PUnit × MemSt nD τ sig (Elt F) → Prop := fun r => (∀ d : Dev nD, ∀ b ∈ ucRefs τ sig, r.2.mem (d, b) = V3 m d b) ∧ r.2.sem = fun _ => 0

theorem run_main [∀ e, Nonempty (Elt F e)] (hpre : InRows m) :
    θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.GatherRun

end
-- ==== Proof.GatherValue.lean ====
/-
  What the gather program leaves: row `t` of the result is the table's row `dest t`. The reference takes the same rows.
-/
module

public import proofs.«01_k».proof.Proof.GatherRun
public import proofs.«01_k».proof.Proof.Gen.Pre_dest_in_rows
public import Idealize.ShloMosaic.Lib.Pointwise
public import Idealize.ShloMosaic.Lib.StableHlo.ReadAt
public import Idealize.ShloMosaic.Lib.Tactic.WordOmega
public import Idealize.ShloMosaic.Lib.ReduceAll

@[expose] public section

noncomputable section

namespace Cert.Proof.GatherValue

open Cert.GatherIdeal Cert.GatherIdeal.Gen Cert.Proof.GatherTile Cert.Proof.GatherRun

open Idealize.ShloMosaic
open Idealize.SL.Sem
open Idealize.ShloMosaic.StableHlo (held after)

variable {F : FTy → Type} [FloatOps F]

variable (m : (ℓ : Loc nD τ sig) → Buf (Elt F) ℓ)

/-- The arguments. -/
abbrev ys (d : Dev nD) : S5120x1024.Idx → F .f32 := m (d.tc.loc main_arg0)
abbrev dst (d : Dev nD) : S4096.Idx → BitVec 32 := m (d.tc.loc main_arg1)

/-- Every row number is one of the table's. -/
theorem dest_lt {d : Dev nD} (h : Cert.Pre_dest_in_rows.fn (F := F) (ys m d) (dst m d) = fun _ => 1#1) (t : S4096.Idx) :
    (dst m d t).toNat < 5120 := by
  have h0 := congrFun h ix0
  unfold Cert.Pre_dest_in_rows.fn at h0
  have h1 := Host.reduce_andi_all _ _ _ _ _ h0 t
  pointwise at h1
  word_omega

/-- The list of rows of 128: entry `8t + j` is `8 · dest t + j`. -/
theorem cI_at (d : Dev nD) (j : Fin 32768) :
    cI m d (ix1 j) = IntOp.addi (IntOp.muli (dst m d (ix1 ⟨j.val / 8, by omega⟩)) 8#32) (BitVec.ofNat 32 (j.val % 8)) := by
  show after ops1 _ _ _ = _
  unfold ops1
  after_reads_at

theorem cI_nat {d : Dev nD} (h : ∀ t, (dst m d t).toNat < 5120) (j : Fin 32768) :
    (cI m d (ix1 j)).toNat = (dst m d (ix1 ⟨j.val / 8, by omega⟩)).toNat * 8 + j.val % 8 := by
  rw [cI_at]
  have := h (ix1 ⟨j.val / 8, by omega⟩)
  have := Nat.mod_lt j.val (by omega : 0 < 8)
  unfold IntOp.addi IntOp.muli
  simp only [BitVec.toNat_add, BitVec.toNat_mul, BitVec.toNat_ofNat]
  omega

theorem inRows (h : ∀ d t, (dst m d t).toNat < 5120) : InRows m := by
  intro d j
  idx_vars j
  rw [cI_nat m (h d)]
  have := h d (ix1 ⟨j0.val / 8, by omega⟩)
  omega

/-- The table as rows of 128: row `8r + k` is columns `128k …` of row `r`. -/
theorem cY_at (d : Dev nD) (r : Fin 40960) (l : Fin 128) :
    cY m d (ix2 r l) = ys m d (ix2 ⟨r.val / 8, by omega⟩ ⟨r.val % 8 * 128 + l.val, by omega⟩) := by
  show after ops1 _ _ _ = _
  unfold ops1
  after_reads_at

/-- The rows the program returns. -/
def rows (y : S5120x1024.Idx → F .f32) (dst : S4096.Idx → BitVec 32) : S2048x2x1024.Idx → F .f32 := fun i =>
  y (ix2 ⟨(dst (ix1 ⟨2 * (i 0).val + (i 1).val, by have := (i 0).isLt; have := (i 1).isLt; simp at *; omega⟩)).toNat % 5120, by omega⟩ (i 2))

theorem V3_out {d : Dev nD} (h : ∀ t, (dst m d t).toNat < 5120) : V3 m d (Proc.devRef .tc main_v9) = rows (ys m d) (dst m d) := by
  funext i
  idx_vars i
  show after ops2 _ _ _ = _
  unfold ops2
  after_reads_at
  rw [V2_eq]
  show cY m d (ix2 ⟨(cI m d (ix1 ⟨i0.val * 16 + i1.val * 8 + i2.val / 128, _⟩)).toNat % 40960, _⟩ ⟨i2.val % 128, _⟩) = _
  rw [cY_at]
  unfold rows
  have hn := cI_nat m h ⟨i0.val * 16 + i1.val * 8 + i2.val / 128, by omega⟩
  have e : (⟨(i0.val * 16 + i1.val * 8 + i2.val / 128) / 8, by omega⟩ : Fin 4096) = ⟨2 * i0.val + i1.val, by omega⟩ := Fin.ext (by dsimp only; omega)
  dsimp only at hn
  rw [e] at hn
  have hd := h (ix1 ⟨2 * i0.val + i1.val, by omega⟩)
  show ys m d (ix2 _ _) = ys m d (ix2 ⟨(dst m d (ix1 ⟨2 * i0.val + i1.val, _⟩)).toNat % 5120, _⟩ i2)
  congr 2
  · refine Fin.ext ?_
    dsimp only
    rw [hn]; omega
  · refine Fin.ext ?_
    dsimp only
    rw [hn]; omega

theorem V3_arg0 (d : Dev nD) : V3 m d (Proc.devRef .tc main_arg0) = m (d.tc.loc main_arg0) := by
  show after ops2 _ _ = _
  unfold ops2
  after_reads_simp
  rw [V2_ne _ _ _ (by decide)]
  show after ops1 _ _ = _
  unfold ops1
  after_reads_simp

theorem V3_arg1 (d : Dev nD) : V3 m d (Proc.devRef .tc main_arg1) = m (d.tc.loc main_arg1) := by
  show after ops2 _ _ = _
  unfold ops2
  after_reads_simp
  rw [V2_ne _ _ _ (by decide)]
  show after ops1 _ _ = _
  unfold ops1
  after_reads_simp

end Cert.Proof.GatherValue
-- ==== Proof.GatherRef.lean ====
/-
  The reference of the gather: `jnp.take` of the table's rows, read at an index.
-/
module

public import proofs.«01_k».proof.Defs
public import proofs.«01_k».proof.Proof.Gen.GatherReferenceIdeal
public import proofs.«01_k».proof.Proof.GatherValue
public import Idealize.ShloMosaic.Lib.Claim
public import Idealize.ShloMosaic.Lib.Routing.Ops

@[expose] public section

noncomputable section

namespace Cert.Proof.GatherRef

open Cert.GatherReferenceIdeal Cert.GatherReferenceIdeal.Gen
open Idealize.ShloMosaic Idealize.SL.Sem
open Idealize.ShloMosaic.StableHlo (after)

/-- The reference's rows: the wrapped row numbers are the row numbers themselves where these are in range. -/
theorem take_rows (y : S5120x1024.Idx → Ideal .f32) (dst : S4096.Idx → BitVec 32) (h : ∀ t, (dst t).toNat < 5120) :
    shapeCast (s := S4096x1024) S2048x2x1024 (Host.gather gather_S5120x1024_S4096x1_S4096x1024_1_0_n_n_0_1_11024 y
      (broadcastInDim S4096x1 ![0] bcast_S4096_S4096x1_0
        (select (cmpi .slt dst (broadcastInDim S4096 ![] bcast_S_S4096 (constantI S_ 32 0#32)))
          (addi dst (broadcastInDim S4096 ![] bcast_S_S4096 (constantI S_ 32 5120#32))) dst))) shapeCasts_S4096x1024_S2048x2x1024
      = GatherValue.rows y dst := by
  funext i
  idx_vars i
  pointwise
  have ht := h (ix1 ⟨i0.val * 2 + i1.val, by omega⟩)
  refine (Routing.gather_row (nb := 5120) (B := 1024) (n := 4096) gather_S5120x1024_S4096x1_S4096x1024_1_0_n_n_0_1_11024 rfl rfl rfl rfl rfl
    y _ _ i2 ⟨_, ht⟩ ?_ (by decide)).trans ?_
  · show broadcastInDim (s := S4096) S4096x1 (![0] : Fin S4096.rank → Fin S4096x1.rank) bcast_S4096_S4096x1_0 _ (ix2 (⟨i0.val * 2 + i1.val, by omega⟩ : Fin 4096) (0 : Fin 1)) = _
    pointwise
    word_omega
  · unfold GatherValue.rows
    have e : (⟨i0.val * 2 + i1.val, by omega⟩ : Fin 4096) = ⟨2 * i0.val + i1.val, by omega⟩ := Fin.ext (by dsimp only; omega)
    rw [e] at ht
    show y (ix2 ⟨(dst (ix1 ⟨i0.val * 2 + i1.val, _⟩)).toNat, _⟩ i2) = y (ix2 ⟨(dst (ix1 ⟨2 * i0.val + i1.val, _⟩)).toNat % 5120, _⟩ i2)
    congr 2
    refine Fin.ext ?_
    dsimp only
    rw [Nat.mod_eq_of_lt ht, e]

end Cert.Proof.GatherRef
-- ==== Proof.WholeSetup.lean ====
/-
  The launch set-up of the whole kernel: two TensorCore calls and two SparseCore calls. The ghost state is the SparseCore
  handshakes', the TensorCore pipelines' and the counters of the local copies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueIdx
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.WholeSetup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, the pipelines', and both with the copies' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb
instance EP_landsIn : (EP : Emb UP 𝕄).LandsIn (upEmb : UEmb _ 𝕄) := by unfold EP; infer_instance

/-- A tile's share of an array all tiles read: half for each core, then a sixteenth of that. -/
abbrev qC (c : Fin 2) : PosShare TreeShare := pieceOf fullShare 2 (by decide) c
abbrev qT (c : Fin 2) (s : Fin 16) : PosShare TreeShare := pieceOf (qC c) 16 (by decide) s

/-- The waits a TensorCore may have on record before SparseCore call `n`. -/
abbrev below (c : Dev nD) (n : ℕ) : Set (SemLoc sig × HIx 2) := {q | (K (F := F)).lev ((T c : Thread nD τ), q.1) q.2 ≤ 8 * n}

end Cert.Proof.WholeSetup

end
-- ==== Proof.WholeTail.lean ====
/-
  The router's last point: the rounded counts, each block's expert and the destination rows, 32 chunks of 128 tokens.
-/
module

public import proofs.«01_k».proof.Proof.WholeSetup
public import Idealize.ShloMosaic.Lib.Pipeline.FrameBody

@[expose] public section

set_option synthInstance.maxSize 4096

noncomputable section

namespace Cert.Proof.WholeTail

open Cert.KernelIdeal Cert.KernelIdeal.Gen Cert.Proof.WholeSetup

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2)

variable {F : FTy → Type} [FloatOps F]

local notation "𝕄" => MT nD τ sig (HIx 2) (Elt F) ℕ UU ℕ

/-- A memref's buffer on core `c`, held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## What the 32 chunks store -/

theorem chunk_inb (n : Nat) (h : n < 32) : ∀ a, (![128 * n, 0] : Fin 2 → Nat) a + S128x8.size a ≤ S4096x8.size a := by
  intro a
  match a with
  | 0 => show 128 * n + 128 ≤ 4096; omega
  | 1 => show 0 + 8 ≤ 8; omega

theorem chunk_inb1 (n : Nat) (h : n < 32) : ∀ a, (![128 * n, 0] : Fin 2 → Nat) a + S128x1.size a ≤ S4096x1.size a := by
  intro a
  match a with
  | 0 => show 128 * n + 128 ≤ 4096; omega
  | 1 => show 0 + 1 ≤ 1; omega

/-- Chunk `n` of the one-hot rows. -/
def chunk (X : S4096x8.Idx → Elt F .f32) (n : Nat) (h : n < 32) : Vec F S128x8 .f32 :=
  View.ld X (Rect.unit (s := S4096x8) ![128 * n, 0] S128x8.size (chunk_inb n h))

/-- The counts of the rows before chunk `n`. -/
def accAt (X : S4096x8.Idx → Elt F .f32) : Nat → FVec F S1x8 .f32
  | 0 => k0_pay8
  | n + 1 => if h : n < 32 then k0_pay10 (accAt X n) (chunk X n h) else accAt X n

/-- The destination rows of one chunk's tokens, from the experts' starts, the counts before the chunk and its one-hot rows. -/
def chunkDest (v71 acc : FVec F S1x8 .f32) (oh : Vec F S128x8 .f32) : IVec S128x1 32 :=
  fptosi 32 (shapeCast S128x1 (multiReduction .add [1] S128
    (mulf oh (addf (broadcastTo S128x8 (addf v71 acc) broadcasts_S1x8_S128x8)
      (matmul dot_S128x128_S128x8_S128x8_1_0_0_1_n_n (some .fp32) (k0_pay7 (F := F)) oh (constant S128x8 .f32 0x00000000#32))))
    0x00000000#32 reduces_S128x8_S128 (.inl rfl) rfl) shapeCasts_S128_S128x1)

/-- The stores made into the destination buffer by the first `n` chunks. -/
def pieces (v71 : FVec F S1x8 .f32) (X : S4096x8.Idx → Elt F .f32) : Nat → List (View.Piece (Elt F) S4096x1 .i32)
  | 0 => []
  | n + 1 => if h : n < 32 then ⟨Rect.unit (s := S4096x1) ![128 * n, 0] S128x1.size (chunk_inb1 n h), chunkDest v71 (accAt X n) (chunk X n h)⟩ :: pieces v71 X n
      else pieces v71 X n

/-- What the 32 chunks' stores leave, read at a token's row: the chunk of the token, at the token's place in it. -/
def destAt (v71 : FVec F S1x8 .f32) (X : S4096x8.Idx → Elt F .f32) : S4096x1.Idx → Elt F .i32 := fun y =>
  chunkDest v71 (accAt X ((y 0).val / 128)) (chunk X ((y 0).val / 128) (by have h : (y 0).val < 4096 := (y 0).isLt; omega))
    (ix2 (n0 := 128) (n1 := 1) ⟨(y 0).val % 128, Nat.mod_lt _ (by decide)⟩ 0)

theorem chunk_emb (n : Nat) (h : n < 32) (x : S128x1.Idx) :
    (Rect.unit (s := S4096x1) ![128 * n, 0] S128x1.size (chunk_inb1 n h)).emb x
      = (ix2 (n0 := 4096) (n1 := 1) ⟨128 * n + (x 0).val, by have hx : (x 0).val < 128 := (x 0).isLt; omega⟩ 0 : S4096x1.Idx) := by
  refine funext fun a => Fin.ext ?_
  show (![128 * n, 0] : Fin 2 → Nat) a + 1 * (x a).val = _
  match a with
  | 0 => exact congrArg _ (Nat.one_mul _)
  | 1 => have hx : (x 1).val < 1 := (x 1).isLt
         show 0 + 1 * (x 1).val = 0
         omega

theorem pieces_canon (v71 : FVec F S1x8 .f32) (X : S4096x8.Idx → Elt F .f32) : ∀ n ≤ 32, ∀ y : S4096x1.Idx, (y 0).val < 128 * n →
    (∃ p ∈ pieces v71 X n, y ∈ p.1.set) ∧ View.canon (pieces v71 X n) y = destAt v71 X y
  | 0, _, y, hy => by omega
  | n + 1, hn, y, hy => by
    have h : n < 32 := by omega
    simp only [pieces, dif_pos h]
    by_cases hy' : (y 0).val < 128 * n
    · obtain ⟨⟨p, hp, hpy⟩, hc⟩ := pieces_canon v71 X n (by omega) y hy'
      refine ⟨⟨p, List.mem_cons_of_mem _ hp, hpy⟩, ?_⟩
      rw [View.canon_cons_of_not_mem _ _ ?_, hc]
      intro hm
      obtain ⟨x, hx⟩ := (Rect.unit (s := S4096x1) ![128 * n, 0] S128x1.size (chunk_inb1 n h)).exists_idx_of_mem hm
      have hx' := (chunk_emb n h x).symm.trans hx
      have := congrArg (fun z : S4096x1.Idx => (z 0).val) hx'
      have hlt : (x 0).val < 128 := (x 0).isLt
      simp only [] at this
      change 128 * n + (x 0).val = (y 0).val at this
      omega
    · have hye : y = (Rect.unit (s := S4096x1) ![128 * n, 0] S128x1.size (chunk_inb1 n h)).emb
          (ix2 (n0 := 128) (n1 := 1) ⟨(y 0).val - 128 * n, by omega⟩ 0 : S128x1.Idx) := by
        refine Eq.trans ?_ (chunk_emb n h _).symm
        refine funext fun a => Fin.ext ?_
        match a with
        | 0 => show (y 0).val = 128 * n + ((y 0).val - 128 * n); omega
        | 1 => have hx : (y 1).val < 1 := (y 1).isLt
               show (y 1).val = 0
               omega
      refine ⟨⟨_, List.mem_cons_self .., ?_⟩, ?_⟩
      · rw [hye]
        rw [← Rect.map_emb_univ]
        exact Finset.mem_map_of_mem _ (Finset.mem_univ _)
      · refine (congrArg _ hye).trans ((View.canon_cons_emb _ _ _ _).trans ?_)
        have hq : (y 0).val / 128 = n := by omega
        have hr : (y 0).val % 128 = (y 0).val - 128 * n := by omega
        unfold destAt
        have hgen : ∀ m (hm : m < 32), n = m → chunkDest v71 (accAt X n) (chunk X n h) = chunkDest v71 (accAt X m) (chunk X m hm) := by
          rintro m hm rfl; rfl
        refine (congrFun (hgen _ _ hq.symm) _).trans (congrArg _ ?_)
        · refine funext fun a => Fin.ext ?_
          match a with
          | 0 => exact hr.symm
          | 1 => rfl

set_option maxHeartbeats 4000000 in
set_option maxRecDepth 100000 in
theorem tail_run (c : Dev nD) (i : grid0.Coords) (a1 : Memref sig .tc .vmem S512x1024 .f32) (h1 : a1.IsWhole) (a2 : Memref sig .tc .vmem S8x1024 .f32) (h2 : a2.IsWhole)
    (a3 : Memref sig .tc .vmem S1x8 .f32) (h3 : a3.IsWhole) (a4 : Memref sig .tc .vmem S512x1024 .f32) (h4 : a4.IsWhole) (a5 : Memref sig .tc .vmem S512x1 .f32) (h5 : a5.IsWhole)
    (a6 : Memref sig .tc .vmem S1x8 .f32) (h6 : a6.IsWhole) (a7 : Memref sig .tc .vmem S1x8 .f32) (h7 : a7.IsWhole) (a8 : Memref sig .tc .vmem S4096x1 .i32) (h8 : a8.IsWhole)
    (a9 : Memref sig .tc .vmem S40x1 .i32) (h9 : a9.IsWhole) (a10 : Memref sig .tc .vmem S4096x8 .f32) (h10 : a10.IsWhole)
    (f6 : Bf (F := F) c a6) (f8 : Bf (F := F) c a8) (f9 : Bf (F := F) c a9) (f10 : Bf (F := F) c a10) (E : Set ℕ) (Q : PUnit → sProp 𝕄) :
        iprop(pt c a6 f6 ∗ pt c a8 f8 ∗ pt c a9 f9 ∗ pt c a10 f10
          ∗ (iprop(pt c a6 f6 ∗ pt c a8 (a8.view.writes (Elt F) a8.view.junk
                (pieces (k0_pay5 (View.ld (a6.view.read (Elt F) f6) (Rect.unit (s := S1x8) ![0, 0] S1x8.size inb_S1x8_S1x8_0_0))) (a10.view.read (Elt F) f10) 32))
              ∗ pt c a9 (a9.view.writes (Elt F) a9.view.junk [⟨Rect.unit (s := S40x1) ![0, 0] S40x1.size inb_S40x1_S40x1_0_0,
                k0_pay6 (View.ld (a6.view.read (Elt F) f6) (Rect.unit (s := S1x8) ![0, 0] S1x8.size inb_S1x8_S1x8_0_0))⟩]) ∗ pt c a10 f10) -∗ Q ⟨⟩))
          ⊢ wp frame (wpE (defs₀ (F := F)) Variants.none c none) E (do
              let v501 : IVec S128x1 32 ← k0_part12 i a1 h1 a2 h2 a3 h3 a4 h4 a5 h5 a6 h6 a7 h7 a8 h8 a9 h9 a10 h10
              let v502 : Vec F S128x1 .i32 ← Prog.lift (.load a8 (Rect.unit (s := S4096x1) ![3968, 0] S128x1.size inb_S4096x1_S128x1_3968_0).toLoadRect (View.loadsAt_vmem h_S128x1))
              Prog.lift (.store a8 (Rect.unit (s := S4096x1) ![3968, 0] S128x1.size inb_S4096x1_S128x1_3968_0) v501 Finset.univ (View.stores_vmem_bits_univ h_S128x1 rfl) (.inl rfl))
              pure ⟨⟩) Q := by
  rw [k0_part12_eq_skeleton]; unfold k0_part12_skel
  iintro ⟨H6, H8, H9, H10, Hk⟩
  sl_exec!
  sl_step
  iapply Hk
  isplitl [H6]; · iexact H6
  isplitl [H8]; · iexact H8
  isplitl [H9]; · iexact H9
  iexact H10

end Cert.Proof.WholeTail

end
-- ==== Proof.WholeRouter.lean ====
/-
  One grid point of the router: the probabilities of 512 tokens, their experts as one-hot rows, the running counts and sums, and
  at the last point the destinations.
-/
module

public import proofs.«01_k».proof.Proof.WholeTail
public import Idealize.ShloMosaic.Lib.Pipeline.Value
public import Idealize.ShloMosaic.Lib.Pipeline.FrameBody

@[expose] public section

set_option synthInstance.maxSize 4096

noncomputable section

namespace Cert.Proof.WholeRouter

open Cert.KernelIdeal Cert.KernelIdeal.Gen Cert.Proof.WholeSetup Cert.Proof.WholeTail

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2)

variable {F : FTy → Type} [FloatOps F]

local notation "𝕄" => MT nD τ sig (HIx 2) (Elt F) ℕ UU ℕ

/-- A memref's buffer on core `c` held whole, reading `X`. -/
abbrev holds (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

/-- The point is the first; the program's own condition. -/
abbrev first (i : grid0.Coords) : Prop :=
  Scalar.cmpi .ne (Scalar.extui (Scalar.cmpi .eq (BitVec.ofNat 32 (i 0).val) 0#32) : BitVec 32) 0#32 = 1#1

theorem hz : (![0, 0] : Fin 2 → Nat) = fun _ => 0 := funext fun a => by fin_cases a <;> rfl

/-- The counts and the sums after a point, from those before it. -/
def cntStep (i : grid0.Coords) (x : Vec F S512x1024 .f32) (sw : Vec F S8x1024 .f32) (sb : Vec F S1x8 .f32) (n : Vec F S1x8 .f32) : Vec F S1x8 .f32 :=
  k0_pay3 (k0_pay80 x sw sb) (if first i then k0_pay1 else n)
def sumStep (i : grid0.Coords) (x : Vec F S512x1024 .f32) (sw : Vec F S8x1024 .f32) (sb : Vec F S1x8 .f32) (n : Vec F S1x8 .f32) : Vec F S1x8 .f32 :=
  k0_pay4 (k0_pay78 x sw sb) (if first i then k0_pay2 else n)
/-- The one-hot rows after a point. -/
def rowsStep (i : grid0.Coords) (x : Vec F S512x1024 .f32) (sw : Vec F S8x1024 .f32) (sb : Vec F S1x8 .f32) (X : S4096x8.Idx → Elt F .f32) : S4096x8.Idx → Elt F .f32 :=
  (Rect.unit (s := S4096x8) (k0_off1 i) S512x8.size (k0_off1_inb i)).overlay X (k0_pay81 x sw sb)

theorem read_store {sp : Space} {S : Shape} {e : EltTy} (M : Memref sig .tc sp S e) (f : M.view.ty.Contents (Elt F)) {off : Fin S.rank → Nat} (h : off = fun _ => 0)
    (inb : ∀ a, off a + S.size a ≤ S.size a) (w : S.Idx → Elt F e) (L : List (View.Piece (Elt F) S e)) :
    M.view.read (Elt F) (M.view.writes (Elt F) f (⟨Rect.unit off S.size inb, w⟩ :: L)) = w :=
  (View.read_writes_eq_canon _ _ _ (fun y => ⟨_, List.mem_cons_self .., View.mem_set_unit_zero h inb y⟩)).trans (View.canon_cons_unit_zero h inb w L)

/-- Reading back rows written on top of known contents. -/
theorem read_rows {c : Dev nD} (M : Memref sig .tc .vmem S4096x8 (.f32 : EltTy)) (f : Bf (F := F) c M)
    (X : S4096x8.Idx → Elt F .f32) (e : M.view.read (Elt F) f = X) (r : Rect S4096x8) (v : r.shape.Idx → Elt F .f32) :
    M.view.read (Elt F) (M.view.writes (Elt F) f [⟨r, v⟩]) = r.overlay X v := by
  funext y
  by_cases hy : y ∈ r.set
  · obtain ⟨x, rfl⟩ := r.exists_idx_of_mem hy
    exact (View.read_writes_cons_emb _ _ r v [] x).trans (Rect.overlay_emb r X v x).symm
  · rw [Rect.overlay_of_not_mem r X v hy, View.read_writes_apply_of_forall_not_mem _ _ _ _ (by simpa using hy), e]

/-- What the tail's pieces read as. -/
theorem read_pieces (M : Memref sig .tc .vmem S4096x1 (.i32 : EltTy)) (v71 : FVec F S1x8 .f32) (X : S4096x8.Idx → Elt F .f32) :
    M.view.read (Elt F) (M.view.writes (Elt F) M.view.junk (pieces v71 X 32)) = destAt v71 X := by
  funext y
  have h := pieces_canon v71 X 32 le_rfl y (y 0).isLt
  exact (View.read_writes_apply_eq_canon _ _ _ _ h.1).trans h.2

set_option maxHeartbeats 4000000 in
theorem body_run (c : Dev nD) (i : grid0.Coords) (a1 : Memref sig .tc .vmem S512x1024 .f32) (h1 : a1.IsWhole) (a2 : Memref sig .tc .vmem S8x1024 .f32) (h2 : a2.IsWhole)
    (a3 : Memref sig .tc .vmem S1x8 .f32) (h3 : a3.IsWhole) (a4 : Memref sig .tc .vmem S512x1024 .f32) (h4 : a4.IsWhole) (a5 : Memref sig .tc .vmem S512x1 .f32) (h5 : a5.IsWhole)
    (a6 : Memref sig .tc .vmem S1x8 .f32) (h6 : a6.IsWhole) (a7 : Memref sig .tc .vmem S1x8 .f32) (h7 : a7.IsWhole) (a8 : Memref sig .tc .vmem S4096x1 .i32) (h8 : a8.IsWhole)
    (a9 : Memref sig .tc .vmem S40x1 .i32) (h9 : a9.IsWhole) (a10 : Memref sig .tc .vmem S4096x8 .f32) (h10 : a10.IsWhole)
    (x : Vec F S512x1024 .f32) (sw : Vec F S8x1024 .f32) (sb n6 n7 : Vec F S1x8 .f32) (d8 : Vec F S4096x1 .i32) (d9 : Vec F S40x1 .i32) (X : S4096x8.Idx → Elt F .f32) (hc : ¬ (first i ∧ k0_cond2 i = 1#1)) :
    iprop(holds c a1 x ∗ holds c a2 sw ∗ holds c a3 sb ∗ (∃ d, holds c a4 d) ∗ (∃ d, holds c a5 d) ∗ holds c a6 n6 ∗ holds c a7 n7 ∗ holds c a8 d8 ∗ holds c a9 d9 ∗ holds c a10 X)
      ⊢ wp frame (wpE (defs₀ (F := F)) Variants.none c none) Set.univ (cc0__router_body i a1 h1 a2 h2 a3 h3 a4 h4 a5 h5 a6 h6 a7 h7 a8 h8 a9 h9 a10 h10) fun _ =>
        iprop(holds c a1 x ∗ holds c a2 sw ∗ holds c a3 sb ∗ holds c a4 (k0_pay82 x sw sb) ∗ holds c a5 (k0_pay79 x sw sb)
          ∗ holds c a6 (cntStep i x sw sb n6) ∗ holds c a7 (sumStep i x sw sb n7)
          ∗ holds c a8 (if k0_cond2 i = 1#1 then destAt (k0_pay5 (cntStep i x sw sb n6)) (rowsStep i x sw sb X) else d8)
          ∗ holds c a9 (if k0_cond2 i = 1#1 then k0_pay6 (cntStep i x sw sb n6) else d9)
          ∗ holds c a10 (rowsStep i x sw sb X)) := by
  rw [cc0__router_body_eq_skeleton]; unfold cc0__router_body_skel
  rw [k0_part13_eq_skeleton]; unfold k0_part13_skel
  iintro ⟨⟨%f1, %e1, H1⟩, ⟨%f2, %e2, H2⟩, ⟨%f3, %e3, H3⟩, ⟨%d4, %f4, -, H4⟩, ⟨%d5, %f5, -, H5⟩, ⟨%f6, %e6, H6⟩, ⟨%f7, %e7, H7⟩, ⟨%f8, %e8, H8⟩, ⟨%f9, %e9, H9⟩, ⟨%f10, %e10, H10⟩⟩
  have hx : View.readAt (Elt F) a1.view (Rect.unit (s := S512x1024) ![0, 0] S512x1024.size inb_S512x1024_S512x1024_0_0).toLoadRect f1 = x := by
    rw [View.readAt_eq_ld, e1, View.ld_unit_zero hz]
  have hw : View.readAt (Elt F) a2.view (Rect.unit (s := S8x1024) ![0, 0] S8x1024.size inb_S8x1024_S8x1024_0_0).toLoadRect f2 = sw := by
    rw [View.readAt_eq_ld, e2, View.ld_unit_zero hz]
  have hb : View.readAt (Elt F) a3.view (Rect.unit (s := S1x8) ![0, 0] S1x8.size inb_S1x8_S1x8_0_0).toLoadRect f3 = sb := by
    rw [View.readAt_eq_ld, e3, View.ld_unit_zero hz]
  have h6' : View.readAt (Elt F) a6.view (Rect.unit (s := S1x8) ![0, 0] S1x8.size inb_S1x8_S1x8_0_0).toLoadRect f6 = n6 := by
    rw [View.readAt_eq_ld, e6, View.ld_unit_zero hz]
  have h7' : View.readAt (Elt F) a7.view (Rect.unit (s := S1x8) ![0, 0] S1x8.size inb_S1x8_S1x8_0_0).toLoadRect f7 = n7 := by
    rw [View.readAt_eq_ld, e7, View.ld_unit_zero hz]
  by_cases hA : first i
  · have hB : ¬ k0_cond2 i = 1#1 := fun h => hc ⟨hA, h⟩
    sl_exec!
    sl_step
    sl_unfold_words
    simp only [hx, hw, hb, h6', h7', View.readCov_unit_zero (S := S1x8) _ hz]
    unfold cntStep sumStep rowsStep
    rw [if_pos hA, if_pos hA, if_neg hB, if_neg hB]
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H4]
    · iexists _; isplitr; swap; (· iexact H4); ipureintro
      exact read_store _ _ hz _ _ _
    isplitl [H5]
    · iexists _; isplitr; swap; (· iexact H5); ipureintro
      exact read_store _ _ hz _ _ _
    isplitl [H6]
    · iexists _; isplitr; swap; (· iexact H6); ipureintro
      exact read_store _ _ hz _ _ _
    isplitl [H7]
    · iexists _; isplitr; swap; (· iexact H7); ipureintro
      exact read_store _ _ hz _ _ _
    isplitl [H8]
    · iexists f8; isplitr; · ipureintro; exact e8
      iexact H8
    isplitl [H9]
    · iexists f9; isplitr; · ipureintro; exact e9
      iexact H9
    iexists _; isplitr; swap; (· iexact H10); ipureintro
    exact read_rows a10 f10 X e10 _ _
  · by_cases hB : k0_cond2 i = 1#1
    · sl_exec!
      sl_step
      unfold cntStep sumStep rowsStep
      rw [if_neg hA, if_neg hA, if_pos hB, if_pos hB]
      isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists _; isplitr; swap; (· iexact H4); ipureintro
        sl_unfold_words
        simp only [hx, hw, hb, h6', h7', View.readCov_unit_zero (S := S1x8) _ hz]
        exact read_store _ _ hz _ _ _
      isplitl [H5]
      · iexists _; isplitr; swap; (· iexact H5); ipureintro
        sl_unfold_words
        simp only [hx, hw, hb, h6', h7', View.readCov_unit_zero (S := S1x8) _ hz]
        exact read_store _ _ hz _ _ _
      isplitl [H6]
      · iexists _; isplitr; swap; (· iexact H6); ipureintro
        sl_unfold_words
        simp only [hx, hw, hb, h6', h7', View.readCov_unit_zero (S := S1x8) _ hz]
        exact read_store _ _ hz _ _ _
      isplitl [H7]
      · iexists _; isplitr; swap; (· iexact H7); ipureintro
        sl_unfold_words
        simp only [hx, hw, hb, h6', h7', View.readCov_unit_zero (S := S1x8) _ hz]
        exact read_store _ _ hz _ _ _
      isplitl [H8]
      · iexists _; isplitr; swap; (· iexact H8); ipureintro
        refine (read_pieces a8 (k0_pay5 (body_run.sl.v59 a6 x sw sb n6))
          (a10.view.read (Elt F) (a10.view.writes (Elt F) f10 (body_run.sl.H10_1 i x sw sb)))).trans ?_
        sl_unfold_words
        rw [read_rows a10 f10 X e10]
        simp only [hx, hw, hb, h6', h7', View.readCov_unit_zero (S := S1x8) _ hz]
      isplitl [H9]
      · iexists _; isplitr; swap; (· iexact H9); ipureintro
        sl_unfold_words
        simp only [hx, hw, hb, h6', h7', View.readCov_unit_zero (S := S1x8) _ hz]
        exact read_store _ _ hz _ _ _
      iexists _; isplitr; swap; (· iexact H10); ipureintro
      sl_unfold_words
      simp only [hx, hw, hb]
      exact read_rows a10 f10 X e10 _ _
    · sl_exec!
      sl_step
      sl_unfold_words
      simp only [hx, hw, hb, h6', h7', View.readCov_unit_zero (S := S1x8) _ hz]
      unfold cntStep sumStep rowsStep
      rw [if_neg hA, if_neg hA, if_neg hB, if_neg hB]
      isplitl [H1]
      · iexists f1; isplitr; · ipureintro; exact e1
        iexact H1
      isplitl [H2]
      · iexists f2; isplitr; · ipureintro; exact e2
        iexact H2
      isplitl [H3]
      · iexists f3; isplitr; · ipureintro; exact e3
        iexact H3
      isplitl [H4]
      · iexists _; isplitr; swap; (· iexact H4); ipureintro
        exact read_store _ _ hz _ _ _
      isplitl [H5]
      · iexists _; isplitr; swap; (· iexact H5); ipureintro
        exact read_store _ _ hz _ _ _
      isplitl [H6]
      · iexists _; isplitr; swap; (· iexact H6); ipureintro
        exact read_store _ _ hz _ _ _
      isplitl [H7]
      · iexists _; isplitr; swap; (· iexact H7); ipureintro
        exact read_store _ _ hz _ _ _
      isplitl [H8]
      · iexists f8; isplitr; · ipureintro; exact e8
        iexact H8
      isplitl [H9]
      · iexists f9; isplitr; · ipureintro; exact e9
        iexact H9
      iexists _; isplitr; swap; (· iexact H10); ipureintro
      exact read_rows a10 f10 X e10 _ _

end Cert.Proof.WholeRouter

end
-- ==== Proof.WholeRegion0.lean ====
/-
  The router's call: what its eight points leave, as the pipeline's proof data, and the obligation of its body.
-/
module

public import proofs.«01_k».proof.Proof.WholeRouter
public import proofs.«01_k».proof.Proof.Gen.KernelIdeal.Points
public import Idealize.ShloMosaic.Lib.LaneScatter.Own

@[expose] public section

set_option synthInstance.maxSize 4096

noncomputable section

namespace Cert.Proof.WholeRegion0

open Cert.KernelIdeal Cert.KernelIdeal.Gen Cert.Proof.WholeSetup Cert.Proof.WholeTail Cert.Proof.WholeRouter

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2)

variable {F : FTy → Type} [FloatOps F]

local notation "𝕄" => MT nD τ sig (HIx 2) (Elt F) ℕ UU ℕ

/-- A whole memref owned is its buffer held whole. -/
theorem owns_holds (c : Dev nD) {sp : Space} {S : Shape} {e : EltTy} (M : Memref sig .tc sp S e) (h : M.IsWhole) (X : S.Idx → Elt F e) :
    (owns (c : Thread nD τ) M fullShare X : sProp 𝕄) = holds c M X := by
  have hs : M.view.set = Finset.univ := h.set_eq_univ
  unfold owns holds pt
  rw [hs]

/-- A scoped buffer at some contents. -/
abbrev any (c : Dev nD) (b : Ref sig .tc) : sProp 𝕄 := iprop(∃ f : Buf (Elt F) ((c : Thread nD τ).loc b), ((c : Thread nD τ).loc b) ↦{fullShare} f)

/-- The experts' staging buffers, which the router does not touch. -/
abbrev rest0 (c : Dev nD) : sProp 𝕄 :=
  iprop(any c cc2_stg0_0 ∗ any c cc2_stg0_1 ∗ any c cc2_stg1_0 ∗ any c cc2_stg1_1 ∗ any c cc2_stg2_0 ∗ any c cc2_stg2_1 ∗ any c cc2_stg3_0 ∗ any c cc2_stg3_1)

theorem scopedRest0 (c : Dev nD) :
    (Pipeline.scopedRest (Ix := HIx 2) (Name := ℕ) (U := UU) (Lvl := ℕ) (Val := Elt F) spec0 c : sProp 𝕄) = iprop(any c cc0_scratch0 ∗ rest0 c) :=
  scopedRest0_eq c

/-! ## The values -/

variable (V : (c : Dev nD) → (b : Ref sig .tc) → Buf (Elt F) ((c : Thread nD τ).loc b))

/-- The blocks a point is handed: 512 tokens, the router's weights and its bias. -/
abbrev xB (c : Dev nD) (t : Fin grid0.N) : Vec F S512x1024 .f32 := (win0_0.blk t).view.read (Elt F) (V c main_v0)
abbrev wB (c : Dev nD) (t : Fin grid0.N) : Vec F S8x1024 .f32 := (win0_1.blk t).view.read (Elt F) (V c main_arg1)
abbrev bB (c : Dev nD) (t : Fin grid0.N) : Vec F S1x8 .f32 := (win0_2.blk t).view.read (Elt F) (V c main_v1)

/-- The counts and the sums of probabilities after `n` points. -/
def cntAt (c : Dev nD) : ℕ → Vec F S1x8 .f32
  | 0 => k0_pay1
  | n + 1 => if h : n < grid0.N then cntStep (grid0.coords ⟨n, h⟩) (xB V c ⟨n, h⟩) (wB V c ⟨n, h⟩) (bB V c ⟨n, h⟩) (cntAt c n) else cntAt c n
def sumAt (c : Dev nD) : ℕ → Vec F S1x8 .f32
  | 0 => k0_pay2
  | n + 1 => if h : n < grid0.N then sumStep (grid0.coords ⟨n, h⟩) (xB V c ⟨n, h⟩) (wB V c ⟨n, h⟩) (bB V c ⟨n, h⟩) (sumAt c n) else sumAt c n

/-- The point that handles a token. -/
def ptOf (y : S4096x8.Idx) : Fin grid0.N := ⟨(y 0).val / 512, by rw [N_0]; have h : (y 0).val < 4096 := (y 0).isLt; omega⟩
/-- Every token's one-hot row. -/
def ohAll (c : Dev nD) (y : S4096x8.Idx) : Elt F .f32 :=
  k0_pay81 (xB V c (ptOf y)) (wB V c (ptOf y)) (bB V c (ptOf y)) (ix2 ⟨(y 0).val % 512, Nat.mod_lt _ (by decide)⟩ (y 1))

/-- The scratch rows of the first `n` points are in place. -/
abbrev Φ0 (c : Dev nD) (n : ℕ) : sProp 𝕄 :=
  iprop(∃ X : S4096x8.Idx → Elt F .f32, ⌜∀ y, (y 0).val < 512 * n → X y = ohAll V c y⌝ ∗ holds c (Memref.whole cc0_scratch0) X ∗ rest0 c)

/-- The proof data of the router's call entered at `V`. -/
def dat0 (c : Dev nD) : Dat τ (Elt F) (HIx 2) ℕ UU ℕ cfg0 c where
  A w := V c (Pipeline.arrRef spec0 w)
  after w t := match w with
    | ⟨0, _⟩ => xB V c t
    | ⟨1, _⟩ => wB V c t
    | ⟨2, _⟩ => bB V c t
    | ⟨3, _⟩ => k0_pay82 (xB V c t) (wB V c t) (bB V c t)
    | ⟨4, _⟩ => k0_pay79 (xB V c t) (wB V c t) (bB V c t)
    | ⟨5, _⟩ => cntAt V c (t.val + 1)
    | ⟨6, _⟩ => sumAt V c (t.val + 1)
    | ⟨7, _⟩ => destAt (k0_pay5 (cntAt V c 8)) (ohAll V c)
    | ⟨8, _⟩ => k0_pay6 (cntAt V c 8)
  Φ n := Φ0 V c n.val
  q _ := fullShare
  owed _ := (K (F := F)).Otc c 0
  recorded _ := below (F := F) c 0

/-! ## What the buffers hold when the body runs -/

theorem before0 (c : Dev nD) (t : Fin cfg0.N) (d) : (dat0 V c).before 0 t d = xB V c t :=
  ((dat0 V c).before_fetched 0 t (fetch0_0 t) d).trans rfl
theorem before1 (c : Dev nD) (t : Fin cfg0.N) (d) : (dat0 V c).before 1 t d = wB V c t :=
  ((dat0 V c).before_in_eq_fetched 1 rfl (fun _ => rfl) (fun _ _ _ => rfl) (fun _ => rfl) t d).trans rfl
theorem before2 (c : Dev nD) (t : Fin cfg0.N) (d) : (dat0 V c).before 2 t d = bB V c t :=
  ((dat0 V c).before_in_eq_fetched 2 rfl (fun _ => rfl) (fun _ _ _ => rfl) (fun _ => rfl) t d).trans rfl

theorem first_iff : ∀ t : Fin grid0.N, first (grid0.coords t) ↔ t.val = 0 := by decide
theorem last_iff : ∀ t : Fin grid0.N, k0_cond2 (grid0.coords t) = 1#1 ↔ t.val = 7 := by decide

theorem cntAt_succ (c : Dev nD) (t : Fin cfg0.N) (d) :
    cntStep (grid0.coords t) (xB V c t) (wB V c t) (bB V c t) ((dat0 V c).before 5 t d) = cntAt V c (t.val + 1) := by
  have hs : cntAt V c (t.val + 1) = cntStep (grid0.coords t) (xB V c t) (wB V c t) (bB V c t) (cntAt V c t.val) := by
    conv_lhs => unfold cntAt
    rw [dif_pos t.isLt]
  rw [hs]
  by_cases h0 : t.val = 0
  · unfold cntStep; rw [if_pos ((first_iff t).mpr h0), if_pos ((first_iff t).mpr h0)]
  · have hN : t.val < 8 := lt_of_lt_of_eq t.isLt N_0
    rw [(dat0 V c).before_out_kept 5 rfl t h0 (Bool.eq_false_iff.mpr fun h => by have := (flush0_5 _).mp h; dsimp only at this; omega)
      (fun _ => rfl) (fun _ _ => rfl) d]
    refine congrArg _ ?_
    show cntAt V c (t.val - 1 + 1) = _
    rw [Nat.sub_add_cancel (by omega)]
theorem sumAt_succ (c : Dev nD) (t : Fin cfg0.N) (d) :
    sumStep (grid0.coords t) (xB V c t) (wB V c t) (bB V c t) ((dat0 V c).before 6 t d) = sumAt V c (t.val + 1) := by
  have hs : sumAt V c (t.val + 1) = sumStep (grid0.coords t) (xB V c t) (wB V c t) (bB V c t) (sumAt V c t.val) := by
    conv_lhs => unfold sumAt
    rw [dif_pos t.isLt]
  rw [hs]
  by_cases h0 : t.val = 0
  · unfold sumStep; rw [if_pos ((first_iff t).mpr h0), if_pos ((first_iff t).mpr h0)]
  · have hN : t.val < 8 := lt_of_lt_of_eq t.isLt N_0
    rw [(dat0 V c).before_out_kept 6 rfl t h0 (Bool.eq_false_iff.mpr fun h => by have := (flush0_6 _).mp h; dsimp only at this; omega)
      (fun _ => rfl) (fun _ _ => rfl) d]
    refine congrArg _ ?_
    show sumAt V c (t.val - 1 + 1) = _
    rw [Nat.sub_add_cancel (by omega)]

theorem off1_eq : ∀ t : Fin grid0.N, k0_off1 (grid0.coords t) = ![512 * t.val, 0] := by decide

/-- A point puts its rows in place and leaves the earlier ones. -/
theorem rows_succ (c : Dev nD) (t : Fin cfg0.N) (X : S4096x8.Idx → Elt F .f32) (hX : ∀ y, (y 0).val < 512 * t.val → X y = ohAll V c y) :
    ∀ y, (y 0).val < 512 * (t.val + 1) → rowsStep (grid0.coords t) (xB V c t) (wB V c t) (bB V c t) X y = ohAll V c y := by
  intro y hy
  have hgen : ∀ off (inb), off = ![512 * t.val, 0] → (Rect.unit (s := S4096x8) off S512x8.size inb).overlay X (k0_pay81 (xB V c t) (wB V c t) (bB V c t)) y = ohAll V c y := by
    rintro off inb rfl
    by_cases h : (y 0).val < 512 * t.val
    · rw [Rect.overlay_of_not_mem, hX y h]
      intro hm
      obtain ⟨x, rfl⟩ := LoadRect.exists_idx_of_mem _ hm
      have : (512 * t.val) + 1 * (x 0).val < 512 * t.val := h
      omega
    · have hlt : (y 0).val - 512 * t.val < 512 := by omega
      have hye : y = (Rect.unit (s := S4096x8) ![512 * t.val, 0] S512x8.size inb).emb (ix2 ⟨(y 0).val - 512 * t.val, hlt⟩ (y 1)) := by
        refine funext fun a => Fin.ext ?_
        show _ = (![512 * t.val, 0] : Fin 2 → Nat) a + 1 * ((ix2 (n0 := 512) (n1 := 8) ⟨(y 0).val - 512 * t.val, hlt⟩ (y 1) : S512x8.Idx) a).val
        match a with
        | 0 => show (y 0).val = 512 * t.val + 1 * ((y 0).val - 512 * t.val); omega
        | 1 => show (y 1).val = 0 + 1 * (y 1).val; omega
      have hp : ptOf y = t := Fin.ext (show (y 0).val / 512 = t.val by omega)
      refine (congrArg _ hye).trans ((Rect.overlay_emb _ _ _ _).trans ?_)
      unfold ohAll
      rw [hp]
      refine congrArg _ (funext fun a => Fin.ext ?_)
      match a with
      | 0 => show (y 0).val - 512 * t.val = (y 0).val % 512; omega
      | 1 => rfl
  exact hgen _ _ (off1_eq t)

/-! ## The obligation -/

/-- What the body leaves of a buffer it writes at the last point only. -/
def post7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dat0 V c).before 7 t d))
    | true => owns (c : Thread nD τ) (st0_7 t) fullShare ((dat0 V c).after 7 t)
  | false => owns (c : Thread nD τ) (st0_7 t) fullShare ((dat0 V c).after 7 t)
def post8 (c : Dev nD) (t : Fin cfg0.N) : sProp 𝕄 :=
  match cfg0.idle 8 (cfg0.grid.coords t) with
  | true =>
    match (cfg0.win 8).flush t with
    | false => iprop(∃ d, owns (c : Thread nD τ) (st0_8 t) fullShare ((dat0 V c).before 8 t d))
    | true => owns (c : Thread nD τ) (st0_8 t) fullShare ((dat0 V c).after 8 t)
  | false => owns (c : Thread nD τ) (st0_8 t) fullShare ((dat0 V c).after 8 t)

theorem idle7 (t : Fin cfg0.N) : cfg0.idle 7 (cfg0.grid.coords t) = !(k0_cond2 (grid0.coords t) == 1#1) := rfl
theorem idle8 (t : Fin cfg0.N) : cfg0.idle 8 (cfg0.grid.coords t) = !(k0_cond2 (grid0.coords t) == 1#1) := rfl

theorem post7_last (c : Dev nD) (t : Fin cfg0.N) (h : k0_cond2 (grid0.coords t) = 1#1) :
    post7 V c t = owns (c : Thread nD τ) (st0_7 t) fullShare (destAt (k0_pay5 (cntAt V c 8)) (ohAll V c)) := by
  unfold post7; rw [idle7, h]; rfl
theorem post8_last (c : Dev nD) (t : Fin cfg0.N) (h : k0_cond2 (grid0.coords t) = 1#1) :
    post8 V c t = owns (c : Thread nD τ) (st0_8 t) fullShare (k0_pay6 (cntAt V c 8)) := by
  unfold post8; rw [idle8, h]; rfl
theorem post7_mid (c : Dev nD) (t : Fin cfg0.N) (h : ¬ k0_cond2 (grid0.coords t) = 1#1) :
    post7 V c t = iprop(∃ d, owns (c : Thread nD τ) (st0_7 t) fullShare ((dat0 V c).before 7 t d)) := by
  unfold post7; rw [idle7, beq_eq_false_iff_ne.mpr h]
  have hf : (cfg0.win 7).flush t = false := Bool.eq_false_iff.mpr fun hf => h ((last_iff t).mpr (by
    have := (flush0_7 t).mp hf; have hN : t.val < 8 := lt_of_lt_of_eq t.isLt N_0; omega))
  rw [hf]; rfl
theorem post8_mid (c : Dev nD) (t : Fin cfg0.N) (h : ¬ k0_cond2 (grid0.coords t) = 1#1) :
    post8 V c t = iprop(∃ d, owns (c : Thread nD τ) (st0_8 t) fullShare ((dat0 V c).before 8 t d)) := by
  unfold post8; rw [idle8, beq_eq_false_iff_ne.mpr h]
  have hf : (cfg0.win 8).flush t = false := Bool.eq_false_iff.mpr fun hf => h ((last_iff t).mpr (by
    have := (flush0_8 t).mp hf; have hN : t.val < 8 := lt_of_lt_of_eq t.isLt N_0; omega))
  rw [hf]; rfl

set_option maxHeartbeats 2000000 in
/-- One point, from what the pipeline hands the body to what it takes back. -/
theorem run_pt (c : Dev nD) (t : Fin cfg0.N) :
    iprop(Φ0 V c t.val ∗ (dat0 V c).owesAt none t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d)))
      ⊢ wp frame (wpE (defs₀ (F := F)) Variants.none (c : Thread nD τ) none) Set.univ (bodyAt0 t) fun _ =>
        iprop(Φ0 V c (t.val + 1) ∗ (dat0 V c).owesAt none t.succ
          ∗ owns (c : Thread nD τ) (st0_0 t) fullShare (xB V c t)
          ∗ owns (c : Thread nD τ) (st0_1 t) fullShare (wB V c t)
          ∗ owns (c : Thread nD τ) (st0_2 t) fullShare (bB V c t)
          ∗ owns (c : Thread nD τ) (st0_3 t) fullShare (k0_pay82 (xB V c t) (wB V c t) (bB V c t))
          ∗ owns (c : Thread nD τ) (st0_4 t) fullShare (k0_pay79 (xB V c t) (wB V c t) (bB V c t))
          ∗ owns (c : Thread nD τ) (st0_5 t) fullShare (cntAt V c (t.val + 1))
          ∗ owns (c : Thread nD τ) (st0_6 t) fullShare (sumAt V c (t.val + 1))
          ∗ post7 V c t ∗ post8 V c t) := by
  have hN : t.val < 8 := lt_of_lt_of_eq t.isLt N_0
  have h0 : (st0_0 t).IsWhole := hstage0_0 ((cfg0.slots t 0).cast nbuf0_0)
  have h1 : (st0_1 t).IsWhole := hstage0_1 ((cfg0.slots t 1).cast nbuf0_1)
  have h2 : (st0_2 t).IsWhole := hstage0_2 ((cfg0.slots t 2).cast nbuf0_2)
  have h3 : (st0_3 t).IsWhole := hstage0_3 ((cfg0.slots t 3).cast nbuf0_3)
  have h4 : (st0_4 t).IsWhole := hstage0_4 ((cfg0.slots t 4).cast nbuf0_4)
  have h5 : (st0_5 t).IsWhole := hstage0_5 ((cfg0.slots t 5).cast nbuf0_5)
  have h6 : (st0_6 t).IsWhole := hstage0_6 ((cfg0.slots t 6).cast nbuf0_6)
  have h7 : (st0_7 t).IsWhole := hstage0_7 ((cfg0.slots t 7).cast nbuf0_7)
  have h8 : (st0_8 t).IsWhole := hstage0_8 ((cfg0.slots t 8).cast nbuf0_8)
  have e0 := fun X => owns_holds (F := F) c (st0_0 t) h0 X
  have e1 := fun X => owns_holds (F := F) c (st0_1 t) h1 X
  have e2 := fun X => owns_holds (F := F) c (st0_2 t) h2 X
  have e3 := fun X => owns_holds (F := F) c (st0_3 t) h3 X
  have e4 := fun X => owns_holds (F := F) c (st0_4 t) h4 X
  have e5 := fun X => owns_holds (F := F) c (st0_5 t) h5 X
  have e6 := fun X => owns_holds (F := F) c (st0_6 t) h6 X
  have e7 := fun X => owns_holds (F := F) c (st0_7 t) h7 X
  have e8 := fun X => owns_holds (F := F) c (st0_8 t) h8 X
  iintro ⟨⟨%X, %hX, HX, Hrest⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hrun := body_run (F := F) c (grid0.coords t) (st0_0 t) h0 (st0_1 t) h1 (st0_2 t) h2 (st0_3 t) h3 (st0_4 t) h4 (st0_5 t) h5 (st0_6 t) h6 (st0_7 t) h7 (st0_8 t) h8
    (Memref.whole cc0_scratch0) (Memref.isWhole_whole _) (xB V c t) (wB V c t) (bB V c t) ((dat0 V c).before 5 t d5) ((dat0 V c).before 6 t d6)
    ((dat0 V c).before 7 t d7) ((dat0 V c).before 8 t d8) X
    (fun h => by have a := (first_iff t).mp h.1; have b := (last_iff t).mp h.2; omega)
  rw [cntAt_succ, sumAt_succ] at hrun
  rw [before0, before1, before2]
  simp only [e0, e1, e2, e3, e4, e5, e6, e7, e8]
  ihave Hw := hrun $$ [H0 H1 H2 H3 H4 H5 H6 H7 H8 HX]
  · isplitl [H0]; · iexact H0
    isplitl [H1]; · iexact H1
    isplitl [H2]; · iexact H2
    isplitl [H3]; · iexists _; iexact H3
    isplitl [H4]; · iexists _; iexact H4
    isplitl [H5]; · iexact H5
    isplitl [H6]; · iexact H6
    isplitl [H7]; · iexact H7
    isplitl [H8]; · iexact H8
    iexact HX
  iapply wp_wand $$ Hw
  iintro %_ ⟨H0, H1, H2, H3, H4, H5, H6, H7, H8, HX⟩
  have hrows := rows_succ V c t X hX
  isplitl [HX Hrest]
  · iexists _; isplitr; · ipureintro; exact hrows
    isplitl [HX]; · iexact HX
    iexact Hrest
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  by_cases hB : k0_cond2 (grid0.coords t) = 1#1
  · have h7v : t.val = 7 := (last_iff t).mp hB
    have hall : rowsStep (grid0.coords t) (xB V c t) (wB V c t) (bB V c t) X = ohAll V c := funext fun y =>
      hrows y (by have h : (y 0).val < 4096 := (y 0).isLt; omega)
    rw [post7_last V c t hB, post8_last V c t hB, if_pos hB, if_pos hB, hall, e7, e8, h7v]
    isplitl [H7]; · iexact H7
    iexact H8
  · rw [post7_mid V c t hB, post8_mid V c t hB, if_neg hB, if_neg hB]
    simp only [e7, e8]
    isplitl [H7]; · iexists d7; iexact H7
    iexists d8; iexact H8

theorem body_obligation (c : Dev nD) : BodyObligationLoose (dat0 V c) (defs₀ (F := F)) Variants.none none Set.univ := fun t => by
  rw [bigSep_W0, bigSep_W0]
  exact run_pt V c t

end Cert.Proof.WholeRegion0

end
-- ==== Proof.WholeRegion2.lean ====
/-
  The experts' call: one block of 128 rows through the two linear layers of the expert its table entry names.
-/
module

public import proofs.«01_k».proof.Proof.WholeRegion0
public import Idealize.ShloMosaic.Lib.Pipeline.RegionArraysTS

@[expose] public section

set_option synthInstance.maxSize 4096

noncomputable section

namespace Cert.Proof.WholeRegion2

open Cert.KernelIdeal Cert.KernelIdeal.Gen Cert.Proof.WholeSetup Cert.Proof.WholeTail Cert.Proof.WholeRouter Cert.Proof.WholeRegion0

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.Tactic
open Idealize.ShloMosaic.ValueIdx (ix1 ix2)

variable {F : FTy → Type} [FloatOps F]

local notation "𝕄" => MT nD τ sig (HIx 2) (Elt F) ℕ UU ℕ

/-- The two layers on a block, from the block's rows, the expert's weights and its biases. -/
def layers (x : Vec F S128x1024 .f32) (w : Vec F S1x2x1024x1024 .f32) (b : Vec F S1x2x1024 .f32) : Vec F S128x1024 .f32 :=
  k2_pay1 x
    (View.ld w (Rect.unit (s := S1x2x1024x1024) ![0, 0, 0, 0] S1x1x1024x1024.size inb_S1x2x1024x1024_S1x1x1024x1024_0_0_0_0))
    (View.ld w (Rect.unit (s := S1x2x1024x1024) ![0, 1, 0, 0] S1x1x1024x1024.size inb_S1x2x1024x1024_S1x1x1024x1024_0_1_0_0))
    (View.ld b (Rect.unit (s := S1x2x1024) ![0, 0, 0] S1x1x1024.size inb_S1x2x1024_S1x1x1024_0_0_0))
    (View.ld b (Rect.unit (s := S1x2x1024) ![0, 1, 0] S1x1x1024.size inb_S1x2x1024_S1x1x1024_0_1_0))

/-- The body on any buffers. -/
theorem expert_run (c : Dev nD) (i : grid2.Coords) (a1 : Memref sig .tc .smem S40 .i32) (h1 : a1.IsWhole) (a2 : Memref sig .tc .vmem S128x1024 .f32) (h2 : a2.IsWhole)
    (a3 : Memref sig .tc .vmem S1x2x1024x1024 .f32) (h3 : a3.IsWhole) (a4 : Memref sig .tc .vmem S1x2x1024 .f32) (h4 : a4.IsWhole) (a5 : Memref sig .tc .vmem S128x1024 .f32) (h5 : a5.IsWhole)
    (x : Vec F S128x1024 .f32) (w : Vec F S1x2x1024x1024 .f32) (b : Vec F S1x2x1024 .f32) :
    iprop(holds c a2 x ∗ holds c a3 w ∗ holds c a4 b ∗ (∃ d, holds c a5 d))
      ⊢ wp frame (wpE (defs₀ (F := F)) Variants.none c none) Set.univ (cc2__expert_body i a1 h1 a2 h2 a3 h3 a4 h4 a5 h5) fun _ =>
        iprop(holds c a2 x ∗ holds c a3 w ∗ holds c a4 b ∗ holds c a5 (layers x w b)) := by
  rw [cc2__expert_body_eq_skeleton]; unfold cc2__expert_body_skel
  iintro ⟨⟨%f2, %e2, H2⟩, ⟨%f3, %e3, H3⟩, ⟨%f4, %e4, H4⟩, ⟨%d5, %f5, -, H5⟩⟩
  sl_exec!
  sl_step
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  iexists _; isplitr; swap; (· iexact H5); ipureintro
  sl_unfold_words
  refine (read_store _ _ hz _ _ _).trans ?_
  unfold layers
  simp only [View.readAt_eq_ld, e2, e3, e4, View.ld_unit_zero (S := S128x1024) hz]

variable (adm : (p : Fin 2) → (pcfgs (F := F) p).Adm)
variable (V : (c : Dev nD) → (b : Ref sig .tc) → Buf (Elt F) ((c : Thread nD τ).loc b))

/-- The call's pipeline at the table the run has. -/
abbrev cfgE : Pipeline.Cfg sig Λ₀ := Pipeline.pin (pcfgs (F := F)) adm 1

/-- The blocks a point is handed: 128 rows, its expert's weights and biases. -/
abbrev xE (c : Dev nD) (t : Fin (cfgE adm).N) : Vec F S128x1024 .f32 := (((cfgE adm).win (0 : Fin 4)).blk t).view.read (Elt F) (V c main_v13)
abbrev wE (c : Dev nD) (t : Fin (cfgE adm).N) : Vec F S1x2x1024x1024 .f32 := (((cfgE adm).win (1 : Fin 4)).blk t).view.read (Elt F) (V c main_arg3)
abbrev bE (c : Dev nD) (t : Fin (cfgE adm).N) : Vec F S1x2x1024 .f32 := (((cfgE adm).win (2 : Fin 4)).blk t).view.read (Elt F) (V c main_arg4)

/-- The proof data of the experts' call entered at `V`. -/
def dat2 (c : Dev nD) : Dat τ (Elt F) (HIx 2) ℕ UU ℕ (cfgE adm) c where
  A w := V c (Pipeline.arrRef spec2 w)
  after w t := match w with
    | ⟨0, _⟩ => xE adm V c t
    | ⟨1, _⟩ => wE adm V c t
    | ⟨2, _⟩ => bE adm V c t
    | ⟨3, _⟩ => layers (xE adm V c t) (wE adm V c t) (bE adm V c t)
  Φ _ := iprop((Pipeline.scopedRest (Ix := HIx 2) (Name := ℕ) (U := UU) (Lvl := ℕ) (Val := Elt F) spec2 c ∗ emp) ∗ tablesAt (pcfgs (F := F)) adm 1 c)
  q _ := fullShare
  owed _ := (K (F := F)).Otc c 1
  recorded _ := below (F := F) c 1

theorem before0 (c : Dev nD) (t : Fin (cfgE adm).N) (d) : (dat2 adm V c).before (0 : Fin 4) t d = xE adm V c t :=
  ((dat2 adm V c).before_in_eq_fetched (0 : Fin 4) rfl (fun _ => rfl) (fun _ _ _ => rfl) (fun _ => rfl) t d).trans rfl
theorem before1 (c : Dev nD) (t : Fin (cfgE adm).N) (d) : (dat2 adm V c).before (1 : Fin 4) t d = wE adm V c t :=
  ((dat2 adm V c).before_in_eq_fetched (1 : Fin 4) rfl (fun _ => rfl) (fun _ _ _ => rfl) (fun _ => rfl) t d).trans rfl
theorem before2 (c : Dev nD) (t : Fin (cfgE adm).N) (d) : (dat2 adm V c).before (2 : Fin 4) t d = bE adm V c t :=
  ((dat2 adm V c).before_in_eq_fetched (2 : Fin 4) rfl (fun _ => rfl) (fun _ _ _ => rfl) (fun _ => rfl) t d).trans rfl

abbrev sg0 (t : Fin (cfgE adm).N) : Memref sig .tc .vmem S128x1024 .f32 := stage2_0 (((cfgE adm).slots t (0 : Fin 4)).cast nbuf2_0)
abbrev sg1 (t : Fin (cfgE adm).N) : Memref sig .tc .vmem S1x2x1024x1024 .f32 := stage2_1 (((cfgE adm).slots t (1 : Fin 4)).cast nbuf2_1)
abbrev sg2 (t : Fin (cfgE adm).N) : Memref sig .tc .vmem S1x2x1024 .f32 := stage2_2 (((cfgE adm).slots t (2 : Fin 4)).cast nbuf2_2)
abbrev sg3 (t : Fin (cfgE adm).N) : Memref sig .tc .vmem S128x1024 .f32 := stage2_3 (((cfgE adm).slots t (3 : Fin 4)).cast nbuf2_3)

theorem run_pt (c : Dev nD) (t : Fin (cfgE adm).N) :
    iprop((dat2 adm V c).Φ t.castSucc ∗ (dat2 adm V c).owesAt none t.castSucc
      ∗ (∃ d, owns (c : Thread nD τ) (sg0 adm t) fullShare ((dat2 adm V c).before (0 : Fin 4) t d))
      ∗ (∃ d, owns (c : Thread nD τ) (sg1 adm t) fullShare ((dat2 adm V c).before (1 : Fin 4) t d))
      ∗ (∃ d, owns (c : Thread nD τ) (sg2 adm t) fullShare ((dat2 adm V c).before (2 : Fin 4) t d))
      ∗ (∃ d, owns (c : Thread nD τ) (sg3 adm t) fullShare ((dat2 adm V c).before (3 : Fin 4) t d)))
      ⊢ wp frame (wpE (defs₀ (F := F)) Variants.none (c : Thread nD τ) none) Set.univ
        (cc2__expert_body (grid2.coords t) (Memref.whole main_v14) (Memref.isWhole_whole _) (sg0 adm t) (hstage2_0 _) (sg1 adm t) (hstage2_1 _) (sg2 adm t) (hstage2_2 _) (sg3 adm t) (hstage2_3 _)) fun _ =>
        iprop((dat2 adm V c).Φ t.succ ∗ (dat2 adm V c).owesAt none t.succ
          ∗ owns (c : Thread nD τ) (sg0 adm t) fullShare (xE adm V c t)
          ∗ owns (c : Thread nD τ) (sg1 adm t) fullShare (wE adm V c t)
          ∗ owns (c : Thread nD τ) (sg2 adm t) fullShare (bE adm V c t)
          ∗ owns (c : Thread nD τ) (sg3 adm t) fullShare (layers (xE adm V c t) (wE adm V c t) (bE adm V c t))) := by
  have e0 := fun X => owns_holds (F := F) c (sg0 adm t) (hstage2_0 _) X
  have e1 := fun X => owns_holds (F := F) c (sg1 adm t) (hstage2_1 _) X
  have e2 := fun X => owns_holds (F := F) c (sg2 adm t) (hstage2_2 _) X
  have e3 := fun X => owns_holds (F := F) c (sg3 adm t) (hstage2_3 _) X
  rw [show (dat2 adm V c).Φ t.succ = (dat2 adm V c).Φ t.castSucc from rfl, show (dat2 adm V c).owesAt none t.succ = (dat2 adm V c).owesAt none t.castSucc from rfl]
  iintro ⟨HΦ, Howes, ⟨%d0, H0⟩, ⟨%d1, H1⟩, ⟨%d2, H2⟩, ⟨%d3, H3⟩⟩
  rw [before0, before1, before2]
  simp only [e0, e1, e2, e3]
  ihave Hw := (expert_run (F := F) c (grid2.coords t) (Memref.whole main_v14) (Memref.isWhole_whole _) (sg0 adm t) (hstage2_0 _) (sg1 adm t) (hstage2_1 _)
    (sg2 adm t) (hstage2_2 _) (sg3 adm t) (hstage2_3 _) (xE adm V c t) (wE adm V c t) (bE adm V c t)) $$ [H0 H1 H2 H3]
  · isplitl [H0]; · iexact H0
    isplitl [H1]; · iexact H1
    isplitl [H2]; · iexact H2
    iexists _; iexact H3
  iapply wp_wand $$ Hw
  iintro %_ ⟨H0, H1, H2, H3⟩
  isplitl [HΦ]; · iexact HΦ
  isplitl [Howes]; · iexact Howes
  isplitl [H0]; · iexact H0
  isplitl [H1]; · iexact H1
  isplitl [H2]; · iexact H2
  iexact H3

theorem body_obligation (c : Dev nD) : BodyObligationLoose (dat2 adm V c) (defs₀ (F := F)) Variants.none none Set.univ := fun t => by
  rw [bigSep_W2, bigSep_W2]
  exact run_pt adm V c t

end Cert.Proof.WholeRegion2

end
-- ==== Proof.WholeCalls.lean ====
/-
  A TensorCore call of the whole kernel, run between two SparseCore calls: the core still owes the later calls' start
  signals, and what it has waited on stays below them.
-/
module

public import proofs.«01_k».proof.Proof.WholeRegion2

@[expose] public section

set_option synthInstance.maxSize 4096

noncomputable section

namespace Cert.Proof.WholeCalls

open Cert.KernelIdeal Cert.KernelIdeal.Gen Cert.Proof.WholeSetup

open Idealize.ShloMosaic Idealize.ShloMosaic.TcCoe Idealize.ShloMosaic.Pipeline
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.SparseCore.Cfg (HIx)
open Idealize.ShloMosaic.StableHlo (held)
open Idealize.ShloMosaic.Tactic

variable {F : FTy → Type} [FloatOps F]

local notation "𝕄" => MT nD τ sig (HIx 2) (Elt F) ℕ UU ℕ

variable (adm : (p : Fin 2) → (pcfgs (F := F) p).Adm)
  (pdats : (p : Fin 2) → (c : Dev nD) → Dat τ (Elt F) (HIx 2) ℕ UU ℕ (pin (pcfgs (F := F)) adm p) c)
  (p : Fin 2) (n : ℕ)

/-- What the core owes before SparseCore call `n`. -/
abbrev debts (c : Dev nD) (n : ℕ) : sProp 𝕄 :=
  iprop(∃ W, ⌜(K (F := F)).WBelow (T c : Thread nD τ) W (8 * n)⌝ ∗ owes (T c : Thread nD τ) ((K (F := F)).Otc c n) W)

theorem otc_cut (c : Dev nD) (g : GSem nD τ sig) (i : HIx 2) (h : 0 < (K (F := F)).Otc c n g i) : 8 * n < (K (F := F)).lev g i :=
  SparseCore.Cfg.lev_of_Otc_pos h

/-- The call's record: entered from the host's buffers at `W c`, left with them at `afterRegion`. -/
def seg (kit : PLaunchFacts (nD := nD) (τ := τ) (pcfgs (F := F)) p)
    (hbody : ∀ c, BodyObligationLoose (pdats p c) (defs₀ (F := F)) Variants.none none Set.univ)
    (howed : ∀ c t, (pdats p c).owed t = (K (F := F)).Otc c n) (hrec : ∀ c t, (pdats p c).recorded t = below (F := F) c n)
    (hshare : ∀ c w, (pdats p c).share w = fullShare)
    (hin : ∀ c, iprop(scopedRest (pin (pcfgs (F := F)) adm p).spec c ∗ tablesAt (pcfgs (F := F)) adm p c) ⊢ (pdats p c).Φ 0)
    (hout : ∀ c, (pdats p c).Φ (Fin.last (pin (pcfgs (F := F)) adm p).N)
      ⊢ iprop(scopedRest (pin (pcfgs (F := F)) adm p).spec c ∗ tablesAt (pcfgs (F := F)) adm p c))
    (hS : arrRefs (τ := τ) (pcfgs (F := F) p).spec ⊆ ucRefs τ sig) (hS' : tblRefs (τ := τ) (pcfgs (F := F) p).pre ⊆ ucRefs τ sig)
    (W : Dev nD → Valuation τ sig (Elt F))
    (hW : ∀ c w, (pdats p c).arrAt w 0 = W c (Proc.devRef .tc (arrRef (pin (pcfgs (F := F)) adm p).spec w)))
    (hT : ∀ c k, (adm p).1 k = W c (Proc.devRef .tc ((pcfgs (F := F) p).pre.ref k))) :
    RegionSeg (pcfgs (F := F)) adm pdats (none : HIx 2) (defs₀ (F := F)) Variants.none (K (F := F)).L (K (F := F)).lev p where
  win := kit.to₀.win
  block_pos := kit.block_pos
  stage_whole := kit.stage_whole
  K := PEmpty
  osem k := k.elim
  ho := OwnSemFacts.none _
  hbody := hbody
  hwaits c := cellsWaits_of_cut (pin (pcfgs (F := F)) adm) pdats none p c (8 * n) ((K (F := F)).Otc c n) (howed c)
    (fun _ _ => Finset.mem_univ _) (fun _ _ => Nat.zero_le _) (fun g i h => ⟨Finset.mem_univ _, otc_cut n c g i h⟩)
  pre c := iprop(held (c.tc : Thread nD τ) (ucRefs τ sig) (W c) ∗ debts c n)
  post c := iprop(held (c.tc : Thread nD τ) (ucRefs τ sig) (afterRegion (pdats p c) (W c)) ∗ debts c n)
  X _ := iprop(emp)
  Y c := tablesAt (pcfgs (F := F)) adm p c
  Z c := held (c.tc : Thread nD τ) ((ucRefs τ sig \ arrRefs (pcfgs (F := F) p).spec) \ tblRefs (pcfgs (F := F) p).pre) (W c)
  hentry c := by
    rw [ownSems0_none, StableHlo.held_sub_split (c.tc : Thread nD τ) hS (W c),
      StableHlo.held_sub_split (c.tc : Thread nD τ) (tblRefs_sub_sdiff (pcfgs (F := F) p).spec (pcfgs (F := F) p).pre kit.pre.disj hS') (W c),
      ← arrays_held (pcfgs (F := F)) adm pdats p kit c (hshare c) ((pdats p c).arrAt · 0) (W c) (hW c),
      ← prefHeld_held (pcfgs (F := F) p).pre kit.pre.inj c (adm p).1 (W c) (hT c)]
    iintro ⟨⟨⟨Ha, Ht, Hr⟩, %Wd, %hWd, HO⟩, -, -⟩
    imodintro
    isplitl [Ha]; · iexact Ha
    isplitl [Ht]; · iexact Ht
    isplitl [HO]
    · unfold Dat.owesAt owesWithin Dat.bound
      rw [howed c 0, hrec c]
      iexists Wd; isplitr; · ipureintro; exact fun q hq => Or.inl (hWd q hq)
      iexact HO
    isplitr; · iempintro
    iexact Hr
  hin c := (show _ ⊢ iprop(scopedRest (pin (pcfgs (F := F)) adm p).spec c ∗ tablesAt (pcfgs (F := F)) adm p c) from by
    iintro ⟨-, Ht, Hr⟩
    isplitl [Hr]; · iexact Hr
    iexact Ht).trans (hin c)
  hout c := (hout c).trans (by
    rw [ownSems0_none]
    iintro ⟨Hr, Ht⟩
    isplitl [Ht]; · iexact Ht
    isplitr; · iempintro
    iexact Hr)
  hexit c := by
    rw [StableHlo.held_sub_split (c.tc : Thread nD τ) hS (afterRegion (pdats p c) (W c)),
      StableHlo.held_sub_split (c.tc : Thread nD τ) (tblRefs_sub_sdiff (pcfgs (F := F) p).spec (pcfgs (F := F) p).pre kit.pre.disj hS') (afterRegion (pdats p c) (W c)),
      ← arrays_held (pcfgs (F := F)) adm pdats p kit c (hshare c) ((pdats p c).arrAt · (pin (pcfgs (F := F)) adm p).N) (afterRegion (pdats p c) (W c))
        (fun w => (afterRegion_arr (pdats p c) (W c) kit.win.arr_inj w).symm),
      ← prefHeld_held (pcfgs (F := F) p).pre kit.pre.inj c (adm p).1 (afterRegion (pdats p c) (W c))
        (fun k => (hT c k).trans (afterRegion_of_not_arr (pdats p c) (W c) (kit.pre.disj k)).symm),
      StableHlo.held_congr (c.tc : Thread nD τ) (S := (ucRefs τ sig \ arrRefs (pcfgs (F := F) p).spec) \ tblRefs (pcfgs (F := F) p).pre)
        (V := afterRegion (pdats p c) (W c)) (V' := W c) (fun b hb => afterRegion_off (pdats p c) (W c) (ucRefs τ sig) b (Finset.mem_sdiff.mp hb).1)]
    iintro ⟨Ha, HO, Ht, Hr⟩
    imodintro
    isplitl [Ha Ht Hr]
    · isplitl [Ha]; · iexact Ha
      isplitl [Ht]; · iexact Ht
      iexact Hr
    unfold Dat.owesAt owesWithin Dat.bound
    rw [howed c (Fin.last _), hrec c]
    icases HO with ⟨%Wd, %hWd, HO⟩
    iexists Wd; isplitr
    · ipureintro
      intro q hq
      rcases hWd hq with h | ⟨w, s, rfl⟩
      · exact h
      · exact Nat.zero_le _
    iexact HO

/-- The call in the lifted program. -/
theorem call_wp (R : RegionSeg (pcfgs (F := F)) adm pdats (none : HIx 2) (defs₀ (F := F)) Variants.none (K (F := F)).L (K (F := F)).lev p)
    (c : Dev nD) (Q : PUnit → sProp 𝕄) :
    iprop((iprop(boundary (c.tc : Thread nD τ) ∗ R.post c) -∗ Q ⟨⟩) ∗ boundary (c.tc : Thread nD τ) ∗ R.pre c ∗ levAts (K (F := F)).L (K (F := F)).lev
        ∗ cellsGhost (pin (pcfgs (F := F)) adm) EP p c ∗ toksInit (pin (pcfgs (F := F)) adm) EP p c)
      ⊢ wp frame (wpE ((K (F := F)).defs (D (F := F))) 𝒱 (c.tc : Thread nD τ) none) Set.univ
        (Prog.lift (.customCall (SparseCore.inner (Pipeline.entry p)) ())) Q := by
  refine BIBase.Entails.trans ?_ ((K (F := F)).wp_liftProg (D (F := F)) 𝒱 (c.tc : Thread nD τ) Set.univ none (Prog.lift (.customCall (Pipeline.entry p) ())) Q)
  refine BIBase.Entails.trans ?_ (RegionSeg.wp (pcfgs (F := F)) adm pdats none (cellOf_inj adm) EP (defs₀ (F := F)) Variants.none (K (F := F)).L (K (F := F)).lev R c none
    (fun u hu => nomatch hu) (fun x => .ret x) Q)
  iintro ⟨Hk, Hb, Hp, Hl, Hg, Ht⟩
  isplitl [Hk]
  · iintro H
    rw [wp_ret]; imodintro
    iapply Hk; iexact H
  isplitl [Hb]; · iexact Hb
  isplitl [Hp]; · iexact Hp
  isplitl [Hl]; · iexact Hl
  isplitl [Hg]; · iexact Hg
  iexact Ht

end Cert.Proof.WholeCalls

end
-- ==== Proof.WholeScatter.lean ====
/-
  One tile of the SparseCore scatter. The tile `(c, s)` reads 1024 rows of the source in two chunks of 512. For each chunk
  it fetches the 512 row numbers and the 512 rows, then streams the rows to the rows of the target the list names. The
  list names no row twice, so a tile owns exactly the target rows its part of the list names. The loop keeps one fact: the
  rows named by the chunks already done hold the source's rows.
-/
module

public import proofs.«01_k».proof.Proof.WholeSetup
public import Idealize.ShloMosaic.Lib.SparseCore.Scatter

@[expose] public section

noncomputable section

namespace Cert.Proof.WholeScatter

open Cert.KernelIdeal Cert.KernelIdeal.Gen Cert.Proof.WholeSetup

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 2) (Elt F) ℕ UU ℕ

/-! ## The buffers -/

/-- The source rows, the list of row numbers, and the target. -/
abbrev xLoc (d : Dev nD) : Loc nD τ sig := (SparseCore.T d).loc main_v11
abbrev iLoc (d : Dev nD) : Loc nD τ sig := (SparseCore.T d).loc main_v10
abbrev oLoc (d : Dev nD) : Loc nD τ sig := (SparseCore.T d).loc main_v12

local notation "xV" => (Memref.whole Cert.KernelIdeal.main_v11_scv : Memref Cert.KernelIdeal.sig Kind.scVector Space.hbm Cert.KernelIdeal.S32768x128 EltTy.f32)
local notation "iV" => (Memref.whole Cert.KernelIdeal.main_v10_scv : Memref Cert.KernelIdeal.sig Kind.scVector Space.hbm Cert.KernelIdeal.S32768 EltTy.i32)
local notation "oV" => (Memref.whole Cert.KernelIdeal.main_v12_scv : Memref Cert.KernelIdeal.sig Kind.scVector Space.hbm Cert.KernelIdeal.S40960x128 EltTy.f32)
local notation "sV" => (Memref.whole Cert.KernelIdeal.cc1_scratch0 : Memref Cert.KernelIdeal.sig Kind.scVector Space.vmem Cert.KernelIdeal.S512 EltTy.i32)
local notation "rV" => (Memref.whole Cert.KernelIdeal.cc1_scratch1 : Memref Cert.KernelIdeal.sig Kind.scVector Space.vmem Cert.KernelIdeal.S512x128 EltTy.f32)

open Classical in
/-- The target rows that band `n` of 1024 list entries names. -/
def named (fI : S32768.Idx → Elt F .i32) (n : ℕ) : Finset S40960x128.Idx :=
  Finset.univ.filter fun i => ∃ j : S32768.Idx, (j 0).val / 1024 = n ∧ (fI j).toNat = (i 0).val

theorem mem_named {fI : S32768.Idx → Elt F .i32} {n : ℕ} {i : S40960x128.Idx} :
    i ∈ named fI n ↔ ∃ j : S32768.Idx, (j 0).val / 1024 = n ∧ (fI j).toNat = (i 0).val := by simp [named]

open Classical in
/-- What the scatter leaves: a row the list names holds the source row that names it; any other row is as it was. -/
def sct (fI : S32768.Idx → Elt F .i32) (fX : S32768x128.Idx → Elt F .f32) (fO : S40960x128.Idx → Elt F .f32) : S40960x128.Idx → Elt F .f32 :=
  fun i => if h : ∃ j : S32768.Idx, (fI j).toNat = (i 0).val then fX (ix2 (n0 := 32768) (n1 := 128) (h.choose 0) (i 1)) else fO i

/-- The list names no row twice. -/
def Distinct (fI : S32768.Idx → Elt F .i32) : Prop := ∀ j j' : S32768.Idx, (fI j).toNat = (fI j').toNat → j = j'

theorem sct_at {fI : S32768.Idx → Elt F .i32} (hd : Distinct fI) (fX : S32768x128.Idx → Elt F .f32) (fO : S40960x128.Idx → Elt F .f32)
    (j : S32768.Idx) (i : S40960x128.Idx) (h : (fI j).toNat = (i 0).val) : sct fI fX fO i = fX (ix2 (n0 := 32768) (n1 := 128) (j 0) (i 1)) := by
  have h' : ∃ j : S32768.Idx, (fI j).toNat = (i 0).val := ⟨j, h⟩
  unfold sct
  rw [dif_pos h', hd h'.choose j (h'.choose_spec.trans h.symm)]

section Tile

variable (d : Dev nD) (L : grid1.Coords)
variable (fI : S32768.Idx → Elt F .i32) (fX : S32768x128.Idx → Elt F .f32)

abbrev cV (L : grid1.Coords) : Fin τ.nSC := (L 0).castLE hcore1
abbrev jV (L : grid1.Coords) : Fin τ.nSub := (L 1).castLE hsub1
/-- The tile's thread and the rows it owns. -/
abbrev thr (d : Dev nD) (L : grid1.Coords) : Thread nD τ := V d (cV L) (jV L)
abbrev mine (L : grid1.Coords) : Finset S40960x128.Idx := named fI (2 * (L 1).val + (L 0).val)

/-- The part of the source and of the list a trip reads; the whole target. -/
abbrev xCh (L : grid1.Coords) (k : Fin k1_t1_loop.trips) : Memref sig .scVector .hbm S512x128 .f32 :=
  (xV).slice (Rect.unit (s := S32768x128) (k1_off2 L k) S512x128.size (k1_off2_inb L k)) (fun _ => rfl)
abbrev iCh (L : grid1.Coords) (k : Fin k1_t1_loop.trips) : Memref sig .scVector .hbm S512 .i32 :=
  (iV).slice (Rect.unit (s := S32768) (k1_off1 L k) S512.size (k1_off1_inb L k)) (fun _ => rfl)
abbrev oAll : Memref sig .scVector .hbm S40960x128 .f32 :=
  (oV).slice (Rect.unit (s := S40960x128) ![0, 0] S40960x128.size inb_S40960x128_S40960x128_0_0) (fun _ => rfl)

theorem trips_eq : k1_t1_loop.trips = 2 := by decide

/-- Where the trip's entry `x` stands in the list. -/
def pos (L : grid1.Coords) (k : Fin k1_t1_loop.trips) (x : Fin 512) : Fin 32768 :=
  ⟨2048 * (L 1).val + 1024 * (L 0).val + 512 * k.val + x.val, by
    have hk : k.val < 2 := lt_of_lt_of_eq k.isLt trips_eq
    have hc : (L 0).val < 2 := (L 0).isLt
    have hs : (L 1).val < 16 := (L 1).isLt
    omega⟩

theorem emb_xCh (k : Fin k1_t1_loop.trips) (x : S512x128.Idx) :
    (xCh L k).view.emb x = (ix2 (n0 := 32768) (n1 := 128) (pos L k (x 0)) (x 1) : S32768x128.Idx) := by
  refine funext fun a => Fin.ext ?_
  show (k1_off2 L k) a + 1 * (x a).val = _
  rw [k1_off2_eq, Nat.one_mul]
  match a with
  | 0 => rfl
  | 1 => exact Nat.zero_add _

theorem emb_iCh (k : Fin k1_t1_loop.trips) (x : S512.Idx) : (iCh L k).view.emb x = (ix1 (n := 32768) (pos L k (x 0)) : S32768.Idx) := by
  refine funext fun a => Fin.ext ?_
  show (k1_off1 L k) a + 1 * (x a).val = _
  rw [k1_off1_eq, Nat.one_mul]
  match a with
  | 0 => rfl

theorem emb_oAll (x : S40960x128.Idx) : (oAll).view.emb x = x := by
  refine funext fun a => Fin.ext ?_
  match a with
  | 0 => exact (Nat.zero_add _).trans (Nat.one_mul _)
  | 1 => exact (Nat.zero_add _).trans (Nat.one_mul _)

theorem mem_row (k : Fin (S40960x128.size gathers_S40960x128_S512x128.axis)) (i : S40960x128.Idx) :
    i ∈ ((oAll).view.slice (S40960x128.rowRect gathers_S40960x128_S512x128.axis k)).set ↔ i gathers_S40960x128_S512x128.axis = k := by
  simp only [View.set, Finset.mem_map, Finset.mem_univ, _root_.true_and]
  constructor
  · rintro ⟨y, rfl⟩
    exact (congrFun (emb_oAll ((S40960x128.rowRect gathers_S40960x128_S512x128.axis k).emb y)) gathers_S40960x128_S512x128.axis).trans
      (Shape.rowRect_emb_axis _ _ _)
  · rintro rfl
    refine ⟨S40960x128.rowProj gathers_S40960x128_S512x128.axis i, ?_⟩
    exact (emb_oAll _).trans (Shape.rowRect_emb_rowProj _ _)

/-- The target after the stream, at a row entry `x 0` names: the row buffer's row. -/
theorem scat_at (r : Fin (S512x128.size gathers_S40960x128_S512x128.axis') → Fin (S40960x128.size gathers_S40960x128_S512x128.axis)) (hr : Function.Injective r)
    (fs : Buf (Elt F) ((rV).view.loc (thr d L))) (fd : Buf (Elt F) ((oAll).view.loc (thr d L))) (x : Fin 512) (i : S40960x128.Idx)
    (hi : i 0 = r x) :
    SparseCore.scatterBuf (thr d L) (oAll).view gathers_S40960x128_S512x128.axis r (SparseCore.scatterRowPayload (F := F) (thr d L) rV gathers_S40960x128_S512x128 fs) fd i
      = fs (ix2 (n0 := 512) (n1 := 128) x (i 1)) := by
  have hm : i ∈ ((oAll).view.slice (S40960x128.rowRect gathers_S40960x128_S512x128.axis (r x))).set := (mem_row _ _).mpr hi
  rw [SparseCore.scatterBuf_of_mem (thr d L) (oAll).view gathers_S40960x128_S512x128.axis r hr _ fd hm]
  have he : i = ((oAll).view.slice (S40960x128.rowRect gathers_S40960x128_S512x128.axis (r x))).emb (S40960x128.rowProj gathers_S40960x128_S512x128.axis i) := by
    refine Eq.trans ?_ (emb_oAll _).symm
    refine (Shape.rowRect_emb_rowProj gathers_S40960x128_S512x128.axis i).symm.trans ?_
    exact congrArg (fun y => (S40960x128.rowRect gathers_S40960x128_S512x128.axis y).emb (S40960x128.rowProj gathers_S40960x128_S512x128.axis i)) hi
  refine (congrArg _ he).trans ((View.write_emb_of_mem (Val := Elt F) _ _ (Finset.mem_univ _)).trans ((cast_eq _ _).trans ?_))
  unfold SparseCore.scatterRowPayload
  rw [View.read_apply, cast_eq]
  congr 1
  refine funext fun a => Fin.ext ?_
  match a with
  | 0 => exact congrArg Fin.val (Shape.rowRect_emb_axis (s := S512x128) gathers_S40960x128_S512x128.axis' x _)
  | 1 =>
    refine (Shape.rowRect_emb_of_ne (s := S512x128) gathers_S40960x128_S512x128.axis' x
      ((Shape.idxEquiv gathers_S40960x128_S512x128.rowShape_eq).symm (S40960x128.rowProj gathers_S40960x128_S512x128.axis i)) (b := (1 : Fin 2)) (by decide)).trans ?_
    refine (Shape.idxEquiv_symm_apply_val gathers_S40960x128_S512x128.rowShape_eq _ (1 : Fin 2)).trans ?_
    rfl

/-! ## What the tile holds -/

abbrev cA (d : Dev nD) (c : Fin τ.nSC) (i : Fin τ.nSub) : GSem nD τ sig := (V d c i, .dma cc1_scratch2.sem)
abbrev cB (d : Dev nD) (c : Fin τ.nSC) (i : Fin τ.nSub) : GSem nD τ sig := (V d c i, .dma cc1_scoped0.sem)
abbrev cC (d : Dev nD) (c : Fin τ.nSC) (i : Fin τ.nSub) : GSem nD τ sig := (V d c i, .dma cc1_scoped1.sem)

theorem ownSems0_V :
    (ownSems0 (thr d L) : sProp 𝕄)
      = iprop(semVal (cA d (cV L) (jV L)) 0 ∗ semVal (cB d (cV L) (jV L)) 0 ∗ semVal (cC d (cV L) (jV L)) 0
          ∗ bigSep ((((ownCells (thr d L)).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc1_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc1_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc1_scoped1.sem : SemLoc sig).isScoped .scVector = true; decide⟩⟩⟩)]

/-- The tile's own buffers are its two scratch buffers, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- What the loop keeps before trip `k`: the rows the tile owns, those named by the first `k` chunks done; the shares of
    the source and of the list; the scratch buffers at some contents; the three counters at zero; the waits owed. -/
def inv (q : PosShare TreeShare) (O : CellTallies nD τ sig (HIx 2)) (W : Waits sig (HIx 2)) (k : Nat) (_ : PUnit) : sProp 𝕄 :=
  iprop(Transfers.MayWaits (thr d L) (none : HIx 2) O
    ∗ ((iV).view.loc (thr d L) ↦{q} fI)
    ∗ ((xV).view.loc (thr d L) ↦{q} fX)
    ∗ (∃ f, ⌜∀ (j : S32768.Idx) (i : S40960x128.Idx), (j 0).val / 1024 = 2 * (L 1).val + (L 0).val →
          (j 0).val < 2048 * (L 1).val + 1024 * (L 0).val + 512 * k → (fI j).toNat = (i 0).val → f i = fX (ix2 (n0 := 32768) (n1 := 128) (j 0) (i 1))⌝
        ∗ (oAll).view.loc (thr d L) ↦[mine fI L]{fullShare} f)
    ∗ (∃ f, (sV).view.loc (thr d L) ↦{fullShare} f)
    ∗ (∃ f, (rV).view.loc (thr d L) ↦{fullShare} f)
    ∗ semVal (cA d (cV L) (jV L)) 0 ∗ semVal (cB d (cV L) (jV L)) 0 ∗ semVal (cC d (cV L) (jV L)) 0
    ∗ ∃ W', ⌜∀ p ∈ W', p ∈ W ∨ p.2 = none⌝ ∗ owes (thr d L) O W')

/-- What the list buffer holds once the trip's part of the list has landed in it. -/
theorem list_read (k : Fin k1_t1_loop.trips) (fs : Buf (Elt F) ((thr d L).loc cc1_scratch0)) (pay : S512.Idx → Elt F .i32)
    (hpay : pay = (iCh L k).view.read (Elt F) fI) (x : S512.Idx) :
    (sV).view.read (Elt F) (View.write (Elt F) (sV).view fs pay Finset.univ) x = fI (ix1 (n := 32768) (pos L k (x 0))) := by
  subst hpay
  rw [View.write_whole_univ]
  simp only [Memref.view_whole, View.read_whole]
  rw [View.read_apply, cast_eq, emb_iCh]

/-- What the row buffer holds once the trip's source rows have landed in it. -/
theorem row_read (k : Fin k1_t1_loop.trips) (fr : Buf (Elt F) ((thr d L).loc cc1_scratch1)) (pay : S512x128.Idx → Elt F .f32)
    (hpay : pay = (xCh L k).view.read (Elt F) fX) (x : S512x128.Idx) :
    (View.write (Elt F) (rV).view fr pay Finset.univ : S512x128.Idx → Elt F .f32) x = fX (ix2 (n0 := 32768) (n1 := 128) (pos L k (x 0)) (x 1)) := by
  subst hpay
  rw [View.write_whole_univ, View.read_apply, cast_eq, emb_xCh]

section Named

variable (k : Fin k1_t1_loop.trips) {idx : S512.Idx → Elt F .i32} (hidx : ∀ x, idx x = fI (ix1 (n := 32768) (pos L k (x 0))))
  (hn : S512.numel = S512x128.size gathers_S40960x128_S512x128.axis')
  (hin : ∀ x, (idx x).toNat < S40960x128.size gathers_S40960x128_S512x128.axis)

include hidx in
/-- The row entry `x` of the stream names. -/
theorem rows_val (x : Fin 512) : (SparseCore.rows (F := F) idx hn hin x).val = (fI (ix1 (n := 32768) (pos L k x))).toNat := by
  show (idx (S512.rowMajor.symm (Fin.cast hn.symm x))).toNat = _
  have hsym : S512.rowMajor.symm (Fin.cast hn.symm x) = (ix1 (n := 512) x : S512.Idx) :=
    (Equiv.symm_apply_eq _).mpr (Fin.ext (by rw [Shape.rowMajor_val_one]; rfl))
  rw [hsym, hidx]

include hidx in
theorem rows_inj (hd : Distinct fI) : Function.Injective (SparseCore.rows (F := F) idx hn hin) := by
  intro x x' h
  have h' := congrArg Fin.val h
  rw [rows_val L fI k hidx hn hin x, rows_val L fI k hidx hn hin x'] at h'
  have h2 : pos L k x = pos L k x' := congrFun (hd _ _ h') 0
  have h3 := congrArg Fin.val h2
  refine Fin.ext ?_
  simp only [pos] at h3
  omega

theorem pos_band (x : Fin 512) : (pos L k x).val / 1024 = 2 * (L 1).val + (L 0).val := by
  have hk : k.val < 2 := lt_of_lt_of_eq k.isLt trips_eq
  simp only [pos]
  omega

include hidx in
theorem mem_namedRows (i : S40960x128.Idx) :
    i ∈ SparseCore.namedRows (thr d L) (oAll).view gathers_S40960x128_S512x128.axis (SparseCore.rows (F := F) idx hn hin)
      ↔ ∃ x : Fin 512, (fI (ix1 (n := 32768) (pos L k x))).toNat = (i 0).val := by
  rw [SparseCore.namedRows_eq, Finset.mem_biUnion]
  constructor
  · rintro ⟨x, -, hx⟩
    exact ⟨x, (rows_val L fI k hidx hn hin x).symm.trans (congrArg Fin.val ((mem_row _ _).mp hx)).symm⟩
  · rintro ⟨x, hx⟩
    exact ⟨x, Finset.mem_univ _, (mem_row _ _).mpr (Fin.ext (hx.symm.trans (rows_val L fI k hidx hn hin x).symm))⟩

include hidx in
theorem namedRows_mine : SparseCore.namedRows (thr d L) (oAll).view gathers_S40960x128_S512x128.axis (SparseCore.rows (F := F) idx hn hin) ⊆ mine fI L := by
  intro i hi
  obtain ⟨x, hx⟩ := (mem_namedRows d L fI k hidx hn hin i).mp hi
  exact mem_named.mpr ⟨_, pos_band L k x, hx⟩

end Named

set_option maxHeartbeats 4000000 in
theorem tile_body (hF : (K (F := F)).Facts) (hI : ∀ j, (fI j).toNat < 40960) (hd : Distinct fI) (q : PosShare TreeShare) (fO : S40960x128.Idx → Elt F .f32)
    (O : CellTallies nD τ sig (HIx 2)) (W : Waits sig (HIx 2)) (hO : ∀ g, O g none = 0) :
    iprop(levAts (K (F := F)).L (K (F := F)).lev ∗ emp
        ∗ ((iLoc d ↦{q} fI : sProp 𝕄) ∗ (xLoc d ↦{q} fX) ∗ oLoc d ↦[mine fI L]{fullShare} fO)
        ∗ scopedBufs (thr d L) ∗ scopedSems0 (thr d L) ∗ owes (thr d L) O W)
      ⊢ wp frame (wpE (defs₀ (F := F)) 𝒱₀ (thr d L) none) Set.univ
          (cc1_run L xV (Memref.isWhole_whole _) iV (Memref.isWhole_whole _) oV (Memref.isWhole_whole _)
            sV (Memref.isWhole_whole _) rV (Memref.isWhole_whole _) cc1_scratch2 cc1_scoped0 cc1_scoped1)
          fun _ => iprop(((iLoc d ↦{q} fI : sProp 𝕄) ∗ (xLoc d ↦{q} fX) ∗ oLoc d ↦[mine fI L]{fullShare} sct fI fX fO)
            ∗ scopedBufs (thr d L) ∗ scopedSems0 (thr d L)
            ∗ ∃ W', ⌜∀ p ∈ W', p ∈ W ∨ p.2 = none⌝ ∗ owes (thr d L) O W') := by
  simp only [cc1_run_eq_skeleton]; unfold cc1_run_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv d L fI fX q O W) $$ [Hmw Hi Hx Ho Hs Hr HsemA HsemB HsemC HO]
  case region =>
    intro k _
    unfold inv
    iintro ⟨#Hmw, Hi, Hx, ⟨%f, %hf, Ho⟩, ⟨%fs, Hs⟩, ⟨%fr, Hr⟩, HsemA, HsemB, HsemC, %W', %hW', HO⟩
    sl_exec (disch := first | exact View.amount_pos _ _ (show 0 < S512.numel by decide) | exact View.amount_pos _ _ (show 0 < S512x128.numel by decide))
    have hidx := list_read d L fI k fs (tile_body.sl.dma0 L fI k) rfl
    have hin : ∀ x, ((sV).view.read (Elt F) (View.write (Elt F) (sV).view fs (tile_body.sl.dma0 L fI k) Finset.univ) x).toNat < S40960x128.size gathers_S40960x128_S512x128.axis :=
      fun x => by rw [hidx]; exact hI _
    have hn : S512.numel = S512x128.size gathers_S40960x128_S512x128.axis' := by decide
    have hinj := rows_inj L fI k hidx hn hin hd
    have hrs : (rV).view.set = Finset.univ := View.set_whole _
    have hss : (sV).view.set = Finset.univ := View.set_whole _
    ihave Hr'' := (Entails.of_eq (show ((rV).view.loc (thr d L) ↦{fullShare} View.write (Elt F) (rV).view fr (tile_body.sl.dma0_1 L fX k) Finset.univ : sProp 𝕄)
        = (rV).view.loc (thr d L) ↦[(rV).view.set]{fullShare} View.write (Elt F) (rV).view fr (tile_body.sl.dma0_1 L fX k) Finset.univ by rw [hrs])) $$ Hr
    ihave Hs'' := (Entails.of_eq (show ((sV).view.loc (thr d L) ↦{fullShare} View.write (Elt F) (sV).view fs (tile_body.sl.dma0 L fI k) Finset.univ : sProp 𝕄)
        = (sV).view.loc (thr d L) ↦[(sV).view.set]{fullShare} View.write (Elt F) (sV).view fs (tile_body.sl.dma0 L fI k) Finset.univ
        by rw [hss])) $$ Hs
    ihave Hoc := (SparseCore.pointsTo_namedRows_split (thr d L) (oAll).view gathers_S40960x128_S512x128.axis _ (namedRows_mine d L fI k hidx hn hin) f).1 $$ Ho
    icases Hoc with ⟨Hoc, Hor⟩
    have hN := SparseCore.sum_scatterCredit_eq_srcCredit (c := thr d L) rV (oAll) gathers_S40960x128_S512x128 rfl (SparseCore.rows (F := F) _ hn hin) (fun _ => rfl) (fun _ => rfl)
    iapply (SparseCore.wp_indirectScatterLocal countersEmb 𝒱₀ (thr d L) none (hg := gathers_S40960x128_S512x128) (default : HIx 2)
        (rV).view.dmaCredit (by decide) hin hinj hN) $$ [Hr'' Hoc Hs'' HsemA]
    · isplitl [Hr'']; · iexact Hr''
      isplitl [Hoc]; · iexact Hoc
      isplitl [Hs'']; · iexact Hs''
      iexact HsemA
    iintro Hfl
    sl_exec
    iapply (Transfers.wp_waitLocalO countersEmb 𝒱₀ (thr d L) none (default : HIx 2) (rfl : (rV).view.dmaCredit = _)) $$ [Hfl HO]
    · isplitl [Hfl]; · iexact Hfl
      isplitl [HO]; · iexact HO
      iapply (Transfers.MayWaits.elim (SemLoc.dma cc1_scratch2.sem)) $$ Hmw
    iintro ⟨⟨Hoc, Hr, Hs⟩, HsemA, HO⟩
    let g := SparseCore.scatterBuf (thr d L) (oAll).view gathers_S40960x128_S512x128.axis (SparseCore.rows (F := F) _ hn hin)
      (SparseCore.scatterRowPayload (F := F) (thr d L) rV gathers_S40960x128_S512x128
        (View.write (Elt F) (rV).view fr (tile_body.sl.dma0_1 L fX k) Finset.univ)) f
    ihave Hor' := (Entails.of_eq (SparseCore.pointsTo_rest_scatterBuf (thr d L) (oAll).view gathers_S40960x128_S512x128.axis (SparseCore.rows (F := F) _ hn hin)
      (SparseCore.scatterRowPayload (F := F) (thr d L) rV gathers_S40960x128_S512x128
        (View.write (Elt F) (rV).view fr (tile_body.sl.dma0_1 L fX k) Finset.univ)) f (mine fI L))) $$ Hor
    ihave Ho := (SparseCore.pointsTo_namedRows_split (thr d L) (oAll).view gathers_S40960x128_S512x128.axis _ (namedRows_mine d L fI k hidx hn hin) g).2 $$ [Hoc Hor']
    · isplitl [Hoc] <;> iassumption
    ihave Hr3 := (Entails.of_eq (show ((rV).view.loc (thr d L) ↦[(rV).view.set]{fullShare} _ : sProp 𝕄)
        = (rV).view.loc (thr d L) ↦{fullShare} _ by rw [hrs])) $$ Hr
    ihave Hs3 := (Entails.of_eq (show ((sV).view.loc (thr d L) ↦[(sV).view.set]{fullShare} _ : sProp 𝕄)
        = (sV).view.loc (thr d L) ↦{fullShare} _ by rw [hss])) $$ Hs
    sl_exec
    sl_step
    isplitr; · iexact Hmw
    isplitl [Hi]; · iexact Hi
    isplitl [Hx]; · iexact Hx
    isplitl [Ho]
    · iexists g; isplitr
      · ipureintro; intro j i hj hlt hji
        by_cases hk : (j 0).val < 2048 * (L 1).val + 1024 * (L 0).val + 512 * k.val
        · have hm : i ∉ SparseCore.namedRows (thr d L) (oAll).view gathers_S40960x128_S512x128.axis (SparseCore.rows (F := F) _ hn hin) := fun hm => by
            obtain ⟨x, hx⟩ := (mem_namedRows d L fI k hidx hn hin i).mp hm
            have h1 : (ix1 (n := 32768) (pos L k x) : S32768.Idx) = j := hd _ _ (hx.trans hji.symm)
            have h2 := congrArg (fun y : S32768.Idx => (y 0).val) h1
            simp only [pos] at h2
            omega
          exact (SparseCore.scatterBuf_of_not_mem (thr d L) (oAll).view gathers_S40960x128_S512x128.axis _ _ f hm).trans (hf j i hj hk hji)
        · have hx : (j 0).val - (2048 * (L 1).val + 1024 * (L 0).val + 512 * k.val) < 512 := by omega
          have hp : pos L k ⟨_, hx⟩ = j 0 := Fin.ext (by simp only [pos]; omega)
          refine (scat_at d L (SparseCore.rows (F := F) _ hn hin) hinj _ f ⟨_, hx⟩ i (Fin.ext ?_)).trans ?_
          · refine hji.symm.trans ((congrArg (fun y => (fI y).toNat) ?_).trans (rows_val L fI k hidx hn hin ⟨_, hx⟩).symm)
            refine funext fun a => ?_
            match a with
            | 0 => exact hp.symm
          · refine (row_read d L fX k fr (tile_body.sl.dma0_1 L fX k) rfl _).trans ?_
            exact congrArg (fun y => fX (ix2 (n0 := 32768) (n1 := 128) y (i 1))) hp
      · iexact Ho
    isplitl [Hs3]; · iexists _; iexact Hs3
    isplitl [Hr3]; · iexists _; iexact Hr3
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi]; · iexact Hi
    isplitl [Hx]; · iexact Hx
    isplitl [Ho]
    · iexists fO; isplitr
      · ipureintro; intro j i hj hlt
        omega
      · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hi, Hx, ⟨%f, %hf, Ho⟩, ⟨%fs, Hs⟩, ⟨%fr, Hr⟩, HsemA, HsemB, HsemC, %W', %hW', HO⟩
  sl_exec
  sl_step
  isplitl [Hi Hx Ho]
  · isplitl [Hi]; · iexact Hi
    isplitl [Hx]; · iexact Hx
    iapply (Entails.of_eq (pointsTo_congr (ℓ := (oV).view.loc (thr d L)) (I := mine fI L) (q := fullShare) (g := sct fI fX fO) (fun i hi => by
        obtain ⟨j, hj, hji⟩ := mem_named.mp hi
        have ht : Scf.trips k1_t1_loop.lb k1_t1_loop.ub k1_t1_loop.st = 2 := trips_eq
        refine (hf j i hj ?_ hji).trans (sct_at hd fX fO j i hji).symm
        rw [ht]
        omega))) $$ Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.WholeScatter

end
-- ==== Proof.WholeGather.lean ====
/-
  One tile of the gather of the whole kernel, as in the gather's own program. The tile `(c, s)` owns 1024 rows of the output, in two chunks of 512. For each chunk
  it fetches the 512 row numbers, streams the named rows of the table into its row buffer and copies the buffer to the
  chunk. The loop keeps one fact about the output: the rows of the chunks already done hold the rows of the table that
  the list names (`gat`).
-/
module

public import proofs.«01_k».proof.Proof.WholeSetup

@[expose] public section

noncomputable section

namespace Cert.Proof.WholeGather

open Cert.KernelIdeal Cert.KernelIdeal.Gen Cert.Proof.WholeSetup

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 2) (Elt F) ℕ UU ℕ

/-! ## The buffers -/

/-- The table of rows, the list of row numbers, and the output. -/
abbrev yLoc (d : Dev nD) : Loc nD τ sig := (SparseCore.T d).loc main_v16
abbrev iLoc (d : Dev nD) : Loc nD τ sig := (SparseCore.T d).loc main_v10
abbrev oLoc (d : Dev nD) : Loc nD τ sig := (SparseCore.T d).loc main_v17

local notation "yV" => (Memref.whole Cert.KernelIdeal.main_v16_scv : Memref Cert.KernelIdeal.sig Kind.scVector Space.hbm Cert.KernelIdeal.S40960x128 EltTy.f32)
local notation "iV" => (Memref.whole Cert.KernelIdeal.main_v10_scv : Memref Cert.KernelIdeal.sig Kind.scVector Space.hbm Cert.KernelIdeal.S32768 EltTy.i32)
local notation "oV" => (Memref.whole Cert.KernelIdeal.main_v17_scv : Memref Cert.KernelIdeal.sig Kind.scVector Space.hbm Cert.KernelIdeal.S32768x128 EltTy.f32)
local notation "sV" => (Memref.whole Cert.KernelIdeal.cc3_scratch0 : Memref Cert.KernelIdeal.sig Kind.scVector Space.vmem Cert.KernelIdeal.S512 EltTy.i32)
local notation "rV" => (Memref.whole Cert.KernelIdeal.cc3_scratch1 : Memref Cert.KernelIdeal.sig Kind.scVector Space.vmem Cert.KernelIdeal.S512x128 EltTy.f32)

/-- The rows of the output that belong to band `n` of 1024 rows. -/
def band (n : ℕ) : Finset S32768x128.Idx := Finset.univ.filter fun i => (i 0).val / 1024 = n

theorem mem_band {n : ℕ} {i : S32768x128.Idx} : i ∈ band n ↔ (i 0).val / 1024 = n := by simp [band]

/-- What the gather leaves: row `r` of the output is the row of the table the list names at `r`. -/
def gat (fI : S32768.Idx → Elt F .i32) (fY : S40960x128.Idx → Elt F .f32) : S32768x128.Idx → Elt F .f32 :=
  fun i => fY (ix2 (n0 := 40960) (n1 := 128) ⟨(fI (ix1 (n := 32768) (i 0))).toNat % 40960, Nat.mod_lt _ (by decide)⟩ (i 1))

section Tile

variable (d : Dev nD) (L : grid3.Coords)
variable (fI : S32768.Idx → Elt F .i32) (fY : S40960x128.Idx → Elt F .f32)

abbrev cV (L : grid3.Coords) : Fin τ.nSC := (L 0).castLE hcore3
abbrev jV (L : grid3.Coords) : Fin τ.nSub := (L 1).castLE hsub3
/-- The tile's thread and its band. -/
abbrev thr (d : Dev nD) (L : grid3.Coords) : Thread nD τ := V d (cV L) (jV L)
abbrev bandOf (L : grid3.Coords) : Finset S32768x128.Idx := band (2 * (L 1).val + (L 0).val)

/-- The chunk a trip writes, and the part of the list it reads. -/
abbrev oCh (L : grid3.Coords) (k : Fin k3_t1_loop.trips) : Memref sig .scVector .hbm S512x128 .f32 :=
  (oV).slice (Rect.unit (s := S32768x128) (k3_off2 L k) S512x128.size (k3_off2_inb L k)) (fun _ => rfl)
abbrev iCh (L : grid3.Coords) (k : Fin k3_t1_loop.trips) : Memref sig .scVector .hbm S512 .i32 :=
  (iV).slice (Rect.unit (s := S32768) (k3_off1 L k) S512.size (k3_off1_inb L k)) (fun _ => rfl)
abbrev yAll : Memref sig .scVector .hbm S40960x128 .f32 :=
  (yV).slice (Rect.unit (s := S40960x128) ![0, 0] S40960x128.size inb_S40960x128_S40960x128_0_0) (fun _ => rfl)

theorem trips_eq : k3_t1_loop.trips = 2 := by decide

theorem core_lt : (L 0).val < 2 := (L 0).isLt
theorem sub_lt : (L 1).val < 16 := (L 1).isLt

theorem mem_oCh (k : Fin k3_t1_loop.trips) (i : S32768x128.Idx) :
    i ∈ (oCh L k).view.set ↔ 2048 * (L 1).val + 1024 * (L 0).val + 512 * k.val ≤ (i 0).val
      ∧ (i 0).val < 2048 * (L 1).val + 1024 * (L 0).val + 512 * k.val + 512 := by
  rw [show (oCh L k).view.set = (Rect.unit (s := S32768x128) (k3_off2 L k) S512x128.size (k3_off2_inb L k)).set from
    View.set_slice_whole _ _, Rect.mem_set_unit, k3_off2_eq]
  have h1 : (i 1).val < 128 := (i 1).isLt
  constructor
  · intro h; exact h 0
  · intro h a
    match a with
    | 0 => exact h
    | 1 => exact ⟨Nat.zero_le _, by show (i 1).val < 0 + 128; omega⟩

theorem oCh_subset (k : Fin k3_t1_loop.trips) : (oCh L k).view.set ⊆ bandOf L := by
  intro i hi
  rw [mem_oCh] at hi
  have hk : k.val < 2 := lt_of_lt_of_eq k.isLt trips_eq
  exact mem_band.mpr (by omega)

/-- Where element `x` of the chunk lies in the output. -/
theorem emb_oCh (k : Fin k3_t1_loop.trips) (x : S512x128.Idx) (h : 2048 * (L 1).val + 1024 * (L 0).val + 512 * k.val + (x 0).val < 32768) :
    (oCh L k).view.emb x = (ix2 (n0 := 32768) (n1 := 128) ⟨_, h⟩ (x 1) : S32768x128.Idx) := by
  refine funext fun a => Fin.ext ?_
  show (k3_off2 L k) a + 1 * (x a).val = _
  rw [k3_off2_eq, Nat.one_mul]
  match a with
  | 0 => rfl
  | 1 => exact Nat.zero_add _

theorem emb_iCh (k : Fin k3_t1_loop.trips) (x : S512.Idx) (h : 2048 * (L 1).val + 1024 * (L 0).val + 512 * k.val + (x 0).val < 32768) :
    (iCh L k).view.emb x = (ix1 (n := 32768) ⟨_, h⟩ : S32768.Idx) := by
  refine funext fun a => Fin.ext ?_
  show (k3_off1 L k) a + 1 * (x a).val = _
  rw [k3_off1_eq, Nat.one_mul]
  match a with
  | 0 => rfl

/-! ## What the tile holds -/

abbrev cA (d : Dev nD) (c : Fin τ.nSC) (i : Fin τ.nSub) : GSem nD τ sig := (V d c i, .dma cc3_scratch2.sem)
abbrev cB (d : Dev nD) (c : Fin τ.nSC) (i : Fin τ.nSub) : GSem nD τ sig := (V d c i, .dma cc3_scoped0.sem)
abbrev cC (d : Dev nD) (c : Fin τ.nSC) (i : Fin τ.nSub) : GSem nD τ sig := (V d c i, .dma cc3_scoped1.sem)

theorem ownSems0_V :
    (ownSems0 (thr d L) : sProp 𝕄)
      = iprop(semVal (cA d (cV L) (jV L)) 0 ∗ semVal (cB d (cV L) (jV L)) 0 ∗ semVal (cC d (cV L) (jV L)) 0
          ∗ bigSep ((((ownCells (thr d L)).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc3_scratch2.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc3_scoped0.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc3_scoped1.sem : SemLoc sig).isScoped .scVector = true; decide⟩⟩⟩)]

/-- The tile's own buffers are its two scratch buffers, at some contents, and the rest. -/
theorem ownBufs_V :
    (ownBufs (thr d L) : sProp 𝕄)
      = iprop((∃ f, (thr d L).loc cc3_scratch0 ↦{fullShare} f) ∗ (∃ f, (thr d L).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

/-- What the loop keeps before trip `k`: the output's band, with the rows of the first `k` chunks done; the shares of the
    table and of the list; the scratch buffers at some contents; the three counters at zero; the waits owed. -/
def inv (q : PosShare TreeShare) (O : CellTallies nD τ sig (HIx 2)) (W : Waits sig (HIx 2)) (k : Nat) (_ : PUnit) : sProp 𝕄 :=
  iprop(Transfers.MayWaits (thr d L) (none : HIx 2) O
    ∗ ((iV).view.loc (thr d L) ↦{q} fI)
    ∗ ((yV).view.loc (thr d L) ↦{q} fY)
    ∗ (∃ f, ⌜∀ i ∈ bandOf L, (i 0).val < 2048 * (L 1).val + 1024 * (L 0).val + 512 * k → f i = gat fI fY i⌝
        ∗ (oV).view.loc (thr d L) ↦[bandOf L]{fullShare} f)
    ∗ (∃ f, (sV).view.loc (thr d L) ↦{fullShare} f)
    ∗ (∃ f, (rV).view.loc (thr d L) ↦{fullShare} f)
    ∗ semVal (cA d (cV L) (jV L)) 0 ∗ semVal (cB d (cV L) (jV L)) 0 ∗ semVal (cC d (cV L) (jV L)) 0
    ∗ ∃ W', ⌜∀ p ∈ W', p ∈ W ∨ p.2 = none⌝ ∗ owes (thr d L) O W')

/-- The numbers the stream reads are in range: they are the fetched part of the list. -/
theorem in_range (hI : ∀ j, (fI j).toNat < 40960) (k : Fin k3_t1_loop.trips) (fs : Buf (Elt F) ((thr d L).loc cc3_scratch0)) (pay : S512.Idx → Elt F .i32)
    (hpay : pay = (iCh L k).view.read (Elt F) fI) :
    ∀ x, ((sV).view.read (Elt F) (View.write (Elt F) (sV).view fs pay Finset.univ) x).toNat < S40960x128.size gathers_S40960x128_S512x128.axis := by
  subst hpay; intro x
  rw [View.write_whole_univ]
  simp only [Memref.view_whole, View.read_whole]
  rw [show ∀ j, (iCh L k).view.read (Elt F) fI j = fI ((iCh L k).view.emb j) from fun j => (View.read_apply _ _).trans (cast_eq _ _)]
  exact hI _

/-- What the row buffer holds after the stream, element by element: the output's element of the chunk. -/
theorem row_val (hI : ∀ j, (fI j).toNat < 40960) (k : Fin k3_t1_loop.trips) (fs : Buf (Elt F) ((thr d L).loc cc3_scratch0))
    (fr : Buf (Elt F) ((thr d L).loc cc3_scratch1)) (hn : S512.numel = S512x128.size gathers_S40960x128_S512x128.axis') (hin) (x : S512x128.Idx) :
    (rV).view.read (Elt F) (View.write (Elt F) (rV).view fr (SparseCore.gatherPayload (F := F) (e := .f32) gathers_S40960x128_S512x128 ((yAll).view.read (Elt F) fY)
      (SparseCore.rows (F := F) ((sV).view.read (Elt F) (View.write (Elt F) (sV).view fs ((iCh L k).view.read (Elt F) fI) Finset.univ)) hn hin)) Finset.univ) x
      = gat fI fY ((oCh L k).view.emb x) := by
  have hk : k.val < 2 := lt_of_lt_of_eq k.isLt trips_eq
  have hc : (L 0).val < 2 := (L 0).isLt
  have hs : (L 1).val < 16 := (L 1).isLt
  have hx0 : (x 0).val < 512 := (x 0).isLt
  have hb : 2048 * (L 1).val + 1024 * (L 0).val + 512 * k.val + (x 0).val < 32768 := by omega
  rw [View.write_whole_univ, emb_oCh L k x hb]
  simp only [Memref.view_whole, View.read_whole]
  unfold SparseCore.gatherPayload gat
  rw [View.read_apply, cast_eq]
  congr 1
  have hsym : S512.rowMajor.symm ((x 0).cast hn.symm) = (ix1 (n := 512) (x 0) : S512.Idx) :=
    (Equiv.symm_apply_eq _).mpr (Fin.ext (by rw [Shape.rowMajor_val_one]; rfl))
  refine funext fun a => Fin.ext ?_
  match a with
  | 0 =>
    show 0 + 1 * (Shape.Gathers.idx _ _ x gathers_S40960x128_S512x128.axis).val = _
    rw [Shape.Gathers.idx_axis]
    show 0 + 1 * ((View.write (Elt F) (View.whole cc3_scratch0) fs ((iCh L k).view.read (Elt F) fI) Finset.univ
      (S512.rowMajor.symm ((x 0).cast hn.symm)) : Elt F .i32).toNat) = _
    rw [hsym, View.write_whole_univ, View.read_apply, cast_eq, emb_iCh L k (ix1 (n := 512) (x 0)) hb, Nat.zero_add, Nat.one_mul]
    exact (Nat.mod_eq_of_lt (hI _)).symm
  | 1 =>
    show 0 + 1 * (Shape.Gathers.idx _ _ x 1).val = _
    rw [Shape.Gathers.idx_of_ne _ _ _ _ (by decide)]
    simp
    rfl

set_option maxHeartbeats 4000000 in
theorem tile_body (hF : (K (F := F)).Facts) (hI : ∀ j, (fI j).toNat < 40960) (q : PosShare TreeShare) (fO : S32768x128.Idx → Elt F .f32)
    (O : CellTallies nD τ sig (HIx 2)) (W : Waits sig (HIx 2)) (hO : ∀ g, O g none = 0) :
    iprop(levAts (K (F := F)).L (K (F := F)).lev ∗ emp
        ∗ ((iLoc d ↦{q} fI : sProp 𝕄) ∗ (yLoc d ↦{q} fY) ∗ oLoc d ↦[bandOf L]{fullShare} fO)
        ∗ scopedBufs (thr d L) ∗ scopedSems0 (thr d L) ∗ owes (thr d L) O W)
      ⊢ wp frame (wpE (defs₀ (F := F)) 𝒱₀ (thr d L) none) Set.univ
          (cc3_run L yV (Memref.isWhole_whole _) iV (Memref.isWhole_whole _) oV (Memref.isWhole_whole _)
            sV (Memref.isWhole_whole _) rV (Memref.isWhole_whole _) cc3_scratch2 cc3_scoped0 cc3_scoped1)
          fun _ => iprop(((iLoc d ↦{q} fI : sProp 𝕄) ∗ (yLoc d ↦{q} fY) ∗ oLoc d ↦[bandOf L]{fullShare} gat fI fY)
            ∗ scopedBufs (thr d L) ∗ scopedSems0 (thr d L)
            ∗ ∃ W', ⌜∀ p ∈ W', p ∈ W ∨ p.2 = none⌝ ∗ owes (thr d L) O W') := by
  simp only [cc3_run_eq_skeleton]; unfold cc3_run_skel
  rw [(K (F := F)).scopedBufs_V hF d (cV L) (jV L), SparseCore.Cfg.scopedSems0_V (Val := Elt F) d (cV L) (jV L), ownSems0_V, ownBufs_V]
  iintro ⟨#Hlv, -, ⟨Hi, Hy, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (thr d L) (default : HIx 2) O from
    (K (F := F)).mayWaits_none (thr := thr d L) hO) $$ Hlv
  sl_for (inv d L fI fY q O W) $$ [Hmw Hi Hy Ho Hs Hr HsemA HsemB HsemC HO]
  case region =>
    intro k _
    unfold inv
    iintro ⟨#Hmw, Hi, Hy, ⟨%f, %hf, Ho⟩, ⟨%fs, Hs⟩, ⟨%fr, Hr⟩, HsemA, HsemB, HsemC, %W', %hW', HO⟩
    ihave Hoc := (pointsTo_split_subset (q := fullShare) (f := f) (oCh_subset L k)).1 $$ Ho
    icases Hoc with ⟨Hoc, Hor⟩
    ihave Hoc' := (show _ ⊢ ((oCh L k).view.loc (thr d L) ↦[(oCh L k).view.set]{fullShare} f : sProp 𝕄) from .rfl) $$ Hoc
    sl_exec (disch := exact View.amount_pos _ _ (show 0 < S512.numel by decide))
    ihave Hys := (pointsTo_split_subset (q := q) (f := fY) (S := Finset.univ) (Finset.subset_univ (yAll).view.set)).1 $$ Hy
    icases Hys with ⟨Hys, Hyr⟩
    have hrs : (rV).view.set = Finset.univ := View.set_whole _
    have hss : (sV).view.set = Finset.univ := View.set_whole _
    ihave Hr'' := (Entails.of_eq (show ((rV).view.loc (thr d L) ↦{fullShare} fr : sProp 𝕄)
        = (rV).view.loc (thr d L) ↦[(rV).view.set]{fullShare} fr by rw [hrs])) $$ Hr
    ihave Hs'' := (Entails.of_eq (show ((sV).view.loc (thr d L) ↦{fullShare} View.write (Elt F) (sV).view fs (tile_body.sl.dma0 L fI k) Finset.univ : sProp 𝕄)
        = (sV).view.loc (thr d L) ↦[(sV).view.set]{fullShare} View.write (Elt F) (sV).view fs (tile_body.sl.dma0 L fI k) Finset.univ
        by rw [hss])) $$ Hs
    have hN : ∀ h : S40960x128.Gathers 0 S512x128, ∑ j, ((rV).slice (S512x128.rowRect h.axis' j) (S512x128.stride_rowRect h.axis' j)).view.dmaCredit
        = (rV).view.dmaCredit := by decide +kernel
    iapply (SparseCore.wp_indirectGatherLocal countersEmb 𝒱₀ (thr d L) none (hg := gathers_S40960x128_S512x128) (default : HIx 2)
        (rV).view.dmaCredit (hN _) (by decide) (in_range d L fI hI k fs _ rfl)) $$ [Hys Hr'' Hs'' HsemA]
    · isplitl [Hys]; · iexact Hys
      isplitl [Hr'']; · iexact Hr''
      isplitl [Hs'']; · iexact Hs''
      iexact HsemA
    iintro Hfl
    sl_exec
    iapply (Transfers.wp_waitLocalO countersEmb 𝒱₀ (thr d L) none (default : HIx 2) (rfl : (rV).view.dmaCredit = _)) $$ [Hfl HO]
    · isplitl [Hfl]; · iexact Hfl
      isplitl [HO]; · iexact HO
      iapply (Transfers.MayWaits.elim (SemLoc.dma cc3_scratch2.sem)) $$ Hmw
    iintro ⟨⟨Hr, Hys, Hs⟩, HsemA, HO⟩
    ihave Hy := (pointsTo_split_subset (ℓ := (yV).view.loc (thr d L)) (q := q) (f := fY) (S := Finset.univ) (Finset.subset_univ (yAll).view.set)).2 $$ [Hys Hyr]; · isplitl [Hys] <;> iassumption
    ihave Hr3 := (Entails.of_eq (show ((rV).view.loc (thr d L) ↦[(rV).view.set]{fullShare} _ : sProp 𝕄)
        = (rV).view.loc (thr d L) ↦{fullShare} _ by rw [hrs])) $$ Hr
    ihave Hs3 := (Entails.of_eq (show ((sV).view.loc (thr d L) ↦[(sV).view.set]{fullShare} _ : sProp 𝕄)
        = (sV).view.loc (thr d L) ↦{fullShare} _ by rw [hss])) $$ Hs
    sl_exec (disch := exact View.amount_pos _ _ (show 0 < S512x128.numel by decide))
    sl_step
    have hrd : ∀ x, ((oCh L k).view.writes (Elt F) f [⟨Rect.whole S512x128, tile_body.sl.dma0_1 d L fI fY hI k fs fr⟩]) ((oCh L k).view.emb x)
        = gat fI fY ((oCh L k).view.emb x) := fun x =>
      (congrFun (View.read_writes_whole (oCh L k).view f _) x).trans (row_val d L fI fY hI k fs fr _ _ x)
    let g : S32768x128.Idx → Elt F .f32 := fun i => if i ∈ (oCh L k).view.set then gat fI fY i else f i
    ihave Hoc := (Entails.of_eq (pointsTo_congr (ℓ := (oV).view.loc (thr d L)) (I := (oCh L k).view.set) (q := fullShare) (g := g) (fun i hi => by
        obtain ⟨x, -, rfl⟩ := Finset.mem_map.mp hi
        exact (hrd x).trans (if_pos hi).symm))) $$ Hoc'
    ihave Hor' := (Entails.of_eq (pointsTo_congr (ℓ := (oV).view.loc (thr d L)) (I := bandOf L \ (oCh L k).view.set) (q := fullShare) (g := g) (fun i hi =>
        (if_neg (Finset.mem_sdiff.mp hi).2).symm))) $$ Hor
    ihave Ho := (pointsTo_split_subset (ℓ := (oV).view.loc (thr d L)) (q := fullShare) (f := g) (oCh_subset L k)).2 $$ [Hoc Hor']; · isplitl [Hoc] <;> iassumption
    isplitr; · iexact Hmw
    isplitl [Hi]; · iexact Hi
    isplitl [Hy]; · iexact Hy
    isplitl [Ho]
    · iexists g; isplitr
      · ipureintro; intro i hi hlt
        by_cases hm : i ∈ (oCh L k).view.set
        · exact if_pos hm
        · rw [mem_oCh] at hm
          refine (if_neg (by rw [mem_oCh]; exact hm)).trans (hf i hi ?_)
          omega
      · iexact Ho
    isplitl [Hs3]; · iexists _; iexact Hs3
    isplitl [Hr3]; · iexists _; iexact Hr3
    isplitl [HsemA]; · iexact HsemA
    isplitl [HsemB]; · iexact HsemB
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Hi]; · iexact Hi
    isplitl [Hy]; · iexact Hy
    isplitl [Ho]
    · iexists fO; isplitr
      · ipureintro; intro i hi hlt
        have hi' := mem_band.mp hi
        omega
      · iexact Ho
    isplitl [Hs]; · iexists _; iexact Hs
    isplitl [Hr]; · iexists _; iexact Hr
    isplitl [HsemA]; · iexact HsemA
    isplitl [HsemB]; · iexact HsemB
    isplitl [HsemC]; · iexact HsemC
    iexists W; isplitr
    · ipureintro; exact fun p hp => .inl hp
    · iexact HO
  iintro %_ HI
  unfold inv
  icases HI with ⟨-, Hi, Hy, ⟨%f, %hf, Ho⟩, ⟨%fs, Hs⟩, ⟨%fr, Hr⟩, HsemA, HsemB, HsemC, %W', %hW', HO⟩
  sl_exec
  sl_step
  isplitl [Hi Hy Ho]
  · isplitl [Hi]; · iexact Hi
    isplitl [Hy]; · iexact Hy
    iapply (Entails.of_eq (pointsTo_congr (ℓ := (oV).view.loc (thr d L)) (I := bandOf L) (q := fullShare) (g := gat fI fY) (fun i hi => hf i hi (by
        have hi' := mem_band.mp hi
        have ht : Scf.trips k3_t1_loop.lb k3_t1_loop.ub k3_t1_loop.st = 2 := trips_eq
        rw [ht]
        omega)))) $$ Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

end Tile

end Cert.Proof.WholeGather

end
-- ==== Proof.WholeRun.lean ====
/-
  The run of the whole kernel: the router's call, the scatter, the experts' call and the gather, with the host's
  reshapes between them. At the end every host buffer is at `V9`, a valuation written out by the program's own operations,
  the two pipelines' proof data, `sct` and `gat`.
-/
module

public import proofs.«01_k».proof.Proof.WholeCalls
public import proofs.«01_k».proof.Proof.WholeScatter
public import proofs.«01_k».proof.Proof.WholeGather
public import Idealize.ShloMosaic.Lib.Pipeline.Frame

@[expose] public section

set_option synthInstance.maxSize 4096

noncomputable section

namespace Cert.Proof.WholeRun

open Cert.KernelIdeal Cert.KernelIdeal.Gen Cert.Proof.WholeSetup Cert.Proof.WholeCalls
open Cert.Proof.WholeRegion0 (dat0)
open Cert.Proof.WholeRegion2 (dat2)
open Cert.Proof.WholeScatter (named mem_named sct Distinct)
open Cert.Proof.WholeGather (band mem_band gat)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held sub_ucRefs afterRegion pin Dat cellsGhost toksInit)
open Idealize.ShloMosaic.StableHlo (held after)

variable {F : FTy → Type} [FloatOps F]

local notation "𝕄" => MT nD τ sig (HIx 2) (Elt F) ℕ UU ℕ

variable (m : (ℓ : Loc nD τ sig) → Buf (Elt F) ℓ) (ρ : Dev nD → PrngReg)
variable (adm : (p : Fin 2) → (pcfgs (F := F) p).Adm)

/-! ## The host operations -/

/-- The tokens as rows, the router's bias as a row. -/
abbrev ops0 : List (HloOp τ sig (Elt F)) :=
  [StableHlo.reshape main_arg0 main_v0 (rfl : (.f32 : EltTy) = .f32) shapeCasts_S2048x2x1024_S4096x1024,
   StableHlo.reshape main_arg2 main_v1 (rfl : (.f32 : EltTy) = .f32) shapeCasts_S8_S1x8]

/-- The list of rows of 128, the scaled tokens as rows of 128. -/
abbrev ops1 : List (HloOp τ sig (Elt F)) :=
  [StableHlo.reshape main_v2_4 main_v3 (rfl : (.i32 : EltTy) = .i32) shapeCasts_S4096x1_S4096,
   StableHlo.nullary main_v4 (iotaInDim S4096x8 32 1),
   StableHlo.unary main_v3 main_v5 (broadcastInDim S4096x1 ![0] bcast_S4096_S4096x1_0 : (⟨S4096, .i32⟩ : BufTy).Contents (Elt F) → (⟨S4096x1, .i32⟩ : BufTy).Contents (Elt F)),
   StableHlo.nullary main_c (constantI S_ 32 8#32),
   StableHlo.unary main_c main_v6 (broadcastInDim S4096x1 ![] bcast_S_S4096x1 : (⟨S_, .i32⟩ : BufTy).Contents (Elt F) → (⟨S4096x1, .i32⟩ : BufTy).Contents (Elt F)),
   StableHlo.binary main_v5 main_v6 main_v7 (muli : (⟨S4096x1, .i32⟩ : BufTy).Contents (Elt F) → (⟨S4096x1, .i32⟩ : BufTy).Contents (Elt F) → (⟨S4096x1, .i32⟩ : BufTy).Contents (Elt F)),
   StableHlo.unary main_v7 main_v8 (broadcastInDim S4096x8 ![0, 1] bcast_S4096x1_S4096x8_0_1 : (⟨S4096x1, .i32⟩ : BufTy).Contents (Elt F) → (⟨S4096x8, .i32⟩ : BufTy).Contents (Elt F)),
   StableHlo.binary main_v8 main_v4 main_v9 (addi : (⟨S4096x8, .i32⟩ : BufTy).Contents (Elt F) → (⟨S4096x8, .i32⟩ : BufTy).Contents (Elt F) → (⟨S4096x8, .i32⟩ : BufTy).Contents (Elt F)),
   StableHlo.reshape main_v9 main_v10 (rfl : (.i32 : EltTy) = .i32) shapeCasts_S4096x8_S32768,
   StableHlo.reshape main_v2_0 main_v11 (rfl : (.f32 : EltTy) = .f32) shapeCasts_S4096x1024_S32768x128]

/-- The sorted rows as blocks, the table of experts. -/
abbrev ops2 : List (HloOp τ sig (Elt F)) :=
  [StableHlo.reshape main_v12 main_v13 (rfl : (.f32 : EltTy) = .f32) shapeCasts_S40960x128_S5120x1024,
   StableHlo.reshape main_v2_5 main_v14 (rfl : (.i32 : EltTy) = .i32) shapeCasts_S40x1_S40]

/-- The experts' rows as rows of 128. -/
abbrev ops3 : List (HloOp τ sig (Elt F)) :=
  [StableHlo.reshape main_v15 main_v16 (rfl : (.f32 : EltTy) = .f32) shapeCasts_S5120x1024_S40960x128]

/-- The results in their shapes. -/
abbrev ops4 : List (HloOp τ sig (Elt F)) :=
  [StableHlo.reshape main_v17 main_v18 (rfl : (.f32 : EltTy) = .f32) shapeCasts_S32768x128_S2048x2x1024,
   StableHlo.reshape main_v2_2 main_v19 (rfl : (.f32 : EltTy) = .f32) shapeCasts_S1x8_S8,
   StableHlo.reshape main_v2_3 main_v20 (rfl : (.f32 : EltTy) = .f32) shapeCasts_S1x8_S8,
   StableHlo.reshape main_v2_1 main_v21 (rfl : (.f32 : EltTy) = .f32) shapeCasts_S4096x1_S4096,
   StableHlo.nullary main_c_0 (constantI S_ 32 0#32)]

theorem main_eq (d : Dev nD) : main (F := F) d = (StableHlo.seq ops0 >>= fun _ =>
    Prog.lift (.customCall (SparseCore.inner (Pipeline.entry 0)) ()) >>= fun _ => StableHlo.seq ops1 >>= fun _ => sc.run d 0 >>= fun _ =>
    StableHlo.seq ops2 >>= fun _ => Prog.lift (.customCall (SparseCore.inner (Pipeline.entry 1)) ()) >>= fun _ => StableHlo.seq ops3 >>= fun _ =>
    sc.run d 1 >>= fun _ => StableHlo.seq ops4 >>= fun _ => pure ⟨⟩) := by
  simp only [StableHlo.seq_bind_seqK]; rfl

theorem ops0_bufs : ∀ op ∈ ops0 (F := F), op.bufs ⊆ ucRefs τ sig := by
  intro op h
  refine sub_ucRefs op ?_
  revert op h
  rw [← List.forall_iff_forall_mem]
  simp only [ops0, List.Forall, StableHlo.reshape_bufs]
  decide
theorem ops0_fresh : ∀ op ∈ ops0 (F := F), op.fresh = ∅ := by
  intro _ h; (repeat (cases h with | head => rfl | tail _ h => ?_)); exact nomatch h
theorem ops1_bufs : ∀ op ∈ ops1 (F := F), op.bufs ⊆ ucRefs τ sig := by
  intro op h
  refine sub_ucRefs op ?_
  revert op h
  rw [← List.forall_iff_forall_mem]
  simp only [ops1, List.Forall, StableHlo.reshape_bufs, StableHlo.nullary_bufs, StableHlo.unary_bufs, StableHlo.binary_bufs]
  decide
theorem ops1_fresh : ∀ op ∈ ops1 (F := F), op.fresh = ∅ := by
  intro _ h; (repeat (cases h with | head => rfl | tail _ h => ?_)); exact nomatch h
theorem ops2_bufs : ∀ op ∈ ops2 (F := F), op.bufs ⊆ ucRefs τ sig := by
  intro op h
  refine sub_ucRefs op ?_
  revert op h
  rw [← List.forall_iff_forall_mem]
  simp only [ops2, List.Forall, StableHlo.reshape_bufs]
  decide
theorem ops2_fresh : ∀ op ∈ ops2 (F := F), op.fresh = ∅ := by
  intro _ h; (repeat (cases h with | head => rfl | tail _ h => ?_)); exact nomatch h
theorem ops3_bufs : ∀ op ∈ ops3 (F := F), op.bufs ⊆ ucRefs τ sig := by
  intro op h
  refine sub_ucRefs op ?_
  revert op h
  rw [← List.forall_iff_forall_mem]
  simp only [ops3, List.Forall, StableHlo.reshape_bufs]
  decide
theorem ops3_fresh : ∀ op ∈ ops3 (F := F), op.fresh = ∅ := by
  intro _ h; (repeat (cases h with | head => rfl | tail _ h => ?_)); exact nomatch h
theorem ops4_bufs : ∀ op ∈ ops4 (F := F), op.bufs ⊆ ucRefs τ sig := by
  intro op h
  refine sub_ucRefs op ?_
  revert op h
  rw [← List.forall_iff_forall_mem]
  simp only [ops4, List.Forall, StableHlo.reshape_bufs, StableHlo.nullary_bufs]
  decide
theorem ops4_fresh : ∀ op ∈ ops4 (F := F), op.fresh = ∅ := by
  intro _ h; (repeat (cases h with | head => rfl | tail _ h => ?_)); exact nomatch h

/-! ## The device's buffers, from step to step -/

/-- The router's call is entered at `V1` and left at `V2`. -/
abbrev V1 (d : Dev nD) : Valuation τ sig (Elt F) := after ops0 (fun b => m (d, b))
abbrev B1 (c : Dev nD) (b : Ref sig .tc) : Buf (Elt F) ((c.tc : Thread nD τ).loc b) := V1 m c (Proc.devRef .tc b)
def V2 (d : Dev nD) : Valuation τ sig (Elt F) := afterRegion (dat0 (B1 m) d) (V1 m d)
/-- The scatter's list and rows, and what it leaves. -/
abbrev V3 (d : Dev nD) : Valuation τ sig (Elt F) := after ops1 (V2 m d)
abbrev cI (d : Dev nD) : S32768.Idx → Elt F .i32 := V3 m d (Proc.devRef .tc main_v10)
abbrev cX (d : Dev nD) : S32768x128.Idx → Elt F .f32 := V3 m d (Proc.devRef .tc main_v11)
abbrev p1 (d : Dev nD) : S40960x128.Idx → Elt F .f32 := V3 m d (Proc.devRef .tc main_v12)
abbrev p2 (d : Dev nD) : S40960x128.Idx → Elt F .f32 := sct (cI m d) (cX m d) (p1 m d)
def V4 (d : Dev nD) : Valuation τ sig (Elt F) := Function.update (V3 m d) (Proc.devRef .tc main_v12) (p2 m d)
/-- The experts' call is entered at `V5` and left at `V6`. -/
abbrev V5 (d : Dev nD) : Valuation τ sig (Elt F) := after ops2 (V4 m d)
abbrev B5 (c : Dev nD) (b : Ref sig .tc) : Buf (Elt F) ((c.tc : Thread nD τ).loc b) := V5 m c (Proc.devRef .tc b)
def V6 (d : Dev nD) : Valuation τ sig (Elt F) := afterRegion (dat2 adm (B5 m) d) (V5 m d)
/-- The gather's list and table, and what it leaves. -/
abbrev V7 (d : Dev nD) : Valuation τ sig (Elt F) := after ops3 (V6 m adm d)
abbrev gI (d : Dev nD) : S32768.Idx → Elt F .i32 := V7 m adm d (Proc.devRef .tc main_v10)
abbrev gY (d : Dev nD) : S40960x128.Idx → Elt F .f32 := V7 m adm d (Proc.devRef .tc main_v16)
abbrev o1 (d : Dev nD) : S32768x128.Idx → Elt F .f32 := V7 m adm d (Proc.devRef .tc main_v17)
abbrev o2 (d : Dev nD) : S32768x128.Idx → Elt F .f32 := gat (gI m adm d) (gY m adm d)
def V8 (d : Dev nD) : Valuation τ sig (Elt F) := Function.update (V7 m adm d) (Proc.devRef .tc main_v17) (o2 m adm d)
abbrev V9 (d : Dev nD) : Valuation τ sig (Elt F) := after ops4 (V8 m adm d)

theorem V4_eq (d : Dev nD) : V4 m d (Proc.devRef .tc main_v12) = p2 m d := by
  unfold V4; exact Function.update_self ..
theorem V4_ne (d : Dev nD) (b : DevRef τ sig) (h : b ≠ Proc.devRef .tc main_v12) : V4 m d b = V3 m d b := by
  unfold V4; exact Function.update_of_ne h ..
theorem V8_eq (d : Dev nD) : V8 m adm d (Proc.devRef .tc main_v17) = o2 m adm d := by
  unfold V8; exact Function.update_self ..
theorem V8_ne (d : Dev nD) (b : DevRef τ sig) (h : b ≠ Proc.devRef .tc main_v17) : V8 m adm d b = V7 m adm d b := by
  unfold V8; exact Function.update_of_ne h ..

/-- What the run asks of the launch memory: the list names distinct rows of the table, and the experts' table is the
    one the pipeline is pinned at. -/
structure Good : Prop where
  inRows : ∀ (d : Dev nD) (j : S32768.Idx), (cI m d j).toNat < 40960
  distinct : ∀ d : Dev nD, Distinct (cI m d)
  inRows' : ∀ (d : Dev nD) (j : S32768.Idx), (gI m adm d j).toNat < 40960
  table : ∀ (d : Dev nD) (k : Fin 1), (adm 1).1 k = V5 m d (Proc.devRef .tc (pre2.ref k))

/-! ## The TensorCore calls -/

def pdats : (p : Fin 2) → (c : Dev nD) → Dat τ (Elt F) (HIx 2) ℕ UU ℕ (pin (pcfgs (F := F)) adm p) c
  | ⟨0, _⟩ => fun c => dat0 (B1 m) c
  | ⟨1, _⟩ => fun c => dat2 adm (B5 m) c

theorem arr0_sub : Pipeline.arrRefs (τ := τ) spec0 ⊆ ucRefs τ sig := Pipeline.arrRefs_sub_ucRefs spec0 (by decide)
theorem arr2_sub : Pipeline.arrRefs (τ := τ) spec2 ⊆ ucRefs τ sig := Pipeline.arrRefs_sub_ucRefs spec2 (by decide)
theorem tbl2_sub : Pipeline.tblRefs (τ := τ) pre2 ⊆ ucRefs τ sig := Pipeline.tblRefs_sub_ucRefs pre2 (by decide)
theorem tbl0_sub : Pipeline.tblRefs (τ := τ) (pcfgs (F := F) 0).pre ⊆ ucRefs τ sig :=
  Pipeline.tblRefs_sub_ucRefs (pcfgs (F := F) 0).pre fun k => nomatch k

theorem in0 (c : Dev nD) : iprop(Pipeline.scopedRest (Ix := HIx 2) (Name := ℕ) (U := UU) (Lvl := ℕ) (Val := Elt F) spec0 c ∗ Pipeline.tablesAt (pcfgs (F := F)) adm 0 c)
    ⊢ WholeRegion0.Φ0 (B1 m) c 0 := by
  rw [WholeRegion0.scopedRest0]
  unfold WholeRegion0.any
  iintro ⟨⟨⟨%f, Hf⟩, Hr⟩, -⟩
  iexists f
  isplitr; · ipureintro; exact fun y hy => absurd hy (Nat.not_lt_zero _)
  isplitl [Hf]
  · iexists f
    isplitr; · ipureintro; rfl
    iexact Hf
  iexact Hr
theorem out0 (c : Dev nD) : WholeRegion0.Φ0 (B1 m) c 8
    ⊢ iprop(Pipeline.scopedRest (Ix := HIx 2) (Name := ℕ) (U := UU) (Lvl := ℕ) (Val := Elt F) spec0 c ∗ Pipeline.tablesAt (pcfgs (F := F)) adm 0 c) := by
  rw [WholeRegion0.scopedRest0, show (Pipeline.tablesAt (pcfgs (F := F)) adm 0 c : sProp 𝕄) = BI.emp from Pipeline.prefHeld_of_none _ rfl _ _ _]
  unfold WholeRegion0.any
  iintro ⟨%f, -, ⟨%g, -, Hf⟩, Hr⟩
  isplitl [Hf Hr]
  · isplitl [Hf]
    · iexists g; iexact Hf
    iexact Hr
  iempintro

abbrev Tab (c : Dev nD) : sProp 𝕄 := Pipeline.tablesAt (pcfgs (F := F)) adm 1 c
theorem in2 (c : Dev nD) : iprop(Pipeline.scopedRest (Ix := HIx 2) (Name := ℕ) (U := UU) (Lvl := ℕ) (Val := Elt F) (τ := τ) spec2 c ∗ Tab adm c)
    ⊢ iprop((Pipeline.scopedRest (Ix := HIx 2) (Name := ℕ) (U := UU) (Lvl := ℕ) (Val := Elt F) (τ := τ) spec2 c ∗ iprop(emp)) ∗ Tab adm c) := by
  iintro ⟨Hr, Ht⟩
  isplitl [Hr]
  · isplitl [Hr]; · iexact Hr
    iempintro
  iexact Ht
theorem out2 (c : Dev nD) : iprop((Pipeline.scopedRest (Ix := HIx 2) (Name := ℕ) (U := UU) (Lvl := ℕ) (Val := Elt F) (τ := τ) spec2 c ∗ iprop(emp)) ∗ Tab adm c)
    ⊢ iprop(Pipeline.scopedRest (Ix := HIx 2) (Name := ℕ) (U := UU) (Lvl := ℕ) (Val := Elt F) (τ := τ) spec2 c ∗ Tab adm c) := by
  iintro ⟨⟨Hr, -⟩, Ht⟩
  isplitl [Hr]; · iexact Hr
  iexact Ht

def seg0 : Pipeline.RegionSeg (pcfgs (F := F)) adm (pdats m adm) (none : HIx 2) (defs₀ (F := F)) Variants.none (K (F := F)).L (K (F := F)).lev 0 :=
  seg adm (pdats m adm) 0 0 launch0 (fun c => WholeRegion0.body_obligation (B1 m) c) (fun _ _ => rfl) (fun _ _ => rfl) (fun c => (dat0 (B1 m) c).share_full fun _ => rfl)
    (fun c => in0 m adm c) (fun c => out0 m adm c) arr0_sub tbl0_sub (V1 m) (fun _ _ => rfl) (fun _ k => nomatch k)

def seg2 (h : Good m adm) : Pipeline.RegionSeg (pcfgs (F := F)) adm (pdats m adm) (none : HIx 2) (defs₀ (F := F)) Variants.none (K (F := F)).L (K (F := F)).lev 1 :=
  seg adm (pdats m adm) 1 1 launch2 (fun c => WholeRegion2.body_obligation adm (B5 m) c) (fun _ _ => rfl) (fun _ _ => rfl) (fun c => (dat2 adm (B5 m) c).share_full fun _ => rfl)
    (fun c => in2 adm c) (fun c => out2 adm c) arr2_sub tbl2_sub (V5 m) (fun _ _ => rfl) (fun d k => h.table d k)

/-! ## Dividing the arrays over the tiles -/

abbrev xL (d : Dev nD) : Loc nD τ sig := (T d : Thread nD τ).loc main_v11
abbrev iL (d : Dev nD) : Loc nD τ sig := (T d : Thread nD τ).loc main_v10
abbrev pL (d : Dev nD) : Loc nD τ sig := (T d : Thread nD τ).loc main_v12
abbrev yL (d : Dev nD) : Loc nD τ sig := (T d : Thread nD τ).loc main_v16
abbrev oL (d : Dev nD) : Loc nD τ sig := (T d : Thread nD τ).loc main_v17

theorem band_cover (i : S32768x128.Idx) : i ∈ Finset.univ.biUnion fun p : Fin 2 × Fin 16 => band (2 * p.2.val + p.1.val) := by
  have hi : (i 0).val < 32768 := (i 0).isLt
  have e : (i 0).val / 1024 = 2 * ((i 0).val / 1024 / 2) + (i 0).val / 1024 % 2 := by omega
  rw [Finset.mem_biUnion]
  exact ⟨(⟨(i 0).val / 1024 % 2, by omega⟩, ⟨(i 0).val / 1024 / 2, by omega⟩), Finset.mem_univ _, mem_band.mpr e⟩

theorem tile_inj {p p' : Fin 2 × Fin 16} (h : 2 * p.2.val + p.1.val = 2 * p'.2.val + p'.1.val) : p = p' := by
  have e1 := p.1.isLt
  have e2 := p'.1.isLt
  exact Prod.ext (Fin.ext (by omega)) (Fin.ext (by omega))

theorem band_disjoint (p p' : Fin 2 × Fin 16) (hne : p ≠ p') : Disjoint (band (2 * p.2.val + p.1.val)) (band (2 * p'.2.val + p'.1.val)) :=
  Finset.disjoint_left.mpr fun _ hi hi' => hne (tile_inj ((mem_band.mp hi).symm.trans (mem_band.mp hi')))

theorem named_disjoint {fI : S32768.Idx → Elt F .i32} (hd : Distinct fI) (p p' : Fin 2 × Fin 16) (hne : p ≠ p') :
    Disjoint (named fI (2 * p.2.val + p.1.val)) (named fI (2 * p'.2.val + p'.1.val)) :=
  Finset.disjoint_left.mpr fun i hi hi' => hne <| by
    obtain ⟨j, hj, e⟩ := mem_named.mp hi
    obtain ⟨j', hj', e'⟩ := mem_named.mp hi'
    have : j = j' := hd j j' (e.trans e'.symm)
    subst this
    exact tile_inj (hj.symm.trans hj')

/-- The rows some list entry names. -/
def namedAll (fI : S32768.Idx → Elt F .i32) : Finset S40960x128.Idx := Finset.univ.biUnion fun p : Fin 2 × Fin 16 => named fI (2 * p.2.val + p.1.val)

theorem mem_namedAll {fI : S32768.Idx → Elt F .i32} {i : S40960x128.Idx} : i ∈ namedAll fI ↔ ∃ j : S32768.Idx, (fI j).toNat = (i 0).val := by
  unfold namedAll
  rw [Finset.mem_biUnion]
  constructor
  · rintro ⟨p, -, hp⟩
    obtain ⟨j, -, e⟩ := mem_named.mp hp
    exact ⟨j, e⟩
  · rintro ⟨j, e⟩
    have hi : (j 0).val < 32768 := (j 0).isLt
    refine ⟨(⟨(j 0).val / 1024 % 2, by omega⟩, ⟨(j 0).val / 1024 / 2, by omega⟩), Finset.mem_univ _, mem_named.mpr ⟨j, ?_, e⟩⟩
    show (j 0).val / 1024 = 2 * ((j 0).val / 1024 / 2) + (j 0).val / 1024 % 2
    omega

theorem pPts_named (d : Dev nD) {fI : S32768.Idx → Elt F .i32} (hd : Distinct fI) (f : Buf (Elt F) (pL d)) :
    (pL d ↦[namedAll fI]{fullShare} f : sProp 𝕄)
      = bigSep Finset.univ fun c : Fin 2 => bigSep Finset.univ fun s : Fin 16 => pL d ↦[named fI (2 * s.val + c.val)]{fullShare} f := by
  rw [← bigSep_univ_prod (fun p : Fin 2 × Fin 16 => (pL d ↦[named fI (2 * p.2.val + p.1.val)]{fullShare} f : sProp 𝕄)),
    ← pointsTo_biUnion Finset.univ (ℓ := pL d) (fun p : Fin 2 × Fin 16 => named fI (2 * p.2.val + p.1.val)) fun p _ p' _ h => named_disjoint hd p p' h]
  rfl

omit [FloatOps F] in
theorem oPts_bands (d : Dev nD) (f : Buf (Elt F) (oL d)) :
    (oL d ↦{fullShare} f : sProp 𝕄)
      = bigSep Finset.univ fun c : Fin 2 => bigSep Finset.univ fun s : Fin 16 => oL d ↦[band (2 * s.val + c.val)]{fullShare} f := by
  rw [← bigSep_univ_prod (fun p : Fin 2 × Fin 16 => (oL d ↦[band (2 * p.2.val + p.1.val)]{fullShare} f : sProp 𝕄)),
    ← pointsTo_biUnion Finset.univ (ℓ := oL d) (fun p : Fin 2 × Fin 16 => band (2 * p.2.val + p.1.val)) fun p _ p' _ h => band_disjoint p p' h,
    show (Finset.univ.biUnion fun p : Fin 2 × Fin 16 => band (2 * p.2.val + p.1.val)) = Finset.univ from Finset.eq_univ_of_forall band_cover]

/-- What a core, and a tile, is handed: a share of the list and of the array read, its own part of the array written. -/
abbrev coreOf {ℓi ℓx ℓo : Loc nD τ sig} (I : ℕ → Finset (Idx ℓo)) (c : Fin 2) (fi : Buf (Elt F) ℓi) (fx : Buf (Elt F) ℓx) (f : Buf (Elt F) ℓo) : sProp 𝕄 :=
  iprop((ℓi ↦{qC c} fi) ∗ (ℓx ↦{qC c} fx) ∗ bigSep Finset.univ fun s : Fin 16 => ℓo ↦[I (2 * s.val + c.val)]{fullShare} f)
abbrev tileOf {ℓi ℓx ℓo : Loc nD τ sig} (I : ℕ → Finset (Idx ℓo)) (c : Fin 2) (s : Fin 16) (fi : Buf (Elt F) ℓi) (fx : Buf (Elt F) ℓx) (f : Buf (Elt F) ℓo) : sProp 𝕄 :=
  iprop((ℓi ↦{qT c s} fi) ∗ (ℓx ↦{qT c s} fx) ∗ ℓo ↦[I (2 * s.val + c.val)]{fullShare} f)

omit [FloatOps F] in
theorem core_tiles {ℓi ℓx ℓo : Loc nD τ sig} (I : ℕ → Finset (Idx ℓo)) (c : Fin 2) (fi : Buf (Elt F) ℓi) (fx : Buf (Elt F) ℓx) (f : Buf (Elt F) ℓo) :
    (coreOf I c fi fx f : sProp 𝕄) = bigSep Finset.univ fun s : Fin 16 => tileOf I c s fi fx f := by
  unfold coreOf tileOf
  rw [bigSep_sep', bigSep_sep', pointsTo_piecesOf Finset.univ fi (o := 16) (by decide) (qC c), pointsTo_piecesOf Finset.univ fx (o := 16) (by decide) (qC c)]

omit [FloatOps F] in
theorem arr_cores {ℓi ℓx ℓo : Loc nD τ sig} (I : ℕ → Finset (Idx ℓo)) (fi : Buf (Elt F) ℓi) (fx : Buf (Elt F) ℓx) (f : Buf (Elt F) ℓo) :
    (iprop((ℓi ↦{fullShare} fi) ∗ (ℓx ↦{fullShare} fx) ∗ bigSep Finset.univ fun c : Fin 2 => bigSep Finset.univ fun s : Fin 16 => ℓo ↦[I (2 * s.val + c.val)]{fullShare} f) : sProp 𝕄)
      = bigSep Finset.univ fun c : Fin 2 => coreOf I c fi fx f := by
  unfold coreOf
  rw [bigSep_sep', bigSep_sep', pointsTo_piecesOf Finset.univ fi (o := 2) (by decide) fullShare, pointsTo_piecesOf Finset.univ fx (o := 2) (by decide) fullShare]

/-! ## What the SparseCore calls carry -/

abbrev ca (c : Fin ((K (F := F)).nCore 0)) : Fin 2 := Fin.cast (rfl : (K (F := F)).nCore 0 = 2) c
abbrev sa (s : Fin ((K (F := F)).nSub 0)) : Fin 16 := Fin.cast (rfl : (K (F := F)).nSub 0 = 16) s
abbrev cb (c : Fin ((K (F := F)).nCore 1)) : Fin 2 := Fin.cast (rfl : (K (F := F)).nCore 1 = 2) c
abbrev sb (s : Fin ((K (F := F)).nSub 1)) : Fin 16 := Fin.cast (rfl : (K (F := F)).nSub 1 = 16) s

abbrev scaCore (d : Dev nD) (c : Fin 2) (f : Buf (Elt F) (pL d)) : sProp 𝕄 := coreOf (ℓi := iL d) (ℓx := xL d) (ℓo := pL d) (named (cI m d)) c (cI m d) (cX m d) f
abbrev scaTile (d : Dev nD) (c : Fin 2) (s : Fin 16) (f : Buf (Elt F) (pL d)) : sProp 𝕄 := tileOf (ℓi := iL d) (ℓx := xL d) (ℓo := pL d) (named (cI m d)) c s (cI m d) (cX m d) f
abbrev gaCore (d : Dev nD) (c : Fin 2) (f : Buf (Elt F) (oL d)) : sProp 𝕄 := coreOf (ℓi := iL d) (ℓx := yL d) (ℓo := oL d) band c (gI m adm d) (gY m adm d) f
abbrev gaTile (d : Dev nD) (c : Fin 2) (s : Fin 16) (f : Buf (Elt F) (oL d)) : sProp 𝕄 := tileOf (ℓi := iL d) (ℓx := yL d) (ℓo := oL d) band c s (gI m adm d) (gY m adm d) f

def P : (K (F := F)).Pay (nD := nD) (Val := Elt F) (Name := ℕ) (U := UU) where
  st := fun q d c => match q with | 0 => scaCore m d (ca c) (p1 m d) | 1 => gaCore m adm d (cb c) (o1 m adm d)
  dn := fun q d c => match q with | 0 => scaCore m d (ca c) (p2 m d) | 1 => gaCore m adm d (cb c) (o2 m adm d)
  go := fun q d c i => match q with | 0 => scaTile m d (ca c) (sa i) (p1 m d) | 1 => gaTile m adm d (cb c) (sb i) (o1 m adm d)
  td := fun q d c i => match q with | 0 => scaTile m d (ca c) (sa i) (p2 m d) | 1 => gaTile m adm d (cb c) (sb i) (o2 m adm d)
  x := fun _ _ => iprop(emp)

instance P_storable : (P (F := F) m adm).IsStorable where
  st q d c := match q with
    | 0 => (inferInstance : BI.Storable (upEmb : UEmb _ 𝕄) (scaCore m d (ca c) (p1 m d)))
    | 1 => (inferInstance : BI.Storable (upEmb : UEmb _ 𝕄) (gaCore m adm d (cb c) (o1 m adm d)))
  dn q d c := match q with
    | 0 => (inferInstance : BI.Storable (upEmb : UEmb _ 𝕄) (scaCore m d (ca c) (p2 m d)))
    | 1 => (inferInstance : BI.Storable (upEmb : UEmb _ 𝕄) (gaCore m adm d (cb c) (o2 m adm d)))
  go q d c i := match q with
    | 0 => (inferInstance : BI.Storable (upEmb : UEmb _ 𝕄) (scaTile m d (ca c) (sa i) (p1 m d)))
    | 1 => (inferInstance : BI.Storable (upEmb : UEmb _ 𝕄) (gaTile m adm d (cb c) (sb i) (o1 m adm d)))
  td q d c i := match q with
    | 0 => (inferInstance : BI.Storable (upEmb : UEmb _ 𝕄) (scaTile m d (ca c) (sa i) (p2 m d)))
    | 1 => (inferInstance : BI.Storable (upEmb : UEmb _ 𝕄) (gaTile m adm d (cb c) (sb i) (o2 m adm d)))

theorem split_of {A B : sProp 𝕄} {N : ℕ} {t t' : Fin N → sProp 𝕄} (h : A = bigSep Finset.univ t) (h' : B = bigSep Finset.univ t') :
    A ⊢ |={Set.univ}=> iprop((bigSep Finset.univ t) ∗ ((bigSep Finset.univ t') -∗ B)) := by
  rw [h, h']
  iintro H; imodintro
  isplitl [H]; · iexact H
  iintro H; iexact H

theorem vecSplit0 : (K (F := F)).VecSplit' (P m adm) 0 := by
  intro d c
  show scaCore m d (ca c) (p1 m d) ⊢ |={Set.univ}=> iprop(
      (bigSep Finset.univ fun i : Fin ((K (F := F)).nSub 0) => scaTile m d (ca c) (sa i) (p1 m d))
      ∗ ((bigSep Finset.univ fun i : Fin ((K (F := F)).nSub 0) => scaTile m d (ca c) (sa i) (p2 m d)) -∗ scaCore m d (ca c) (p2 m d)))
  exact split_of (core_tiles (ℓi := iL d) (ℓx := xL d) (ℓo := pL d) (named (cI m d)) (ca c) (cI m d) (cX m d) (p1 m d))
    (core_tiles (ℓi := iL d) (ℓx := xL d) (ℓo := pL d) (named (cI m d)) (ca c) (cI m d) (cX m d) (p2 m d))
theorem vecSplit1 : (K (F := F)).VecSplit' (P m adm) 1 := by
  intro d c
  show gaCore m adm d (cb c) (o1 m adm d) ⊢ |={Set.univ}=> iprop(
      (bigSep Finset.univ fun i : Fin ((K (F := F)).nSub 1) => gaTile m adm d (cb c) (sb i) (o1 m adm d))
      ∗ ((bigSep Finset.univ fun i : Fin ((K (F := F)).nSub 1) => gaTile m adm d (cb c) (sb i) (o2 m adm d)) -∗ gaCore m adm d (cb c) (o2 m adm d)))
  exact split_of (core_tiles (ℓi := iL d) (ℓx := yL d) (ℓo := oL d) band (cb c) (gI m adm d) (gY m adm d) (o1 m adm d))
    (core_tiles (ℓi := iL d) (ℓx := yL d) (ℓo := oL d) band (cb c) (gI m adm d) (gY m adm d) (o2 m adm d))

/-! ## The tiles' obligations -/

def coords1 (c : Fin (grid1.bound 0)) (s : Fin (grid1.bound 1)) : grid1.Coords :=
  fun | 0 => c | 1 => s | ⟨_ + 2, h⟩ => absurd h (Nat.not_lt.2 (Nat.le_add_left _ _))
def coords3 (c : Fin (grid3.bound 0)) (s : Fin (grid3.bound 1)) : grid3.Coords :=
  fun | 0 => c | 1 => s | ⟨_ + 2, h⟩ => absurd h (Nat.not_lt.2 (Nat.le_add_left _ _))

theorem defs₀_scatter (c : Fin τ.nSC) (s : Fin τ.nSub) :
    defs₀ (F := F) (.scVector c s) 1 ()
      = SparseCore.onTile hcore1 hsub1 (fun c s => cc1_run (coords1 c s)
          (Memref.whole main_v11_scv) (Memref.isWhole_whole _) (Memref.whole main_v10_scv) (Memref.isWhole_whole _) (Memref.whole main_v12_scv) (Memref.isWhole_whole _)
          (Memref.whole cc1_scratch0) (Memref.isWhole_whole _) (Memref.whole cc1_scratch1) (Memref.isWhole_whole _) cc1_scratch2 cc1_scoped0 cc1_scoped1) ⟨⟩ c s := rfl
theorem defs₀_gather (c : Fin τ.nSC) (s : Fin τ.nSub) :
    defs₀ (F := F) (.scVector c s) 3 ()
      = SparseCore.onTile hcore3 hsub3 (fun c s => cc3_run (coords3 c s)
          (Memref.whole main_v16_scv) (Memref.isWhole_whole _) (Memref.whole main_v10_scv) (Memref.isWhole_whole _) (Memref.whole main_v17_scv) (Memref.isWhole_whole _)
          (Memref.whole cc3_scratch0) (Memref.isWhole_whole _) (Memref.whole cc3_scratch1) (Memref.isWhole_whole _) cc3_scratch2 cc3_scoped0 cc3_scoped1) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) (h : Good m adm) : (K (F := F)).TileObl (D (F := F)) 𝒱 (P m adm) v₀ 0 := by
  intro d c i O W hO _ _
  simp only [show (P m adm).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (WholeScatter.tile_body d (coords1 ⟨_, hci.1⟩ ⟨_, hci.2⟩) (cI m d) (cX m d) hF (h.inRows d) (h.distinct d) (qT (ca c) (sa i)) (p1 m d) O W hO).trans
    (wp_mono frame _ _ fun _ => obl_post)

set_option maxRecDepth 16384 in
theorem tileObl1 (hF : (K (F := F)).Facts) (h : Good m adm) : (K (F := F)).TileObl (D (F := F)) 𝒱 (P m adm) v₀ 1 := by
  intro d c i O W hO _ _
  simp only [show (P m adm).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BIBase.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact (WholeGather.tile_body d (coords3 ⟨_, hci.1⟩ ⟨_, hci.2⟩) (gI m adm d) (gY m adm d) hF (h.inRows' d) (qT (cb c) (sb i)) (o1 m adm d) O W hO).trans
    (wp_mono frame _ _ fun _ => obl_post)

/-! ## The launch element -/

def u₀ : UU := (initOf (K (F := F)).hsCells (K (F := F)).hsToks,
  (initOf (Pipeline.cells (nD := nD) (τ := τ) (pin (pcfgs (F := F)) adm) (cellOf_inj adm)) (Pipeline.launchToks (nD := nD) (τ := τ) (pin (pcfgs (F := F)) adm) (cellOf_inj adm)), 1))

/-- What the launch deals a device for its two pipelines. -/
abbrev G (d : Dev nD) : sProp 𝕄 :=
  iprop((bigSep Finset.univ fun p : Fin 2 => cellsGhost (pin (pcfgs (F := F)) adm) EP p d) ∗ (bigSep Finset.univ fun p : Fin 2 => toksInit (pin (pcfgs (F := F)) adm) EP p d))

omit [FloatOps F] in
theorem bigSep_emp' {I : Type} (s : Finset I) : (bigSep s fun _ => iprop(emp)) = (iprop(emp) : sProp 𝕄) := bigSep_emp_const s

theorem hu₀ : (ownU (u₀ (F := F) adm) : sProp 𝕄)
    ⊢ |={Set.univ}=> iprop(BI.own (EH (initOf (K (F := F)).hsCells (K (F := F)).hsToks)) ∗ (bigSep Finset.univ fun d : Dev nD => G adm d)
        ∗ bigSep Finset.univ fun thr : Thread nD τ => bigSep Finset.univ fun q : Fin 2 => (P m adm).x q thr) := by
  unfold u₀
  iintro Hu
  ihave H := (ownU_pair (initOf (K (F := F)).hsCells (K (F := F)).hsToks)
    ((initOf (Pipeline.cells (nD := nD) (τ := τ) (pin (pcfgs (F := F)) adm) (cellOf_inj adm)) (Pipeline.launchToks (nD := nD) (τ := τ) (pin (pcfgs (F := F)) adm) (cellOf_inj adm)), 1) : UP × Counters)) $$ Hu
  icases H with ⟨HH, HP⟩
  ihave HP' := (show (BI.own (embR ((initOf (Pipeline.cells (nD := nD) (τ := τ) (pin (pcfgs (F := F)) adm) (cellOf_inj adm)) (Pipeline.launchToks (nD := nD) (τ := τ) (pin (pcfgs (F := F)) adm) (cellOf_inj adm)), 1) : UP × Counters)) : sProp 𝕄)
    ⊢ BI.own (EP (initOf (Pipeline.cells (nD := nD) (τ := τ) (pin (pcfgs (F := F)) adm) (cellOf_inj adm)) (Pipeline.launchToks (nD := nD) (τ := τ) (pin (pcfgs (F := F)) adm) (cellOf_inj adm)))) from .rfl) $$ HP
  imod (Pipeline.fund_ghost (pin (pcfgs (F := F)) adm) EP (cellOf_inj adm)) $$ HP' with ⟨HA, HB⟩
  imodintro
  isplitl [HH]; · iexact HH
  isplitl [HA HB]
  · unfold G
    rw [bigSep_sep']
    isplitl [HA] <;> iassumption
  rw [show (bigSep Finset.univ fun thr : Thread nD τ => bigSep Finset.univ fun q : Fin 2 => (P (F := F) m adm).x q thr) = bigSep Finset.univ fun _ => iprop(emp) from
    bigSep_congr fun _ _ => bigSep_emp' _, bigSep_emp']
  iempintro

/-! ## @main -/

/-- The scatter's three arrays and the gather's three among the host's buffers. -/
def arrsA : Finset (DevRef τ sig) := {Proc.devRef .tc main_v10, Proc.devRef .tc main_v11, Proc.devRef .tc main_v12}
def arrsB : Finset (DevRef τ sig) := {Proc.devRef .tc main_v10, Proc.devRef .tc main_v16, Proc.devRef .tc main_v17}
theorem arrsA_sub : arrsA ⊆ ucRefs τ sig := by decide
theorem arrsB_sub : arrsB ⊆ ucRefs τ sig := by decide

omit [FloatOps F] in
theorem held_arrsA (d : Dev nD) (W : Valuation τ sig (Elt F)) :
    (held (d.tc : Thread nD τ) arrsA W : sProp 𝕄)
      = iprop((iL d ↦{fullShare} W (Proc.devRef .tc main_v10)) ∗ (xL d ↦{fullShare} W (Proc.devRef .tc main_v11)) ∗ pL d ↦{fullShare} W (Proc.devRef .tc main_v12)) := by
  unfold held arrsA
  rw [SparseCore.bigSep_insert' (by decide), SparseCore.bigSep_insert' (by decide), bigSep_singleton]
omit [FloatOps F] in
theorem held_arrsB (d : Dev nD) (W : Valuation τ sig (Elt F)) :
    (held (d.tc : Thread nD τ) arrsB W : sProp 𝕄)
      = iprop((iL d ↦{fullShare} W (Proc.devRef .tc main_v10)) ∗ (yL d ↦{fullShare} W (Proc.devRef .tc main_v16)) ∗ oL d ↦{fullShare} W (Proc.devRef .tc main_v17)) := by
  unfold held arrsB
  rw [SparseCore.bigSep_insert' (by decide), SparseCore.bigSep_insert' (by decide), bigSep_singleton]

/-- The rows no list entry names, which stay with the host. -/
abbrev aside (d : Dev nD) (f : Buf (Elt F) (pL d)) : sProp 𝕄 := pL d ↦[Finset.univ \ namedAll (cI m d)]{fullShare} f

theorem aside_eq (d : Dev nD) : (aside m d (p2 m d) : sProp 𝕄) = aside m d (p1 m d) :=
  pointsTo_congr fun i hi => dif_neg fun h => (Finset.mem_sdiff.mp hi).2 (mem_namedAll.mpr h)

theorem scaOut (d : Dev nD) (hd : Distinct (cI m d)) (f : Buf (Elt F) (pL d)) :
    (iprop((iL d ↦{fullShare} cI m d) ∗ (xL d ↦{fullShare} cX m d) ∗ pL d ↦{fullShare} f) : sProp 𝕄)
      ⊢ iprop((bigSep Finset.univ fun c : Fin 2 => scaCore m d c f) ∗ aside m d f) := by
  unfold scaCore aside
  rw [← arr_cores (ℓi := iL d) (ℓx := xL d) (ℓo := pL d), ← pPts_named d hd f]
  iintro ⟨Hi, Hx, Hp⟩
  ihave Hp' := ((pointsTo_split_subset (ℓ := pL d) (f := f) (q := fullShare) (Finset.subset_univ (namedAll (cI m d)))).1) $$ Hp
  icases Hp' with ⟨Hn, Hr⟩
  isplitr [Hr]
  · isplitl [Hi]; · iexact Hi
    isplitl [Hx]; · iexact Hx
    iexact Hn
  iexact Hr
theorem scaBack (d : Dev nD) (hd : Distinct (cI m d)) (f : Buf (Elt F) (pL d)) :
    iprop((bigSep Finset.univ fun c : Fin 2 => scaCore m d c f) ∗ aside m d f)
      ⊢ (iprop((iL d ↦{fullShare} cI m d) ∗ (xL d ↦{fullShare} cX m d) ∗ pL d ↦{fullShare} f) : sProp 𝕄) := by
  unfold scaCore aside
  rw [← arr_cores (ℓi := iL d) (ℓx := xL d) (ℓo := pL d), ← pPts_named d hd f]
  iintro ⟨⟨Hi, Hx, Hn⟩, Hr⟩
  isplitl [Hi]; · iexact Hi
  isplitl [Hx]; · iexact Hx
  iapply ((pointsTo_split_subset (ℓ := pL d) (f := f) (q := fullShare) (Finset.subset_univ (namedAll (cI m d)))).2)
  isplitl [Hn] <;> iassumption

theorem gaSplit (d : Dev nD) (f : Buf (Elt F) (oL d)) :
    (iprop((iL d ↦{fullShare} gI m adm d) ∗ (yL d ↦{fullShare} gY m adm d) ∗ oL d ↦{fullShare} f) : sProp 𝕄)
      = bigSep Finset.univ fun c : Fin 2 => gaCore m adm d c f := by
  unfold gaCore
  rw [← arr_cores (ℓi := iL d) (ℓx := yL d) (ℓo := oL d), ← oPts_bands d f]

abbrev FIN (d : Dev nD) : sProp 𝕄 := held (d.tc : Thread nD τ) (ucRefs τ sig) (V9 m adm d)

/-- What the core has beside its debts between the calls. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom (Q := 2) n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_eq (d : Dev nD) (n : ℕ) : ((K (F := F)).tcSt EH d n : sProp 𝕄) = iprop(debts d n ∗ tcRest d n) := rfl

theorem router_wp (d : Dev nD) (Q : PUnit → sProp 𝕄) :
    iprop((iprop(boundary (d.tc : Thread nD τ) ∗ (held (d.tc : Thread nD τ) (ucRefs τ sig) (V2 m d) ∗ debts d 0)) -∗ Q ⟨⟩)
        ∗ boundary (d.tc : Thread nD τ) ∗ (held (d.tc : Thread nD τ) (ucRefs τ sig) (V1 m d) ∗ debts d 0) ∗ levAts (K (F := F)).L (K (F := F)).lev
        ∗ cellsGhost (pin (pcfgs (F := F)) adm) EP 0 d ∗ toksInit (pin (pcfgs (F := F)) adm) EP 0 d)
      ⊢ wp frame (wpE ((K (F := F)).defs (D (F := F))) 𝒱 (SparseCore.T d) none) Set.univ (Prog.lift (.customCall (SparseCore.inner (Pipeline.entry 0)) ())) Q :=
  call_wp adm (pdats m adm) 0 (seg0 m adm) d Q

theorem experts_wp (h : Good m adm) (d : Dev nD) (Q : PUnit → sProp 𝕄) :
    iprop((iprop(boundary (d.tc : Thread nD τ) ∗ (held (d.tc : Thread nD τ) (ucRefs τ sig) (V6 m adm d) ∗ debts d 1)) -∗ Q ⟨⟩)
        ∗ boundary (d.tc : Thread nD τ) ∗ (held (d.tc : Thread nD τ) (ucRefs τ sig) (V5 m d) ∗ debts d 1) ∗ levAts (K (F := F)).L (K (F := F)).lev
        ∗ cellsGhost (pin (pcfgs (F := F)) adm) EP 1 d ∗ toksInit (pin (pcfgs (F := F)) adm) EP 1 d)
      ⊢ wp frame (wpE ((K (F := F)).defs (D (F := F))) 𝒱 (SparseCore.T d) none) Set.univ (Prog.lift (.customCall (SparseCore.inner (Pipeline.entry 1)) ())) Q :=
  call_wp adm (pdats m adm) 1 (seg2 m adm h) d Q

theorem scatter_wp (h : Good m adm) (κ : GSem nD τ sig → ℕ) (d : Dev nD) (Q : PUnit → sProp 𝕄) :
    iprop((K (F := F)).ctx EH (P m adm) κ ∗ (K (F := F)).tcSt EH d 0 ∗ held (d.tc : Thread nD τ) (ucRefs τ sig) (V3 m d)
        ∗ (iprop((K (F := F)).tcSt EH d 1 ∗ held (d.tc : Thread nD τ) (ucRefs τ sig) (V4 m d)) -∗ Q ⟨⟩))
      ⊢ wp frame (wpE ((K (F := F)).defs (D (F := F))) 𝒱 (SparseCore.T d) none) Set.univ (sc.run d 0) Q := by
  iintro ⟨#Hctx, Hst, Hh, Hk⟩
  ihave Hh' := (Entails.of_eq (StableHlo.held_sub_split (Ix := HIx 2) (Name := ℕ) (U := UU) (Lvl := ℕ) (d.tc : Thread nD τ) arrsA_sub (V3 m d))) $$ Hh
  icases Hh' with ⟨Ha, Hr⟩
  ihave Ha' := ((Entails.of_eq (held_arrsA d (V3 m d))).trans (scaOut m d (h.distinct d) _)) $$ Ha
  icases Ha' with ⟨Ha, Hs⟩
  iapply ((K (F := F)).wp_run (D (F := F)) 𝒱 (EH := EH) (P := P m adm) κ d 0) $$ [Hst Ha Hk Hs Hr]
  isplitr; · iexact Hctx
  isplitl [Hst]; · iexact Hst
  isplitl [Ha]; · iexact Ha
  iintro ⟨Hst, Hdn⟩
  iapply Hk
  isplitl [Hst]; · iexact Hst
  ihave Hs' := (Entails.of_eq (aside_eq m d).symm) $$ Hs
  ihave Ha := (show iprop((bigSep Finset.univ fun c : Fin ((K (F := F)).nCore 0) => (P m adm).dn 0 d c) ∗ aside m d (p2 m d)) ⊢ (held (d.tc : Thread nD τ) arrsA (V4 m d) : sProp 𝕄) from by
    rw [held_arrsA, V4_eq, V4_ne m d _ (by decide), V4_ne m d _ (by decide)]
    exact scaBack m d (h.distinct d) (p2 m d)) $$ [Hdn Hs']
  · isplitl [Hdn] <;> iassumption
  ihave Hr' := (Entails.of_eq (StableHlo.held_congr (Ix := HIx 2) (Name := ℕ) (U := UU) (Lvl := ℕ) (d.tc : Thread nD τ) (V := V3 m d) (V' := V4 m d) (fun b hb =>
    (V4_ne m d b (fun e => (Finset.mem_sdiff.mp hb).2 (e ▸ by decide))).symm))) $$ Hr
  iapply (Entails.of_eq (StableHlo.held_sub_split (Ix := HIx 2) (Name := ℕ) (U := UU) (Lvl := ℕ) (d.tc : Thread nD τ) arrsA_sub (V4 m d)).symm)
  isplitl [Ha] <;> iassumption

theorem gather_wp (κ : GSem nD τ sig → ℕ) (d : Dev nD) (Q : PUnit → sProp 𝕄) :
    iprop((K (F := F)).ctx EH (P m adm) κ ∗ (K (F := F)).tcSt EH d 1 ∗ held (d.tc : Thread nD τ) (ucRefs τ sig) (V7 m adm d)
        ∗ (iprop((K (F := F)).tcSt EH d 2 ∗ held (d.tc : Thread nD τ) (ucRefs τ sig) (V8 m adm d)) -∗ Q ⟨⟩))
      ⊢ wp frame (wpE ((K (F := F)).defs (D (F := F))) 𝒱 (SparseCore.T d) none) Set.univ (sc.run d 1) Q := by
  iintro ⟨#Hctx, Hst, Hh, Hk⟩
  ihave Hh' := (Entails.of_eq (StableHlo.held_sub_split (Ix := HIx 2) (Name := ℕ) (U := UU) (Lvl := ℕ) (d.tc : Thread nD τ) arrsB_sub (V7 m adm d))) $$ Hh
  icases Hh' with ⟨Ha, Hr⟩
  ihave Ha' := (Entails.of_eq ((held_arrsB d (V7 m adm d)).trans (gaSplit m adm d _))) $$ Ha
  iapply ((K (F := F)).wp_run (D (F := F)) 𝒱 (EH := EH) (P := P m adm) κ d 1) $$ [Hst Ha' Hk Hr]
  isplitr; · iexact Hctx
  isplitl [Hst]; · iexact Hst
  isplitl [Ha']; · iexact Ha'
  iintro ⟨Hst, Hdn⟩
  iapply Hk
  isplitl [Hst]; · iexact Hst
  ihave Ha := (show (bigSep Finset.univ fun c : Fin ((K (F := F)).nCore 1) => (P m adm).dn 1 d c) ⊢ (held (d.tc : Thread nD τ) arrsB (V8 m adm d) : sProp 𝕄) from
    Entails.of_eq (by
      rw [held_arrsB, V8_eq, V8_ne m adm d _ (by decide), V8_ne m adm d _ (by decide)]
      exact (gaSplit m adm d (o2 m adm d)).symm)) $$ Hdn
  ihave Hr' := (Entails.of_eq (StableHlo.held_congr (Ix := HIx 2) (Name := ℕ) (U := UU) (Lvl := ℕ) (d.tc : Thread nD τ) (V := V7 m adm d) (V' := V8 m adm d) (fun b hb =>
    (V8_ne m adm d b (fun e => (Finset.mem_sdiff.mp hb).2 (e ▸ by decide))).symm))) $$ Hr
  iapply (Entails.of_eq (StableHlo.held_sub_split (Ix := HIx 2) (Name := ℕ) (U := UU) (Lvl := ℕ) (d.tc : Thread nD τ) arrsB_sub (V8 m adm d)).symm)
  isplitl [Ha] <;> iassumption

theorem G_eq (d : Dev nD) : (G (F := F) adm d : sProp 𝕄)
    ⊢ iprop(cellsGhost (pin (pcfgs (F := F)) adm) EP 0 d ∗ cellsGhost (pin (pcfgs (F := F)) adm) EP 1 d
        ∗ toksInit (pin (pcfgs (F := F)) adm) EP 0 d ∗ toksInit (pin (pcfgs (F := F)) adm) EP 1 d) := by
  have h1 : (bigSep Finset.univ fun p : Fin 2 => (cellsGhost (pin (pcfgs (F := F)) adm) EP p d : sProp 𝕄))
      = iprop(cellsGhost (pin (pcfgs (F := F)) adm) EP 0 d ∗ cellsGhost (pin (pcfgs (F := F)) adm) EP 1 d) := BI.bigSep_fin_two _
  have h2 : (bigSep Finset.univ fun p : Fin 2 => (toksInit (pin (pcfgs (F := F)) adm) EP p d : sProp 𝕄))
      = iprop(toksInit (pin (pcfgs (F := F)) adm) EP 0 d ∗ toksInit (pin (pcfgs (F := F)) adm) EP 1 d) := BI.bigSep_fin_two _
  unfold G
  rw [h1, h2]
  iintro ⟨⟨Hg0, Hg1⟩, ⟨Ht0, Ht1⟩⟩
  isplitl [Hg0]; · iexact Hg0
  isplitl [Hg1]; · iexact Hg1
  isplitl [Ht0]; · iexact Ht0
  iexact Ht1

theorem hmain (h : Good m adm) (κ : GSem nD τ sig → ℕ) (d : Dev nD) :
    iprop((K (F := F)).ctx EH (P m adm) κ ∗ (K (F := F)).tcSt EH d 0 ∗ (K (F := F)).tcRes m ρ d ∗ G adm d)
      ⊢ wp frame (wpE ((K (F := F)).defs (D (F := F))) 𝒱 (SparseCore.T d) none) Set.univ (main d)
          fun _ => iprop((K (F := F)).tcSt EH d 2 ∗ FIN m adm d ∗ (K (F := F)).tcEnd d) := by
  unfold SparseCore.Cfg.tcRes SparseCore.Cfg.tcEnd
  rw [main_eq]
  have hub : (unscopedBufs d (fun b => m ((SparseCore.T d : Thread nD τ).loc b)) : sProp 𝕄) = held (d.tc : Thread nD τ) (ucRefs τ sig) (fun b => m (d, b)) :=
    unscopedBufs_held d (fun b => m (d, b))
  rw [hub]
  iintro ⟨#Hctx, Hst, ⟨Hb, Hh, Hts, -⟩, HG⟩
  ihave HG' := (G_eq adm d) $$ HG
  icases HG' with ⟨Hg0, Hg1, Ht0, Ht1⟩
  ihave #Hlv := (SparseCore.Cfg.ctx_levAts κ) $$ Hctx
  iapply (StableHlo.wp_seq 𝒱 none Set.univ d (ucRefs τ sig) _ ops0 ops0_bufs ops0_fresh (fun b => m (d, b))) $$ [Hb Hh]
  · isplitl [Hb] <;> iassumption
  iintro ⟨Hb, Hh⟩
  -- the router's call
  rw [wp_bind]
  ihave Hst' := (Entails.of_eq (tcSt_eq d 0)) $$ Hst
  icases Hst' with ⟨HO, Hst⟩
  iapply (router_wp m adm d)
  isplitr [Hb HO Hh Hg0 Ht0]
  swap
  · isplitl [Hb]; · iexact Hb
    isplitl [HO Hh]
    · isplitl [Hh]; · iexact Hh
      iexact HO
    isplitr; · iexact Hlv
    isplitl [Hg0]; · iexact Hg0
    iexact Ht0
  iintro ⟨Hb, Hh, HO⟩
  iapply (StableHlo.wp_seq 𝒱 none Set.univ d (ucRefs τ sig) _ ops1 ops1_bufs ops1_fresh (V2 m d)) $$ [Hb Hh]
  · isplitl [Hb] <;> iassumption
  iintro ⟨Hb, Hh⟩
  -- the scatter
  rw [wp_bind]
  iapply (scatter_wp m adm h κ d)
  isplitr; · iexact Hctx
  isplitl [HO Hst]
  · iapply (Entails.of_eq (tcSt_eq d 0).symm)
    isplitl [HO] <;> iassumption
  isplitl [Hh]; · iexact Hh
  iintro ⟨Hst, Hh⟩
  iapply (StableHlo.wp_seq 𝒱 none Set.univ d (ucRefs τ sig) _ ops2 ops2_bufs ops2_fresh (V4 m d)) $$ [Hb Hh]
  · isplitl [Hb] <;> iassumption
  iintro ⟨Hb, Hh⟩
  -- the experts' call
  rw [wp_bind]
  ihave Hst' := (Entails.of_eq (tcSt_eq d 1)) $$ Hst
  icases Hst' with ⟨HO, Hst⟩
  iapply (experts_wp m adm h d)
  isplitr [Hb HO Hh Hg1 Ht1]
  swap
  · isplitl [Hb]; · iexact Hb
    isplitl [HO Hh]
    · isplitl [Hh]; · iexact Hh
      iexact HO
    isplitr; · iexact Hlv
    isplitl [Hg1]; · iexact Hg1
    iexact Ht1
  iintro ⟨Hb, Hh, HO⟩
  iapply (StableHlo.wp_seq 𝒱 none Set.univ d (ucRefs τ sig) _ ops3 ops3_bufs ops3_fresh (V6 m adm d)) $$ [Hb Hh]
  · isplitl [Hb] <;> iassumption
  iintro ⟨Hb, Hh⟩
  -- the gather
  rw [wp_bind]
  iapply (gather_wp m adm κ d)
  isplitr; · iexact Hctx
  isplitl [HO Hst]
  · iapply (Entails.of_eq (tcSt_eq d 1).symm)
    isplitl [HO] <;> iassumption
  isplitl [Hh]; · iexact Hh
  iintro ⟨Hst, Hh⟩
  iapply (StableHlo.wp_seq 𝒱 none Set.univ d (ucRefs τ sig) _ ops4 ops4_bufs ops4_fresh (V8 m adm d)) $$ [Hb Hh]
  · isplitl [Hb] <;> iassumption
  iintro ⟨Hb, Hh⟩
  rw [wp_pure]; imodintro
  isplitl [Hst]; · iexact Hst
  isplitl [Hh]; · iexact Hh
  isplitl [Hb] <;> iassumption

/-! ## The run -/

def fq (d : Dev nD) (s' : Phys nD τ sig (Elt F)) : Prop := ∀ b ∈ ucRefs τ sig, s'.mem.mem (d, b) = V9 m adm d b

theorem hfin (d : Dev nD) (s' : Phys nD τ sig (Elt F)) : iprop(FIN m adm d ∗ SI s') ⊢ (⌜fq m adm d s'⌝ : sProp 𝕄) := by
  unfold FIN held
  iintro ⟨H, HSI⟩
  ihave %h := (SI_pointsTo_bufs_agree (qs := fun _ => fullShare) (ucRefs τ sig)) $$ [HSI H]
  · isplitl [HSI]; · iexact HSI
    iexact H
  ipureintro
  exact h

/-- Every host buffer ends at `V9`, every counter at zero. -/
def QC : PUnit × MemSt nD τ sig (Elt F) → Prop := fun r => (∀ d : Dev nD, ∀ b ∈ ucRefs τ sig, r.2.mem (d, b) = V9 m adm d b) ∧ r.2.sem = fun _ => 0

theorem run_main [∀ e, Nonempty (Elt F e)] (h : Good m adm) :
    θ_run (Cert.KernelIdeal.defs (F := F)) (Cert.KernelIdeal.threads (F := F)) ⟨m, fun _ => 0, ρ⟩ (QC m adm) :=
  SparseCore.Cfg.θ_run_sc_quiescent (K := K (F := F)) (D := D (F := F)) (𝒱 := 𝒱) (EH := EH) (P := P m adm) (A := ∅) facts v₀
    (fun q hq => match q with | 0 => nomatch hq | 1 => nomatch hq)
    (fun q _ => match q with | 0 => tileObl0 m adm facts h | 1 => tileObl1 m adm facts h)
    (fun q _ => match q with | 0 => SparseCore.Cfg.VecSplit.of_plain (vecSplit0 m adm) | 1 => SparseCore.Cfg.VecSplit.of_plain (vecSplit1 m adm))
    m ρ main (G adm) (FIN m adm) (u₀ (F := F) adm) (sep_elim_left.trans (hu₀ m adm)) (hmain m ρ adm h) (fq m adm) (hfin m adm) (QC m adm) (fun _ h hz => ⟨h, hz⟩)

end Cert.Proof.WholeRun

end
-- ==== Proof.RouteMath.lean ====
/-
  Arithmetic of the routing: the first greatest of eight values, counts as extended reals, and the experts' rounded starts.
-/
module

public import Idealize.ShloMosaic.Lib.Pointwise
public import Idealize.ShloMosaic.Lib.SortNet.Extract

@[expose] public section

noncomputable section

namespace Cert.Proof.RouteMath

open Idealize.ShloMosaic

/-- The bits of minus infinity, as an extended real. -/
abbrev low : EReal := Ideal.ofBits .f32 0xFF800000#32

theorem low_eq : low = ⊥ := by
  simp [low, Ideal.ofBits, Ideal.ieee]

/-- The greatest of eight values. -/
abbrev top (p : Fin 8 → EReal) : EReal := Finset.univ.fold max low p

theorem le_top (p : Fin 8 → EReal) (j : Fin 8) : p j ≤ top p :=
  (Finset.le_fold_max _).mpr (Or.inr ⟨j, Finset.mem_univ _, le_rfl⟩)

theorem exists_top (p : Fin 8 → EReal) : ∃ j, p j = top p := by
  obtain ⟨j, -, hj⟩ := Finset.exists_max_image Finset.univ p ⟨0, Finset.mem_univ _⟩
  refine ⟨j, le_antisymm (le_top p j) ((Finset.fold_max_le _).mpr ⟨?_, fun k hk => hj k hk⟩)⟩
  rw [low_eq]; exact bot_le

theorem exists_best (p : Fin 8 → EReal) : ∃ n, ∃ h : n < 8, p ⟨n, h⟩ = top p := by
  obtain ⟨j, h⟩ := exists_top p
  exact ⟨j.val, j.isLt, h⟩

open Classical in
/-- The first place the greatest value stands at. -/
def best (p : Fin 8 → EReal) : ℕ := Nat.find (exists_best p)

theorem best_lt (p : Fin 8 → EReal) : best p < 8 := (Nat.find_spec (exists_best p)).1
theorem best_top (p : Fin 8 → EReal) : p ⟨best p, best_lt p⟩ = top p := (Nat.find_spec (exists_best p)).2
theorem best_le (p : Fin 8 → EReal) (j : Fin 8) (h : p j = top p) : best p ≤ j.val := Nat.find_min' (exists_best p) ⟨j.isLt, h⟩

/-- The least place of the greatest value, as the fold of words computes it. -/
theorem fold_min (p : Fin 8 → EReal) (q : EReal) (hq : q = top p) :
    Finset.univ.fold IntOp.minsi 2147483647#32 (fun k : Fin 8 => if p k = q then BitVec.ofNat 32 k.val else 8#32) = BitVec.ofNat 32 (best p) := by
  subst hq
  refine BitVec.eq_of_toInt_eq ?_
  have hom := Finset.fold_hom (s := (Finset.univ : Finset (Fin 8))) (op := (IntOp.minsi : BitVec 32 → BitVec 32 → BitVec 32)) (op' := (min : Int → Int → Int)) (m := BitVec.toInt)
    (b := 2147483647#32) (f := fun k : Fin 8 => if p k = top p then BitVec.ofNat 32 k.val else 8#32) (fun x y => SortNet.toInt_minsi x y)
  rw [← hom]
  have hk : ∀ k : Fin 8, (BitVec.ofNat 32 k.val).toInt = (k.val : Int) := by decide
  have hb := best_lt p
  have hr : (BitVec.ofNat 32 (best p)).toInt = (best p : Int) := hk ⟨best p, hb⟩
  rw [hr]
  refine le_antisymm ((Finset.fold_min_le _).mpr (Or.inr ⟨⟨best p, hb⟩, Finset.mem_univ _, ?_⟩)) ((Finset.le_fold_min _).mpr ⟨?_, fun k _ => ?_⟩)
  · simp only [best_top, if_true]; exact hr.le
  · show (best p : Int) ≤ 2147483647; omega
  · split
    · next h => rw [hk]; exact_mod_cast best_le p k h
    · show (best p : Int) ≤ 8; omega

/-- The softmax of eight logits. -/
def soft (l : Fin 8 → EReal) (j : Fin 8) : EReal :=
  Ideal.div (Ideal.exp (l j - max low (top l))) (∑ k, Ideal.exp (l k - max low (top l)))

/-! ## Sums of casts -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A natural number as an extended real. -/
abbrev nat (n : ℕ) : EReal := ((n : ℝ) : EReal)

theorem nat_add (a b : ℕ) : nat a + nat b = nat (a + b) := by
  unfold nat; rw [← EReal.coe_add]; norm_cast
theorem nat_mul (a b : ℕ) : nat a * nat b = nat (a * b) := by
  unfold nat; rw [← EReal.coe_mul]; norm_cast
theorem nat_zero : nat 0 = 0 := by simp [nat]
theorem nat_one : nat 1 = 1 := by simp [nat]
theorem nat_sum {ι : Type} (s : Finset ι) (f : ι → ℕ) : (∑ i ∈ s, nat (f i)) = nat (∑ i ∈ s, f i) := by
  unfold nat; rw [coe_sum]; norm_cast
theorem nat_le (a b : ℕ) : nat a ≤ nat b ↔ a ≤ b := by
  unfold nat; rw [EReal.coe_le_coe_iff, Nat.cast_le]

theorem sum_count (P : ℕ → Prop) [DecidablePred P] (n : ℕ) : (∑ t ∈ Finset.range n, if P t then 1 else 0) = Nat.count P n := by
  induction n with
  | zero => simp
  | succ n ih => rw [Finset.sum_range_succ, ih, Nat.count_succ]

theorem count_add (P : ℕ → Prop) [DecidablePred P] (b n : ℕ) : Nat.count P b + (∑ x ∈ Finset.range n, if P (b + x) then 1 else 0) = Nat.count P (b + n) := by
  rw [Nat.count_add, sum_count (fun k => P (b + k)) n]

/-- A comparison's bit, widened and cast. -/
theorem bit_nat (d : Bool) : (FloatOps.sitofp .f32 (BitVec.setWidth 32 (BitVec.ofBool d)) : Ideal .f32) = nat (if d then 1 else 0) := by
  show (((BitVec.setWidth 32 (BitVec.ofBool d)).toInt : ℝ) : EReal) = _
  cases d <;> simp [nat]

theorem toInt_small (n : ℕ) (h : n < 2 ^ 31) : (BitVec.ofNat 32 n).toInt = (n : Int) := by
  rw [BitVec.toInt_eq_toNat_bmod, BitVec.toNat_ofNat, Int.bmod_def]; omega

theorem nat_word (n : ℕ) (h : n < 2 ^ 31) : (FloatOps.sitofp .f32 (BitVec.ofNat 32 n) : Ideal .f32) = nat n := by
  show (((BitVec.ofNat 32 n).toInt : ℝ) : EReal) = _
  rw [show (BitVec.ofNat 32 n).toInt = (n : Int) from toInt_small n h]
  simp [nat]

theorem fptosi_nat (n : ℕ) (h : n < 2 ^ 31) : Ideal.fptosi 32 (nat n) = BitVec.ofNat 32 n := by
  have hn : (0 : ℝ) ≤ (n : ℝ) := Nat.cast_nonneg n
  have e : Ideal.toIntClamped (-(2 ^ (32 - 1) : Nat)) ((2 ^ (32 - 1) : Nat) - 1) (nat n) = (n : Int) := by
    show max _ (min _ (if 0 ≤ (n : ℝ) then ⌊(n : ℝ)⌋ else ⌈(n : ℝ)⌉)) = _
    rw [if_pos hn, Int.floor_natCast]
    have : (n : Int) < 2 ^ 31 := by exact_mod_cast h
    norm_num
    omega
  unfold Ideal.fptosi
  rw [e]
  exact BitVec.ofInt_natCast ..

theorem ceil_nat (n : ℕ) : Ideal.liftRound Int.ceil (nat n * ((1 / 128 : ℝ) : EReal)) = nat ((n + 127) / 128) := by
  unfold nat
  rw [← EReal.coe_mul]
  show (((⌈(n : ℝ) * (1 / 128)⌉ : ℤ) : ℝ) : EReal) = _
  have : ⌈(n : ℝ) * (1 / 128)⌉ = (((n + 127) / 128 : ℕ) : ℤ) := by
    rw [Int.ceil_eq_iff]
    have h1 : n ≤ 128 * ((n + 127) / 128) := by omega
    have h2 : 128 * ((n + 127) / 128) ≤ n + 127 := by omega
    have h1' : (n : ℝ) ≤ 128 * (((n + 127) / 128 : ℕ) : ℝ) := by exact_mod_cast h1
    have h2' : 128 * (((n + 127) / 128 : ℕ) : ℝ) ≤ (n : ℝ) + 127 := by exact_mod_cast h2
    generalize (n + 127) / 128 = c at h1' h2' ⊢
    rw [Int.cast_natCast]
    constructor <;> linarith
  rw [this]; norm_cast

theorem bits_128th : Ideal.ofBits .f32 0x3C000000#32 = ((1 / 128 : ℝ) : EReal) := by
  simp [Ideal.ofBits, Ideal.ieee]; rw [← EReal.coe_mul]; norm_num
theorem bits_128 : Ideal.ofBits .f32 0x43000000#32 = nat 128 := by
  simp [Ideal.ofBits, Ideal.ieee, nat]; rw [← EReal.coe_mul]; norm_num

/-! ## The experts' starts -/

variable (R : ℕ → ℕ)

/-- How many of the first `n` tokens go to expert `e`. -/
abbrev cnt (n e : ℕ) : ℕ := Nat.count (fun t => R t = e) n
/-- Where expert `e`'s rows start: the earlier experts' counts, each rounded up to a multiple of 128. -/
def start (e : ℕ) : ℕ := ∑ k ∈ Finset.range e, (cnt R 4096 k + 127) / 128 * 128
/-- The row of token `t`. -/
def row (t : ℕ) : ℕ := start R (R t) + cnt R t (R t)

theorem start_succ (e : ℕ) : start R (e + 1) = start R e + (cnt R 4096 e + 127) / 128 * 128 := Finset.sum_range_succ ..
theorem start_mono : Monotone (start R) := monotone_nat_of_le_succ fun e => by rw [start_succ]; omega
theorem start_dvd (e : ℕ) : 128 ∣ start R e := Finset.dvd_sum fun _ _ => Dvd.intro_left _ rfl

theorem cnt_succ (n e : ℕ) : cnt R (n + 1) e = cnt R n e + if R n = e then 1 else 0 := Nat.count_succ ..

theorem row_lt (t : ℕ) (ht : t < 4096) : row R t < start R (R t + 1) := by
  have h1 : cnt R (t + 1) (R t) = cnt R t (R t) + 1 := by rw [cnt_succ, if_pos rfl]
  have h2 : cnt R (t + 1) (R t) ≤ cnt R 4096 (R t) := Nat.count_monotone _ ht
  rw [start_succ]; unfold row; omega

theorem sum_cnt_le (n : ℕ) : ∀ m, (∑ e ∈ Finset.range m, cnt R n e) ≤ n := by
  intro m
  induction n with
  | zero => simp
  | succ n ih =>
    simp only [cnt_succ, Finset.sum_add_distrib, Finset.sum_ite_eq]
    split <;> omega

theorem start_le : start R 8 ≤ 5120 := by
  have h := sum_cnt_le R 4096 8
  have e : start R 8 ≤ ∑ k ∈ Finset.range 8, (cnt R 4096 k + 127) := Finset.sum_le_sum fun k _ => by omega
  rw [Finset.sum_add_distrib] at e
  simp at e h
  omega

theorem row_lt_rows (t : ℕ) (ht : t < 4096) (hr : R t < 8) : row R t < 5120 :=
  lt_of_lt_of_le (row_lt R t ht) ((start_mono R (by omega)).trans (start_le R))

theorem row_inj (t t' : ℕ) (ht : t < 4096) (ht' : t' < 4096) (h : row R t = row R t') : t = t' := by
  have hlt := row_lt R t ht
  have hlt' := row_lt R t' ht'
  have hle : start R (R t) ≤ row R t := Nat.le_add_right ..
  have hle' : start R (R t') ≤ row R t' := Nat.le_add_right ..
  have he : R t = R t' := by
    rcases Nat.lt_trichotomy (R t) (R t') with h1 | h1 | h1
    · have := start_mono R (show R t + 1 ≤ R t' by omega); omega
    · exact h1
    · have := start_mono R (show R t' + 1 ≤ R t by omega); omega
  unfold row at h
  rw [he] at h
  have hc : cnt R t (R t') = cnt R t' (R t') := by omega
  rcases Nat.lt_trichotomy t t' with h1 | h1 | h1
  · have h3 : cnt R (t + 1) (R t') ≤ cnt R t' (R t') := Nat.count_monotone _ h1
    rw [cnt_succ, if_pos he] at h3; omega
  · exact h1
  · have h3 : cnt R (t' + 1) (R t') ≤ cnt R t (R t') := Nat.count_monotone _ h1
    rw [cnt_succ, if_pos rfl] at h3; omega

/-- How many experts start at or before row `128 b`. -/
def upto (b : ℕ) : ℕ := ((Finset.univ : Finset (Fin 8)).filter fun e => start R e.val ≤ 128 * b).card

theorem upto_pos (b : ℕ) : 0 < upto R b := Finset.card_pos.mpr ⟨0, Finset.mem_filter.mpr ⟨Finset.mem_univ _, by simp [start]⟩⟩
theorem upto_le (b : ℕ) : upto R b ≤ 8 := (Finset.card_le_univ _).trans (by simp)

/-- The block of a token's row belongs to the token's expert. -/
theorem upto_row (t : ℕ) (ht : t < 4096) (hr : R t < 8) : upto R (row R t / 128) = R t + 1 := by
  have hlt := row_lt R t ht
  have hle : start R (R t) ≤ row R t := Nat.le_add_right ..
  have hiff : ∀ e : Fin 8, start R e.val ≤ 128 * (row R t / 128) ↔ e.val < R t + 1 := by
    intro e
    obtain ⟨q, hq⟩ := start_dvd R e.val
    constructor
    · intro h
      by_contra hc
      have := start_mono R (show R t + 1 ≤ e.val by omega)
      omega
    · intro h
      have := start_mono R (show e.val ≤ R t by omega)
      omega
  unfold upto
  simp only [hiff]
  have : ∀ n : ℕ, n ≤ 8 → ((Finset.univ : Finset (Fin 8)).filter fun e => e.val < n).card = n := by decide
  exact this _ (by omega)

end Cert.Proof.RouteMath

end
-- ==== Proof.WholePays.lean ====
/-
  The router's payloads at the ideal values, read at an index.
-/
module

public import proofs.«01_k».proof.Proof.WholeTail
public import proofs.«01_k».proof.Proof.RouteMath
public import proofs.«01_k».proof.Proof.WholeRegion0

@[expose] public section

set_option synthInstance.maxSize 4096

noncomputable section

namespace Cert.Proof.WholePays

open Cert.KernelIdeal Cert.KernelIdeal.Gen Cert.Proof.WholeTail Cert.Proof.RouteMath
open Idealize.ShloMosaic

variable (x : Vec Ideal S512x1024 .f32) (w : Vec Ideal S8x1024 .f32) (b : Vec Ideal S1x8 .f32)

/-- The logits of a block's row. -/
abbrev lgB (i : Fin 512) (e : Fin 8) : EReal := (∑ k : Fin 1024, x (ix2 i k) * w (ix2 e k)) + b (ix2 0 e)

theorem pay78_at (i : Fin 512) (j : Fin 8) : k0_pay78 x w b (ix2 i j) = soft (lgB x w b i) j := by
  unfold k0_pay78 k0_pay77
  pointwise
  rfl
theorem pay79_at (i : Fin 512) : k0_pay79 x w b (ix2 i 0) = top (soft (lgB x w b i)) := by
  rw [show soft (lgB x w b i) = fun j => k0_pay78 x w b (ix2 i j) from funext fun j => (pay78_at x w b i j).symm]
  unfold k0_pay79
  pointwise
theorem slt_small (a c : ℕ) (ha : a < 2 ^ 31) (hc : c < 2 ^ 31) : IntOp.cmpi .slt (BitVec.ofNat 32 a) (BitVec.ofNat 32 c) = BitVec.ofBool (decide (a < c)) := by
  unfold IntOp.cmpi
  simp only [BitVec.slt, toInt_small _ ha, toInt_small _ hc]
  congr 2
  rw [eq_iff_iff]
  omega
theorem pay80_at (i : Fin 512) (j : Fin 8) : k0_pay80 x w b (ix2 i j) = nat (if best (soft (lgB x w b i)) = j.val then 1 else 0) := by
  unfold k0_pay80
  pointwise
  simp only [pay78_at]
  rw [fold_min _ _ (pay79_at x w b i)]
  have h := best_lt (soft (lgB x w b i))
  generalize best (soft (lgB x w b i)) = r at h ⊢
  unfold IntOp.cmpi
  refine (bit_nat _).trans (congrArg nat ?_)
  have : (BitVec.ofNat 32 j.val == BitVec.ofNat 32 r) = decide (r = j.val) := by
    rw [Bool.eq_iff_iff, beq_iff_eq, decide_eq_true_iff]
    have := j.isLt
    constructor
    · intro h; have := congrArg BitVec.toNat h; simp at this; omega
    · rintro rfl; rfl
  simp [this]
theorem pay81_at (i : Fin 512) (j : Fin 8) : k0_pay81 x w b (ix2 i j) = nat (if best (soft (lgB x w b i)) = j.val then 1 else 0) := by
  rw [← pay80_at]
  unfold k0_pay81
  pointwise
theorem pay82_at (i : Fin 512) (k : Fin 1024) : k0_pay82 x w b (ix2 (n0 := 512) (n1 := 1024) i k) = x (ix2 i k) * top (soft (lgB x w b i)) := by
  rw [← pay79_at]
  unfold k0_pay82 k0_pay77
  pointwise

theorem pay1_at (j : Fin 8) : (k0_pay1 (F := Ideal)) (ix2 0 j) = 0 := by
  unfold k0_pay1; pointwise
theorem pay2_at (j : Fin 8) : (k0_pay2 (F := Ideal)) (ix2 0 j) = 0 := by
  unfold k0_pay2; pointwise
theorem pay8_at (j : Fin 8) : (k0_pay8 (F := Ideal)) (ix2 0 j) = 0 := by
  unfold k0_pay8; pointwise
theorem pay3_at (o : FVec Ideal S512x8 .f32) (n : Vec Ideal S1x8 .f32) (j : Fin 8) : k0_pay3 o n (ix2 0 j) = n (ix2 0 j) + ∑ i : Fin 512, o (ix2 i j) := by
  unfold k0_pay3; pointwise
theorem pay4_at (o : FVec Ideal S512x8 .f32) (n : Vec Ideal S1x8 .f32) (j : Fin 8) : k0_pay4 o n (ix2 0 j) = n (ix2 0 j) + ∑ i : Fin 512, o (ix2 i j) := by
  unfold k0_pay4; pointwise
theorem pay10_at (v : FVec Ideal S1x8 .f32) (o : Vec Ideal S128x8 .f32) (j : Fin 8) : k0_pay10 v o (ix2 0 j) = v (ix2 0 j) + ∑ i : Fin 128, o (ix2 i j) := by
  unfold k0_pay10; pointwise

theorem pay5_at (R : ℕ → ℕ) (v : Vec Ideal S1x8 .f32) (hv : ∀ e : Fin 8, v (ix2 0 e) = nat (cnt R 4096 e.val)) (j : Fin 8) :
    k0_pay5 v (ix2 0 j) = nat (start R j.val) := by
  unfold k0_pay5
  pointwise
  have h : ∀ k : Fin 8, Ideal.liftRound Int.ceil (v (ix2 0 k) * Ideal.ofBits .f32 0x3C000000#32) * Ideal.ofBits .f32 0x43000000#32
      * (FloatOps.sitofp .f32 (BitVec.setWidth 32 (IntOp.cmpi .slt (BitVec.ofNat 32 k.val) (BitVec.ofNat 32 j.val))) : Ideal .f32)
      = nat ((cnt R 4096 k.val + 127) / 128 * 128 * if k.val < j.val then 1 else 0) := by
    intro k
    have hk := k.isLt
    have hj := j.isLt
    rw [hv, bits_128th, bits_128, ceil_nat, slt_small _ _ (by omega) (by omega), bit_nat, nat_mul, nat_mul]
    simp
  refine (Finset.sum_congr rfl fun k _ => h k).trans ?_
  rw [nat_sum]
  congr 1
  simp only [start, mul_ite, mul_one, mul_zero]
  rw [Fin.sum_univ_eq_sum_range (fun k => if k < j.val then (cnt R 4096 k + 127) / 128 * 128 else 0) 8, ← Finset.sum_filter]
  congr 1
  ext a
  have hj := j.isLt
  simp only [Finset.mem_filter, Finset.mem_range]
  omega

theorem fold_bits (s : Finset (Fin 8)) (P : Fin 8 → Prop) [DecidablePred P] :
    s.fold IntOp.addi 0#32 (fun e => BitVec.setWidth 32 (BitVec.ofBool (decide (P e)))) = BitVec.ofNat 32 (s.filter P).card := by
  induction s using Finset.induction_on with
  | empty => rfl
  | insert a s ha ih =>
    rw [Finset.fold_insert ha, ih, Finset.filter_insert]
    unfold IntOp.addi
    split
    · next h =>
      rw [Finset.card_insert_of_notMem (fun hc => ha (Finset.mem_filter.mp hc).1)]
      simp [h, BitVec.ofNat_add, BitVec.add_comm]
    · next h => simp [h]

theorem pay6_at (R : ℕ → ℕ) (v : Vec Ideal S1x8 .f32) (hv : ∀ e : Fin 8, v (ix2 0 e) = nat (cnt R 4096 e.val)) (b : Fin 40) :
    k0_pay6 v (ix2 b 0) = BitVec.ofNat 32 (upto R b.val - 1) := by
  have hs := pay5_at R v hv
  have hb := b.isLt
  have h1 : IntOp.muli (BitVec.ofNat 32 b.val) 128#32 = BitVec.ofNat 32 (128 * b.val) := by
    unfold IntOp.muli; rw [Nat.mul_comm]; exact (BitVec.ofNat_mul ..).symm
  unfold k0_pay6
  pointwise
  simp only [hs, h1, nat_word _ (show 128 * b.val < 2 ^ 31 by omega), nat_le]
  rw [fold_bits]
  have hp := upto_pos R b.val
  have hl := upto_le R b.val
  unfold upto at hp hl ⊢
  refine BitVec.eq_of_toNat_eq ?_
  unfold IntOp.subi
  simp only [BitVec.toNat_sub, BitVec.toNat_ofNat]
  omega

theorem chunk_at (R : ℕ → ℕ) (v a : FVec Ideal S1x8 .f32) (o : Vec Ideal S128x8 .f32) (base : ℕ) (S : ℕ → ℕ)
    (hv : ∀ e : Fin 8, v (ix2 0 e) = nat (S e.val)) (ha : ∀ e : Fin 8, a (ix2 0 e) = nat (cnt R base e.val))
    (ho : ∀ (i : Fin 128) (e : Fin 8), o (ix2 i e) = nat (if R (base + i.val) = e.val then 1 else 0))
    (j : Fin 128) (hr : R (base + j.val) < 8) (hb : S (R (base + j.val)) + cnt R (base + j.val) (R (base + j.val)) < 2 ^ 31) :
    chunkDest v a o (ix2 j 0) = BitVec.ofNat 32 (S (R (base + j.val)) + cnt R (base + j.val) (R (base + j.val))) := by
  unfold chunkDest k0_pay7
  pointwise
  have hj := j.isLt
  have h1 : ∀ e : Fin 8, (∑ k : Fin 128, (FloatOps.sitofp .f32 (BitVec.setWidth 32 (IntOp.cmpi .slt (BitVec.ofNat 32 k.val) (BitVec.ofNat 32 j.val))) : Ideal .f32) * o (ix2 k e))
      = nat (∑ k ∈ Finset.range j.val, if R (base + k) = e.val then 1 else 0) := by
    intro e
    have : ∀ k : Fin 128, (FloatOps.sitofp .f32 (BitVec.setWidth 32 (IntOp.cmpi .slt (BitVec.ofNat 32 k.val) (BitVec.ofNat 32 j.val))) : Ideal .f32) * o (ix2 k e)
        = nat (if k.val < j.val then (if R (base + k.val) = e.val then 1 else 0) else 0) := by
      intro k
      have hk := k.isLt
      rw [slt_small _ _ (by omega) (by omega), bit_nat, ho, nat_mul]
      congr 1
      by_cases h : k.val < j.val <;> simp [h]
    refine (Finset.sum_congr rfl fun k _ => this k).trans ?_
    rw [nat_sum, Fin.sum_univ_eq_sum_range (fun k => if k < j.val then (if R (base + k) = e.val then 1 else 0) else 0) 128, ← Finset.sum_filter]
    congr 2
    ext a
    simp only [Finset.mem_filter, Finset.mem_range]
    omega
  have h2 : ∀ e : Fin 8, o (ix2 j e) * (v (ix2 0 e) + a (ix2 0 e) + ∑ k : Fin 128,
        (FloatOps.sitofp .f32 (BitVec.setWidth 32 (IntOp.cmpi .slt (BitVec.ofNat 32 k.val) (BitVec.ofNat 32 j.val))) : Ideal .f32) * o (ix2 k e))
      = nat (if e = ⟨R (base + j.val), hr⟩ then S (R (base + j.val)) + cnt R (base + j.val) (R (base + j.val)) else 0) := by
    intro e
    rw [h1, hv, ha, ho, nat_add, nat_add, nat_mul, Nat.add_assoc, count_add (fun t => R t = e.val) base j.val]
    congr 1
    by_cases h : R (base + j.val) = e.val
    · have : e = ⟨R (base + j.val), hr⟩ := Fin.ext h.symm
      rw [if_pos h, if_pos this, one_mul, h]
    · have : ¬ e = ⟨R (base + j.val), hr⟩ := fun hc => h (congrArg Fin.val hc).symm
      rw [if_neg h, if_neg this, zero_mul]
  refine (congrArg _ (Finset.sum_congr rfl fun e _ => h2 e)).trans ?_
  rw [nat_sum, Finset.sum_ite_eq' Finset.univ, if_pos (Finset.mem_univ _)]
  exact fptosi_nat _ hb

end Cert.Proof.WholePays

end
-- ==== Proof.WholeRoute.lean ====
/-
  What the router's call leaves in its six arrays, at the ideal values: every token's expert, the counts, the sums of
  probabilities, every token's row of the sorted table and every block's expert.
-/
module

public import proofs.«01_k».proof.Proof.WholePays

@[expose] public section

set_option synthInstance.maxSize 4096

noncomputable section

namespace Cert.Proof.WholeRoute

open Cert.KernelIdeal Cert.KernelIdeal.Gen Cert.Proof.WholeTail Cert.Proof.RouteMath Cert.Proof.WholePays Cert.Proof.WholeRouter
open Cert.Proof.WholeRegion0 (xB wB bB cntAt sumAt ptOf ohAll dat0)
open Idealize.ShloMosaic
open Idealize.ShloMosaic.Pipeline (Dat)

variable (V : (c : Dev nD) → (b : Ref sig .tc) → Buf (Elt Ideal) ((c.tc : Thread nD τ).loc b)) (c : Dev nD)

/-- The tokens, the router's weights and its bias. -/
abbrev aX (t : Fin 4096) (k : Fin 1024) : EReal := V c main_v0 (ix2 t k)
abbrev aW (e : Fin 8) (k : Fin 1024) : EReal := V c main_arg1 (ix2 e k)
abbrev aB (e : Fin 8) : EReal := V c main_v1 (ix2 (n0 := 1) 0 e)

/-- A token's logits. -/
def lgs (X : Fin 4096 → Fin 1024 → EReal) (W : Fin 8 → Fin 1024 → EReal) (B : Fin 8 → EReal) (t : Fin 4096) (e : Fin 8) : EReal :=
  (∑ k, X t k * W e k) + B e
/-- A token's expert. -/
def route (l : Fin 4096 → Fin 8 → EReal) (t : ℕ) : ℕ := if h : t < 4096 then best (soft (l ⟨t, h⟩)) else 8

theorem route_lt (l : Fin 4096 → Fin 8 → EReal) (t : ℕ) (ht : t < 4096) : route l t < 8 := by
  unfold route; rw [dif_pos ht]; exact best_lt _

abbrev lg : Fin 4096 → Fin 8 → EReal := lgs (aX V c) (aW V c) (aB V c)
abbrev R : ℕ → ℕ := route (lg V c)

/-! ## The windows' rectangles -/

theorem pt_lt (t : Fin grid0.N) (i : Fin 512) : 512 * t.val + i.val < 4096 := by
  have h : t.val < 8 := N_0 ▸ t.isLt
  omega

theorem idx0_0 : ∀ t : Fin grid0.N, win0_0.index t 0 = t.val ∧ win0_0.index t 1 = 0 := by decide
theorem idx0_1 : ∀ t : Fin grid0.N, win0_1.index t 0 = 0 ∧ win0_1.index t 1 = 0 := by decide
theorem idx0_2 : ∀ t : Fin grid0.N, win0_2.index t 0 = 0 ∧ win0_2.index t 1 = 0 := by decide

theorem xB_at (t : Fin grid0.N) (i : Fin 512) (k : Fin 1024) : xB V c t (ix2 i k) = aX V c ⟨512 * t.val + i.val, pt_lt t i⟩ k := by
  refine congrArg (V c main_v0) (funext fun a => Fin.ext ?_)
  refine (win0_0.rect_emb_val t _ a).trans ?_
  match a with
  | ⟨0, _⟩ => show win0_0.index t 0 * 512 + i.val = _; rw [(idx0_0 t).1, Nat.mul_comm]; rfl
  | ⟨1, _⟩ => show win0_0.index t 1 * 1024 + k.val = _; rw [(idx0_0 t).2]; simp
theorem wB_at (t : Fin grid0.N) (e : Fin 8) (k : Fin 1024) : wB V c t (ix2 e k) = aW V c e k := by
  refine congrArg (V c main_arg1) (funext fun a => Fin.ext ?_)
  refine (win0_1.rect_emb_val t _ a).trans ?_
  match a with
  | ⟨0, _⟩ => show win0_1.index t 0 * 8 + e.val = _; rw [(idx0_1 t).1]; simp
  | ⟨1, _⟩ => show win0_1.index t 1 * 1024 + k.val = _; rw [(idx0_1 t).2]; simp
theorem bB_at (t : Fin grid0.N) (e : Fin 8) : bB V c t (ix2 (n0 := 1) 0 e) = aB V c e := by
  refine congrArg (V c main_v1) (funext fun a => Fin.ext ?_)
  refine (win0_2.rect_emb_val t _ a).trans ?_
  match a with
  | ⟨0, _⟩ => show win0_2.index t 0 * 1 + 0 = _; rw [(idx0_2 t).1]; rfl
  | ⟨1, _⟩ => show win0_2.index t 1 * 8 + e.val = _; rw [(idx0_2 t).2]; simp

theorem lgB_eq (t : Fin grid0.N) (i : Fin 512) : lgB (xB V c t) (wB V c t) (bB V c t) i = lg V c ⟨512 * t.val + i.val, pt_lt t i⟩ := by
  funext e
  show (∑ k : Fin 1024, xB V c t (ix2 i k) * wB V c t (ix2 e k)) + bB V c t (ix2 0 e) = _
  rw [bB_at]
  refine congrArg (· + _) (Finset.sum_congr rfl fun k _ => ?_)
  rw [xB_at, wB_at]

/-! ## The counts and the sums -/

theorem oh_at (t : Fin grid0.N) (i : Fin 512) (e : Fin 8) :
    k0_pay80 (xB V c t) (wB V c t) (bB V c t) (ix2 i e) = nat (if R V c (512 * t.val + i.val) = e.val then 1 else 0) := by
  rw [pay80_at, lgB_eq]
  unfold R route
  rw [dif_pos (pt_lt t i)]

theorem cnt_at (e : Fin 8) : ∀ n : ℕ, n ≤ 8 → cntAt V c n (ix2 (n0 := 1) 0 e) = nat (cnt (R V c) (512 * n) e.val)
  | 0, _ => by
    unfold cntAt
    rw [pay1_at]; simp [nat]
  | n + 1, h => by
    have hn : n < grid0.N := by rw [N_0]; omega
    unfold cntAt
    rw [dif_pos hn]
    unfold cntStep
    have hs : (if first (grid0.coords ⟨n, hn⟩) then (k0_pay1 (F := Ideal)) else cntAt V c n) (ix2 (n0 := 1) 0 e) = nat (cnt (R V c) (512 * n) e.val) := by
      split
      · next hf =>
        obtain rfl : n = 0 := (WholeRegion0.first_iff ⟨n, hn⟩).mp hf
        rw [pay1_at]; simp [nat]
      · exact cnt_at e n (by omega)
    rw [pay3_at, hs]
    refine (congrArg _ (Finset.sum_congr rfl fun i _ => oh_at V c ⟨n, hn⟩ i e)).trans ?_
    rw [nat_sum, nat_add, Fin.sum_univ_eq_sum_range (fun i => if R V c (512 * n + i) = e.val then 1 else 0) 512, count_add (fun t => R V c t = e.val)]
    rfl

/-- A token's probability of an expert, and zero past the last token. -/
def prob (l : Fin 4096 → Fin 8 → EReal) (e : Fin 8) (t : ℕ) : EReal := if h : t < 4096 then soft (l ⟨t, h⟩) e else 0

theorem sum_at (e : Fin 8) : ∀ n : ℕ, n ≤ 8 → sumAt V c n (ix2 (n0 := 1) 0 e) = ∑ t ∈ Finset.range (512 * n), prob (lg V c) e t
  | 0, _ => by
    unfold sumAt
    rw [pay2_at]; simp
  | n + 1, h => by
    have hn : n < grid0.N := by rw [N_0]; omega
    unfold sumAt
    rw [dif_pos hn]
    unfold sumStep
    have hs : (if first (grid0.coords ⟨n, hn⟩) then (k0_pay2 (F := Ideal)) else sumAt V c n) (ix2 (n0 := 1) 0 e) = ∑ t ∈ Finset.range (512 * n), prob (lg V c) e t := by
      split
      · next hf =>
        obtain rfl : n = 0 := (WholeRegion0.first_iff ⟨n, hn⟩).mp hf
        rw [pay2_at]; simp
      · exact sum_at e n (by omega)
    rw [pay4_at, hs, show 512 * (n + 1) = 512 * n + 512 by omega, Finset.sum_range_add,
      ← Fin.sum_univ_eq_sum_range (fun i => prob (lg V c) e (512 * n + i)) 512]
    refine congrArg _ (Finset.sum_congr rfl fun i _ => ?_)
    rw [pay78_at, lgB_eq]
    unfold prob
    rw [dif_pos (pt_lt ⟨n, hn⟩ i)]

theorem cnt8 (e : Fin 8) : cntAt V c 8 (ix2 (n0 := 1) 0 e) = nat (cnt (R V c) 4096 e.val) := cnt_at V c e 8 le_rfl
theorem sum8 (e : Fin 8) : sumAt V c 8 (ix2 (n0 := 1) 0 e) = ∑ t : Fin 4096, soft (lg V c t) e := by
  rw [sum_at V c e 8 le_rfl, show 512 * 8 = 4096 from rfl, ← Fin.sum_univ_eq_sum_range (fun i => prob (lg V c) e i) 4096]
  refine Finset.sum_congr rfl fun t _ => ?_
  unfold prob
  rw [dif_pos t.isLt]

/-! ## The rows -/

theorem ohAll_at (t : Fin 4096) (e : Fin 8) : ohAll V c (ix2 t e) = nat (if R V c t.val = e.val then 1 else 0) := by
  unfold ohAll
  have ht := t.isLt
  have hp := oh_at V c (ptOf (ix2 t e)) ⟨t.val % 512, Nat.mod_lt _ (by decide)⟩ e
  rw [pay80_at, ← pay81_at] at hp
  refine hp.trans ?_
  have : 512 * (ptOf (ix2 t e)).val + t.val % 512 = t.val := Nat.div_add_mod t.val 512
  rw [this]

theorem chunk_oh (n : ℕ) (h : n < 32) (i : Fin 128) (e : Fin 8) :
    chunk (ohAll V c) n h (ix2 i e) = nat (if R V c (128 * n + i.val) = e.val then 1 else 0) := by
  have hi := i.isLt
  rw [← ohAll_at V c ⟨128 * n + i.val, by omega⟩ e]
  unfold chunk
  refine congrArg (ohAll V c) (funext fun a => Fin.ext ?_)
  match a with
  | ⟨0, _⟩ => show 128 * n + 1 * i.val = 128 * n + i.val; omega
  | ⟨1, _⟩ => show 0 + 1 * e.val = e.val; omega

theorem acc_at (e : Fin 8) : ∀ n : ℕ, n ≤ 32 → accAt (ohAll V c) n (ix2 (n0 := 1) 0 e) = nat (cnt (R V c) (128 * n) e.val)
  | 0, _ => by
    unfold accAt
    rw [pay8_at]; simp [nat]
  | n + 1, h => by
    have hn : n < 32 := by omega
    unfold accAt
    rw [dif_pos hn, pay10_at, acc_at e n (by omega)]
    refine (congrArg _ (Finset.sum_congr rfl fun i _ => chunk_oh V c n hn i e)).trans ?_
    rw [nat_sum, nat_add, Fin.sum_univ_eq_sum_range (fun i => if R V c (128 * n + i) = e.val then 1 else 0) 128, count_add (fun t => R V c t = e.val)]
    rfl

theorem dest_at (t : Fin 4096) : destAt (k0_pay5 (cntAt V c 8)) (ohAll V c) (ix2 (n1 := 1) t 0) = BitVec.ofNat 32 (row (R V c) t.val) := by
  have ht := t.isLt
  have hd : 128 * (t.val / 128) + t.val % 128 = t.val := Nat.div_add_mod t.val 128
  have hr := route_lt (lg V c) t.val ht
  have hrow := row_lt_rows (R V c) t.val ht hr
  unfold row at hrow
  unfold destAt
  have h := chunk_at (R V c) (k0_pay5 (cntAt V c 8)) (accAt (ohAll V c) (t.val / 128)) (chunk (ohAll V c) (t.val / 128) (by omega)) (128 * (t.val / 128)) (start (R V c))
    (fun e => pay5_at (R V c) _ (cnt8 V c) e) (fun e => acc_at V c e _ (by omega)) (fun i e => chunk_oh V c _ (by omega) i e)
    ⟨t.val % 128, Nat.mod_lt _ (by decide)⟩ (by rw [hd]; exact hr) (by rw [hd]; omega)
  rw [hd] at h
  exact h

/-! ## The arrays -/

theorem flush_last (t : Fin grid0.N) (h : t.val % 8 = 7) : t.val = 7 := by
  have : t.val < 8 := N_0 ▸ t.isLt
  omega
abbrev tLast : Fin grid0.N := ⟨7, by rw [N_0]; decide⟩

theorem idx0_3 : ∀ t : Fin grid0.N, win0_3.index t 0 = t.val ∧ win0_3.index t 1 = 0 := by decide
theorem idx0_4 : ∀ t : Fin grid0.N, win0_4.index t 0 = t.val ∧ win0_4.index t 1 = 0 := by decide
theorem idx0_5 : ∀ t : Fin grid0.N, win0_5.index t 0 = 0 ∧ win0_5.index t 1 = 0 := by decide
theorem idx0_6 : ∀ t : Fin grid0.N, win0_6.index t 0 = 0 ∧ win0_6.index t 1 = 0 := by decide
theorem idx0_7 : ∀ t : Fin grid0.N, win0_7.index t 0 = 0 ∧ win0_7.index t 1 = 0 := by decide
theorem idx0_8 : ∀ t : Fin grid0.N, win0_8.index t 0 = 0 ∧ win0_8.index t 1 = 0 := by decide

theorem emb0_3 (t : Fin grid0.N) (i : Fin 512) (k : Fin 1024) : ((cfg0.win 3).blk t).view.emb (ix2 i k) = ix2 (n0 := 4096) (n1 := 1024) ⟨512 * t.val + i.val, pt_lt t i⟩ k := by
  refine funext fun a => Fin.ext ((win0_3.rect_emb_val t _ a).trans ?_)
  match a with
  | ⟨0, _⟩ => show win0_3.index t 0 * 512 + i.val = _; rw [(idx0_3 t).1, Nat.mul_comm]; rfl
  | ⟨1, _⟩ => show win0_3.index t 1 * 1024 + k.val = _; rw [(idx0_3 t).2]; simp

/-- The scaled tokens. -/
theorem arr3 (t : Fin 4096) (k : Fin 1024) : (dat0 V c).arrAt 3 cfg0.N (ix2 t k) = aX V c t k * top (soft (lg V c t)) := by
  have ht := t.isLt
  have h := (dat0 V c).arrAt_forall_of_cover 3 (fun i v => v = aX V c (i 0) (i 1) * top (soft (lg V c (i 0)))) (fun q _ y => ?_) (fun i => ?_) (ix2 t k)
  · exact h
  · obtain ⟨i, k, rfl⟩ : ∃ (i : Fin 512) (k : Fin 1024), y = ix2 i k := ⟨y 0, y 1, by funext a; fin_cases a <;> rfl⟩
    rw [emb0_3]
    show k0_pay82 (xB V c q) (wB V c q) (bB V c q) (ix2 i k) = _
    rw [pay82_at, lgB_eq, xB_at]
    rfl
  · obtain ⟨t0, k0, rfl⟩ : ∃ (t0 : Fin 4096) (k0 : Fin 1024), i = ix2 t0 k0 := ⟨i 0, i 1, by funext a; fin_cases a <;> rfl⟩
    have hi := t0.isLt
    have hq : t0.val / 512 < grid0.N := by rw [N_0]; omega
    refine ⟨⟨t0.val / 512, hq⟩, flush0_3 _, ?_⟩
    have e := emb0_3 ⟨t0.val / 512, hq⟩ ⟨t0.val % 512, Nat.mod_lt _ (by decide)⟩ k0
    have ht : (⟨512 * (t0.val / 512) + t0.val % 512, by omega⟩ : Fin 4096) = t0 := Fin.ext (Nat.div_add_mod _ 512)
    rw [show (ix2 t0 k0 : S4096x1024.Idx) = _ from (e.trans (congrArg (fun t => ix2 (n0 := 4096) (n1 := 1024) t k0) ht)).symm]
    exact View.emb_mem_set _ _

theorem emb0_4 (t : Fin grid0.N) (i : Fin 512) (k : Fin 1) : ((cfg0.win 4).blk t).view.emb (ix2 i k) = ix2 (n0 := 4096) (n1 := 1) ⟨512 * t.val + i.val, pt_lt t i⟩ k := by
  refine funext fun a => Fin.ext ((win0_4.rect_emb_val t _ a).trans ?_)
  match a with
  | ⟨0, _⟩ => show win0_4.index t 0 * 512 + i.val = _; rw [(idx0_4 t).1, Nat.mul_comm]; rfl
  | ⟨1, _⟩ => show win0_4.index t 1 * 1 + k.val = _; rw [(idx0_4 t).2]; simp

/-- Every token's greatest probability. -/
theorem arr4 (t : Fin 4096) (k : Fin 1) : (dat0 V c).arrAt 4 cfg0.N (ix2 t k) = top (soft (lg V c t)) := by
  have ht := t.isLt
  have h := (dat0 V c).arrAt_forall_of_cover 4 (fun i v => v = top (soft (lg V c (i 0)))) (fun q _ y => ?_) (fun i => ?_) (ix2 t k)
  · exact h
  · obtain ⟨i, k, rfl⟩ : ∃ (i : Fin 512) (k : Fin 1), y = ix2 i k := ⟨y 0, y 1, by funext a; fin_cases a <;> rfl⟩
    rw [emb0_4]
    show k0_pay79 (xB V c q) (wB V c q) (bB V c q) (ix2 i k) = _
    rw [Subsingleton.elim k 0, pay79_at, lgB_eq]
    rfl
  · obtain ⟨t0, k0, rfl⟩ : ∃ (t0 : Fin 4096) (k0 : Fin 1), i = ix2 t0 k0 := ⟨i 0, i 1, by funext a; fin_cases a <;> rfl⟩
    have hi := t0.isLt
    have hq : t0.val / 512 < grid0.N := by rw [N_0]; omega
    refine ⟨⟨t0.val / 512, hq⟩, flush0_4 _, ?_⟩
    have e := emb0_4 ⟨t0.val / 512, hq⟩ ⟨t0.val % 512, Nat.mod_lt _ (by decide)⟩ k0
    have ht : (⟨512 * (t0.val / 512) + t0.val % 512, by omega⟩ : Fin 4096) = t0 := Fin.ext (Nat.div_add_mod _ 512)
    rw [show (ix2 t0 k0 : S4096x1.Idx) = _ from (e.trans (congrArg (fun t => ix2 (n0 := 4096) (n1 := 1) t k0) ht)).symm]
    exact View.emb_mem_set _ _

theorem emb0_5 (t : Fin grid0.N) (y : ((cfg0.win 5).xblock (cfg0.grid.coords t)).Idx) (a : Fin 2) : (((cfg0.win 5).blk t).view.emb y a).val = (y a).val := by
  refine (win0_5.rect_emb_val t _ a).trans ?_
  match a with
  | ⟨0, _⟩ => show win0_5.index t 0 * 1 + (y 0).val = (y 0).val; rw [(idx0_5 t).1]; simp
  | ⟨1, _⟩ => show win0_5.index t 1 * 8 + (y 1).val = (y 1).val; rw [(idx0_5 t).2]; simp
/-- The counts. -/
theorem arr5 : (dat0 V c).arrAt 5 cfg0.N = (cntAt V c 8) := by
  funext i
  refine (dat0 V c).arrAt_forall_of_cover 5 (fun i v => v = (cntAt V c 8) i) (fun q hq y => ?_) (fun i => ?_) i
  · obtain rfl : q = tLast := Fin.ext (flush_last q ((flush0_5 q).mp hq))
    exact congrArg ((cntAt V c 8)) (funext fun a => Fin.ext (emb0_5 tLast y a).symm)
  · have h := View.emb_mem_set ((cfg0.win 5).blk tLast).view i
    have e : ((cfg0.win 5).blk tLast).view.emb i = i := funext fun a => Fin.ext (emb0_5 tLast i a)
    exact ⟨tLast, (flush0_5 tLast).mpr rfl, e ▸ h⟩

theorem emb0_6 (t : Fin grid0.N) (y : ((cfg0.win 6).xblock (cfg0.grid.coords t)).Idx) (a : Fin 2) : (((cfg0.win 6).blk t).view.emb y a).val = (y a).val := by
  refine (win0_6.rect_emb_val t _ a).trans ?_
  match a with
  | ⟨0, _⟩ => show win0_6.index t 0 * 1 + (y 0).val = (y 0).val; rw [(idx0_6 t).1]; simp
  | ⟨1, _⟩ => show win0_6.index t 1 * 8 + (y 1).val = (y 1).val; rw [(idx0_6 t).2]; simp
/-- The sums of probabilities. -/
theorem arr6 : (dat0 V c).arrAt 6 cfg0.N = (sumAt V c 8) := by
  funext i
  refine (dat0 V c).arrAt_forall_of_cover 6 (fun i v => v = (sumAt V c 8) i) (fun q hq y => ?_) (fun i => ?_) i
  · obtain rfl : q = tLast := Fin.ext (flush_last q ((flush0_6 q).mp hq))
    exact congrArg ((sumAt V c 8)) (funext fun a => Fin.ext (emb0_6 tLast y a).symm)
  · have h := View.emb_mem_set ((cfg0.win 6).blk tLast).view i
    have e : ((cfg0.win 6).blk tLast).view.emb i = i := funext fun a => Fin.ext (emb0_6 tLast i a)
    exact ⟨tLast, (flush0_6 tLast).mpr rfl, e ▸ h⟩

theorem emb0_7 (t : Fin grid0.N) (y : ((cfg0.win 7).xblock (cfg0.grid.coords t)).Idx) (a : Fin 2) : (((cfg0.win 7).blk t).view.emb y a).val = (y a).val := by
  refine (win0_7.rect_emb_val t _ a).trans ?_
  match a with
  | ⟨0, _⟩ => show win0_7.index t 0 * 4096 + (y 0).val = (y 0).val; rw [(idx0_7 t).1]; simp
  | ⟨1, _⟩ => show win0_7.index t 1 * 1 + (y 1).val = (y 1).val; rw [(idx0_7 t).2]; simp
/-- Every token's row. -/
theorem arr7 : (dat0 V c).arrAt 7 cfg0.N = (destAt (k0_pay5 (cntAt V c 8)) (ohAll V c)) := by
  funext i
  refine (dat0 V c).arrAt_forall_of_cover 7 (fun i v => v = (destAt (k0_pay5 (cntAt V c 8)) (ohAll V c)) i) (fun q hq y => ?_) (fun i => ?_) i
  · obtain rfl : q = tLast := Fin.ext (flush_last q ((flush0_7 q).mp hq))
    exact congrArg ((destAt (k0_pay5 (cntAt V c 8)) (ohAll V c))) (funext fun a => Fin.ext (emb0_7 tLast y a).symm)
  · have h := View.emb_mem_set ((cfg0.win 7).blk tLast).view i
    have e : ((cfg0.win 7).blk tLast).view.emb i = i := funext fun a => Fin.ext (emb0_7 tLast i a)
    exact ⟨tLast, (flush0_7 tLast).mpr rfl, e ▸ h⟩

theorem emb0_8 (t : Fin grid0.N) (y : ((cfg0.win 8).xblock (cfg0.grid.coords t)).Idx) (a : Fin 2) : (((cfg0.win 8).blk t).view.emb y a).val = (y a).val := by
  refine (win0_8.rect_emb_val t _ a).trans ?_
  match a with
  | ⟨0, _⟩ => show win0_8.index t 0 * 40 + (y 0).val = (y 0).val; rw [(idx0_8 t).1]; simp
  | ⟨1, _⟩ => show win0_8.index t 1 * 1 + (y 1).val = (y 1).val; rw [(idx0_8 t).2]; simp
/-- Every block's expert. -/
theorem arr8 : (dat0 V c).arrAt 8 cfg0.N = (k0_pay6 (cntAt V c 8)) := by
  funext i
  refine (dat0 V c).arrAt_forall_of_cover 8 (fun i v => v = (k0_pay6 (cntAt V c 8)) i) (fun q hq y => ?_) (fun i => ?_) i
  · obtain rfl : q = tLast := Fin.ext (flush_last q ((flush0_8 q).mp hq))
    exact congrArg ((k0_pay6 (cntAt V c 8))) (funext fun a => Fin.ext (emb0_8 tLast y a).symm)
  · have h := View.emb_mem_set ((cfg0.win 8).blk tLast).view i
    have e : ((cfg0.win 8).blk tLast).view.emb i = i := funext fun a => Fin.ext (emb0_8 tLast i a)
    exact ⟨tLast, (flush0_8 tLast).mpr rfl, e ▸ h⟩

end Cert.Proof.WholeRoute

end
-- ==== Proof.WholeGood.lean ====
/-
  The arrays between the calls, at the ideal values, as functions of the arguments: the list of rows of 128, the sorted
  table and the table of experts; and what the run asks of them.
-/
module

public import proofs.«01_k».proof.Proof.WholeRun
public import proofs.«01_k».proof.Proof.WholeRoute
public import Idealize.ShloMosaic.Lib.Pointwise
public import Idealize.ShloMosaic.Lib.StableHlo.ReadAt
public import Idealize.ShloMosaic.Lib.Tactic.WordOmega
public import Idealize.ShloMosaic.Lib.ReduceAll

@[expose] public section

set_option synthInstance.maxSize 4096

noncomputable section

namespace Cert.Proof.WholeGood

open Cert.KernelIdeal Cert.KernelIdeal.Gen Cert.Proof.RouteMath Cert.Proof.WholeRoute Cert.Proof.WholeRun
open Cert.Proof.WholeRegion0 (dat0 cntAt sumAt ohAll)
open Cert.Proof.WholeRegion2 (dat2)
open Cert.Proof.WholeScatter (sct Distinct)
open Cert.Proof.WholeGather (gat)
open Idealize.ShloMosaic
open Idealize.ShloMosaic.Pipeline (afterRegion afterRegion_arr)
open Idealize.ShloMosaic.StableHlo (after)

variable (m : (ℓ : Loc nD τ sig) → Buf (Elt Ideal) ℓ) (d : Dev nD)

/-- The arguments. -/
abbrev argX : S2048x2x1024.Idx → EReal := m (d.tc.loc main_arg0)
abbrev argW : S8x1024.Idx → EReal := m (d.tc.loc main_arg1)
abbrev argB : S8.Idx → EReal := m (d.tc.loc main_arg2)
abbrev argE : S8x2x1024x1024.Idx → EReal := m (d.tc.loc main_arg3)
abbrev argC : S8x2x1024.Idx → EReal := m (d.tc.loc main_arg4)

/-- Token `t`. -/
abbrev tok (X : S2048x2x1024.Idx → EReal) (t : Fin 4096) (k : Fin 1024) : EReal := X (ix3 ⟨t.val / 2, by omega⟩ ⟨t.val % 2, by omega⟩ k)
/-- The logits, from the arguments. -/
abbrev logits (X : S2048x2x1024.Idx → EReal) (W : S8x1024.Idx → EReal) (B : S8.Idx → EReal) : Fin 4096 → Fin 8 → EReal :=
  lgs (tok X) (fun e k => W (ix2 e k)) (fun e => B (ix1 e))

theorem V1_v0 (t : Fin 4096) (k : Fin 1024) : B1 m d main_v0 (ix2 t k) = tok (argX m d) t k := by
  show after ops0 _ _ _ = _
  unfold ops0
  after_reads_at
theorem V1_v1 (e : Fin 8) : B1 m d main_v1 (ix2 (n0 := 1) 0 e) = argB m d (ix1 e) := by
  show after ops0 _ _ _ = _
  unfold ops0
  after_reads_at
theorem V1_arg1 : B1 m d main_arg1 = argW m d := by
  show after ops0 _ _ = _
  unfold ops0
  after_reads_simp
theorem V1_arg3 : V1 m d (Proc.devRef .tc main_arg3) = argE m d := by
  show after ops0 _ _ = _
  unfold ops0
  after_reads_simp
theorem V1_arg4 : V1 m d (Proc.devRef .tc main_arg4) = argC m d := by
  show after ops0 _ _ = _
  unfold ops0
  after_reads_simp

abbrev L : Fin 4096 → Fin 8 → EReal := logits (argX m d) (argW m d) (argB m d)
/-- A token's expert, and its row of the sorted table. -/
abbrev ex (t : ℕ) : ℕ := route (L m d) t
abbrev rw' (t : ℕ) : ℕ := row (ex m d) t

theorem lg_eq : lg (B1 m) d = L m d := by
  funext t e
  unfold L logits lg lgs aB aW
  rw [V1_v1, V1_arg1]
  exact congrArg (· + _) (Finset.sum_congr rfl fun k _ => congrArg (· * _) (V1_v0 m d t k))
theorem R_eq : WholeRoute.R (B1 m) d = ex m d := by
  unfold WholeRoute.R; rw [lg_eq]

/-! ## After the router -/

theorem inj0 : Function.Injective (Pipeline.arrRef spec0) := by decide

theorem V2_arr (w : Fin 9) : V2 m d (Proc.devRef .tc (Pipeline.arrRef spec0 w)) = (dat0 (B1 m) d).arrAt w cfg0.N := by
  unfold V2; exact afterRegion_arr (dat0 (B1 m) d) (V1 m d) inj0 w

theorem V2_x (t : Fin 4096) (k : Fin 1024) : V2 m d (Proc.devRef .tc main_v2_0) (ix2 t k) = tok (argX m d) t k * top (soft (L m d t)) := by
  refine (congrFun (V2_arr m d 3) (ix2 t k)).trans ?_
  rw [arr3, lg_eq]
  unfold aX
  rw [V1_v0]
theorem V2_p (t : Fin 4096) : V2 m d (Proc.devRef .tc main_v2_1) (ix2 t (0 : Fin 1)) = top (soft (L m d t)) := by
  refine (congrFun (V2_arr m d 4) (ix2 t (0 : Fin 1))).trans ?_
  rw [arr4, lg_eq]
theorem V2_c (e : Fin 8) : V2 m d (Proc.devRef .tc main_v2_2) (ix2 (0 : Fin 1) e) = nat (cnt (ex m d) 4096 e.val) := by
  refine (congrFun (V2_arr m d 5) (ix2 (0 : Fin 1) e)).trans ?_
  rw [arr5, cnt8, R_eq]
theorem V2_s (e : Fin 8) : V2 m d (Proc.devRef .tc main_v2_3) (ix2 (0 : Fin 1) e) = ∑ t : Fin 4096, soft (L m d t) e := by
  refine (congrFun (V2_arr m d 6) (ix2 (0 : Fin 1) e)).trans ?_
  rw [arr6, sum8, lg_eq]
theorem V2_d (t : Fin 4096) : V2 m d (Proc.devRef .tc main_v2_4) (ix2 t (0 : Fin 1)) = BitVec.ofNat 32 (rw' m d t.val) := by
  refine (congrFun (V2_arr m d 7) (ix2 t (0 : Fin 1))).trans ?_
  rw [arr7, dest_at, R_eq]
theorem V2_b (b : Fin 40) : V2 m d (Proc.devRef .tc main_v2_5) (ix2 b (0 : Fin 1)) = BitVec.ofNat 32 (upto (ex m d) b.val - 1) := by
  refine (congrFun (V2_arr m d 8) (ix2 b (0 : Fin 1))).trans ?_
  rw [arr8, WholePays.pay6_at _ _ (cnt8 (B1 m) d), R_eq]
theorem V2_keep (b : Ref sig .tc) (hb : ∀ w, b ≠ Pipeline.arrRef spec0 w) : V2 m d (Proc.devRef .tc b) = V1 m d (Proc.devRef .tc b) := by
  unfold V2; exact Pipeline.afterRegion_of_not_arr (dat0 (B1 m) d) (V1 m d) hb

/-! ## The list -/

theorem ex_lt (t : Fin 4096) : ex m d t.val < 8 := route_lt _ _ t.isLt
theorem rw_lt (t : Fin 4096) : rw' m d t.val < 5120 := row_lt_rows _ _ t.isLt (ex_lt m d t)

theorem cI_at (j : Fin 32768) : cI m d (ix1 j) = BitVec.ofNat 32 (8 * rw' m d (j.val / 8) + j.val % 8) := by
  have h : cI m d (ix1 j) = IntOp.addi (IntOp.muli (V2 m d (Proc.devRef .tc main_v2_4) (ix2 ⟨j.val / 8, by omega⟩ (0 : Fin 1))) 8#32) (BitVec.ofNat 32 (j.val % 8)) := by
    show after ops1 _ _ _ = _
    unfold ops1
    after_reads_at
  rw [h, V2_d]
  unfold IntOp.addi IntOp.muli
  refine BitVec.eq_of_toNat_eq ?_
  simp only [BitVec.toNat_add, BitVec.toNat_mul, BitVec.toNat_ofNat]
  omega
theorem cI_nat (j : Fin 32768) : (cI m d (ix1 j)).toNat = 8 * rw' m d (j.val / 8) + j.val % 8 := by
  have := rw_lt m d ⟨j.val / 8, by omega⟩
  dsimp only at this
  rw [cI_at, BitVec.toNat_ofNat]
  omega

theorem inRows (j : S32768.Idx) : (cI m d j).toNat < 40960 := by
  idx_vars j
  rw [cI_nat]
  have := rw_lt m d ⟨j0.val / 8, by omega⟩
  dsimp only at this
  omega

theorem distinct : Distinct (cI m d) := by
  intro j j' h
  obtain ⟨a, rfl⟩ : ∃ a : Fin 32768, j = ix1 a := ⟨j 0, by funext x; fin_cases x; rfl⟩
  obtain ⟨b, rfl⟩ : ∃ b : Fin 32768, j' = ix1 b := ⟨j' 0, by funext x; fin_cases x; rfl⟩
  rw [cI_nat, cI_nat] at h
  have e := row_inj (ex m d) (a.val / 8) (b.val / 8) (by omega) (by omega) (by show rw' m d _ = rw' m d _; omega)
  exact congrArg ix1 (Fin.ext (by rw [e] at h; omega))

/-! ## The sorted table and the table of experts -/

theorem cX_at (r : Fin 32768) (l : Fin 128) : cX m d (ix2 r l) = tok (argX m d) ⟨r.val / 8, by omega⟩ ⟨r.val % 8 * 128 + l.val, by omega⟩ * top (soft (L m d ⟨r.val / 8, by omega⟩)) := by
  rw [← V2_x]
  show after ops1 _ _ _ = _
  unfold ops1
  after_reads_at

theorem p2_at (t : Fin 4096) (q : Fin 8) (l : Fin 128) :
    p2 m d (ix2 ⟨8 * rw' m d t.val + q.val, by have := rw_lt m d t; omega⟩ l) = tok (argX m d) t ⟨q.val * 128 + l.val, by omega⟩ * top (soft (L m d t)) := by
  have ht := t.isLt
  have hq := q.isLt
  have e1 : (8 * t.val + q.val) / 8 = t.val := by omega
  have e2 : (8 * t.val + q.val) % 8 = q.val := by omega
  refine (WholeScatter.sct_at (distinct m d) _ _ (ix1 ⟨8 * t.val + q.val, by omega⟩) _ ?_).trans ?_
  · rw [cI_nat]; dsimp only; rw [e1, e2]; rfl
  · refine (cX_at m d ⟨8 * t.val + q.val, by omega⟩ l).trans ?_
    have e3 : (⟨(8 * t.val + q.val) / 8, by omega⟩ : Fin 4096) = t := Fin.ext e1
    have e4 : (⟨(8 * t.val + q.val) % 8 * 128 + l.val, by omega⟩ : Fin 1024) = ⟨q.val * 128 + l.val, by omega⟩ := Fin.ext (by dsimp only; rw [e2])
    dsimp only
    rw [e3, e4]

/-- A token's row of the sorted table is the token, scaled. -/
theorem V5_x (t : Fin 4096) (k : Fin 1024) : V5 m d (Proc.devRef .tc main_v13) (ix2 ⟨rw' m d t.val, rw_lt m d t⟩ k) = tok (argX m d) t k * top (soft (L m d t)) := by
  have h : V5 m d (Proc.devRef .tc main_v13) (ix2 ⟨rw' m d t.val, rw_lt m d t⟩ k) = V4 m d (Proc.devRef .tc main_v12) (ix2 (n0 := 40960) (n1 := 128) ⟨8 * rw' m d t.val + k.val / 128, by have := rw_lt m d t; omega⟩ ⟨k.val % 128, by omega⟩) := by
    show after ops2 _ _ _ = _
    unfold ops2
    after_reads_at
    exact congrArg (fun q : Fin 40960 => V4 m d (Proc.devRef .tc main_v12) (ix2 (n0 := 40960) (n1 := 128) q ⟨k.val % 128, by omega⟩)) (Fin.ext (by dsimp only; omega))
  rw [h, V4_eq]
  refine (p2_at m d t ⟨k.val / 128, by omega⟩ ⟨k.val % 128, by omega⟩).trans ?_
  exact congrArg (fun q : Fin 1024 => tok (argX m d) t q * top (soft (L m d t))) (Fin.ext (by dsimp only; omega))

theorem V5_table (b : Fin 40) : V5 m d (Proc.devRef .tc main_v14) (ix1 b) = BitVec.ofNat 32 (upto (ex m d) b.val - 1) := by
  rw [← V2_b]
  have h : V5 m d (Proc.devRef .tc main_v14) (ix1 b) = V4 m d (Proc.devRef .tc main_v2_5) (ix2 b (0 : Fin 1)) := by
    show after ops2 _ _ _ = _
    unfold ops2
    after_reads_at
  rw [h, V4_ne _ _ _ (by decide)]
  show after ops1 _ _ _ = _
  unfold ops1
  after_reads_at

end Cert.Proof.WholeGood

end
-- ==== Proof.WholeBlocks.lean ====
/-
  The experts' call at the ideal values: the table of experts is one the pipeline admits, and a token's row of what the
  call leaves is its expert's two layers of the token's row.
-/
module

public import proofs.«01_k».proof.Proof.WholeGood

@[expose] public section

set_option synthInstance.maxSize 4096

noncomputable section

namespace Cert.Proof.WholeBlocks

open Cert.KernelIdeal Cert.KernelIdeal.Gen Cert.Proof.RouteMath Cert.Proof.WholeRoute Cert.Proof.WholeRun Cert.Proof.WholeGood
open Cert.Proof.WholeRegion2 (dat2 layers xE wE bE cfgE)
open Idealize.ShloMosaic
open Idealize.ShloMosaic.Pipeline (afterRegion afterRegion_arr)
open Idealize.ShloMosaic.StableHlo (after)

/-! ## The table -/

section Table

variable {F : FTy → Type} [FloatOps F]

theorem pf_at (pf : pre2.Contents (Elt F)) (i : grid2.Coords) :
    pf.at 0 (Rect.unit (s := S40) ![(Scalar.indexCast (BitVec.ofNat 32 (i 0).val)).toNat] S1.size (k2_off1_inb i)) numel1_S1 = pf 0 (ix1 (n0 := 40) (i 0)) := by
  have hi : (i 0).val < 40 := (i 0).isLt
  refine congrArg (pf 0) (funext fun a => Fin.ext ?_)
  match a with
  | ⟨0, _⟩ =>
    show (Scalar.indexCast (BitVec.ofNat 32 (i 0).val)).toNat + 1 * _ = (i 0).val
    have h1 : ∀ z : S1.Idx, (z 0).val = 0 := fun z => by have : (z 0).val < 1 := (z 0).isLt; omega
    refine (congrArg (fun n => (BitVec.ofNat 32 (i 0).val).toNat + 1 * n) (h1 _)).trans ?_
    rw [BitVec.toNat_ofNat]
    omega

theorem t1_at (pf : pre2.Contents (Elt F)) (i : grid2.Coords) : cc2_transform_1 k2_off1_inb numel1_S1 pf i = ![(pf 0 (ix1 (n0 := 40) (i 0)) : BitVec 32).toNat, 0, 0, 0] := by
  exact congrArg (fun z : BitVec 32 => ![z.toNat, 0, 0, 0]) (pf_at pf i)
theorem t2_at (pf : pre2.Contents (Elt F)) (i : grid2.Coords) : cc2_transform_2 k2_off1_inb numel1_S1 pf i = ![(pf 0 (ix1 (n0 := 40) (i 0)) : BitVec 32).toNat, 0, 0] := by
  exact congrArg (fun z : BitVec 32 => ![z.toNat, 0, 0]) (pf_at pf i)

theorem ok_of (pf : pre2.Contents (Elt F)) (h : ∀ b : Fin 40, (pf 0 (ix1 b) : BitVec 32).toNat < 8) : ok2 pf := by
  unfold ok2
  refine ⟨fun i => ⟨fun a => ?_, .inl rfl⟩, fun i => ⟨fun a => ?_, .inl rfl⟩⟩
  · have hi := h (i 0)
    rw [t1_at]
    match a with
    | ⟨0, _⟩ => show ((pf 0 (ix1 (n0 := 40) (i 0)) : BitVec 32).toNat + 1) * 1 ≤ 8; omega
    | ⟨1, _⟩ => show (0 + 1) * 2 ≤ 2; omega
    | ⟨2, _⟩ => show (0 + 1) * 1024 ≤ 1024; omega
    | ⟨3, _⟩ => show (0 + 1) * 1024 ≤ 1024; omega
  · have hi := h (i 0)
    rw [t2_at]
    match a with
    | ⟨0, _⟩ => show ((pf 0 (ix1 (n0 := 40) (i 0)) : BitVec 32).toNat + 1) * 1 ≤ 8; omega
    | ⟨1, _⟩ => show (0 + 1) * 2 ≤ 2; omega
    | ⟨2, _⟩ => show (0 + 1) * 1024 ≤ 1024; omega

end Table

variable (m : (ℓ : Loc nD τ sig) → Buf (Elt Ideal) ℓ)

/-- The table the experts' call reads. -/
def tbl : pre2.Contents (Elt Ideal) := fun k => V5 m 0 (Proc.devRef .tc (pre2.ref k))

theorem tbl_at (b : Fin 40) : tbl m 0 (ix1 b) = BitVec.ofNat 32 (upto (ex m 0) b.val - 1) := V5_table m 0 b

theorem tbl_lt (b : Fin 40) : (tbl m 0 (ix1 b) : BitVec 32).toNat < 8 := by
  rw [tbl_at, BitVec.toNat_ofNat]
  have := upto_pos (ex m 0) b.val
  have := upto_le (ex m 0) b.val
  omega

/-- The tables the pipelines are pinned at. -/
def adm : (p : Fin 2) → (pcfgs (F := Ideal) p).Adm
  | ⟨0, _⟩ => cfg0.toPCfg_adm
  | ⟨1, _⟩ => ⟨tbl m, ok_of _ (tbl_lt m)⟩

/-! ## The layers -/

theorem layers_at (x : Vec Ideal S128x1024 .f32) (w : Vec Ideal S1x2x1024x1024 .f32) (b : Vec Ideal S1x2x1024 .f32) (i : Fin 128) (j : Fin 1024) :
    layers x w b (ix2 i j) = (∑ q : Fin 1024, ((∑ k : Fin 1024, x (ix2 i k) * w (ix4 0 0 q k)) + b (ix3 0 0 q)) * w (ix4 0 1 j q)) + b (ix3 0 1 j) := by
  unfold layers k2_pay1
  pointwise

/-! ## The blocks of a point -/

abbrev C2 : Pipeline.Cfg sig Λ₀ := cfgE (adm m)

theorem idx2_0 : ∀ t : Fin grid2.N, cc2_transform_0 (grid2.coords t) 0 = t.val ∧ cc2_transform_0 (grid2.coords t) 1 = 0 := by decide
theorem idx2_3 : ∀ t : Fin grid2.N, cc2_transform_3 (grid2.coords t) 0 = t.val ∧ cc2_transform_3 (grid2.coords t) 1 = 0 := by decide
theorem crd2 : ∀ t : Fin grid2.N, (grid2.coords t 0).val = t.val := by decide

/-- The expert of block `t`. -/
abbrev bx (t : ℕ) : ℕ := upto (ex m 0) t - 1
theorem bx_lt (t : ℕ) : bx m t < 8 := by
  have := upto_le (ex m 0) t
  have := upto_pos (ex m 0) t
  unfold bx; omega

theorem tbl_nat (t : Fin grid2.N) : (tbl m 0 (ix1 (n0 := 40) (grid2.coords t 0)) : BitVec 32).toNat = bx m t.val := by
  have h := tbl_at m (grid2.coords t 0)
  have hb := bx_lt m t.val
  rw [crd2 t] at h
  refine (congrArg BitVec.toNat h).trans ?_
  rw [BitVec.toNat_ofNat]; unfold bx at hb ⊢; omega

variable (V : (c : Dev nD) → (b : Ref sig .tc) → Buf (Elt Ideal) ((c.tc : Thread nD τ).loc b)) (c : Dev nD)

theorem pt_lt (t : Fin grid2.N) (i : Fin 128) : 128 * t.val + i.val < 5120 := by
  have h : t.val < 40 := N_2 ▸ t.isLt
  omega

theorem xE_at (t : Fin grid2.N) (i : Fin 128) (k : Fin 1024) : xE (adm m) V c t (ix2 i k) = V c main_v13 (ix2 ⟨128 * t.val + i.val, pt_lt t i⟩ k) := by
  refine congrArg (V c main_v13) (funext fun a => Fin.ext ?_)
  refine (((C2 m).win (0 : Fin 4)).rect_emb_val t _ a).trans ?_
  match a with
  | ⟨0, _⟩ => show cc2_transform_0 (grid2.coords t) 0 * 128 + i.val = _; rw [(idx2_0 t).1, Nat.mul_comm]; rfl
  | ⟨1, _⟩ => show cc2_transform_0 (grid2.coords t) 1 * 1024 + k.val = _; rw [(idx2_0 t).2]; simp
theorem wE_at (t : Fin grid2.N) (l : Fin 2) (j k : Fin 1024) : wE (adm m) V c t (ix4 0 l j k) = V c main_arg3 (ix4 ⟨bx m t.val, bx_lt m t.val⟩ l j k) := by
  refine congrArg (V c main_arg3) (funext fun a => Fin.ext ?_)
  refine (((C2 m).win (1 : Fin 4)).rect_emb_val t _ a).trans ?_
  have e := t1_at (tbl m) (grid2.coords t)
  match a with
  | ⟨0, _⟩ => show cc2_transform_1 k2_off1_inb numel1_S1 (tbl m) (grid2.coords t) 0 * 1 + 0 = _; rw [e]; show (tbl m 0 (ix1 (n0 := 40) (grid2.coords t 0)) : BitVec 32).toNat * 1 + 0 = _; rw [tbl_nat]; simp
  | ⟨1, _⟩ => show cc2_transform_1 k2_off1_inb numel1_S1 (tbl m) (grid2.coords t) 1 * 2 + l.val = _; rw [e]; show 0 * 2 + l.val = _; simp
  | ⟨2, _⟩ => show cc2_transform_1 k2_off1_inb numel1_S1 (tbl m) (grid2.coords t) 2 * 1024 + j.val = _; rw [e]; show 0 * 1024 + j.val = _; simp
  | ⟨3, _⟩ => show cc2_transform_1 k2_off1_inb numel1_S1 (tbl m) (grid2.coords t) 3 * 1024 + k.val = _; rw [e]; show 0 * 1024 + k.val = _; simp
theorem bE_at (t : Fin grid2.N) (l : Fin 2) (j : Fin 1024) : bE (adm m) V c t (ix3 0 l j) = V c main_arg4 (ix3 ⟨bx m t.val, bx_lt m t.val⟩ l j) := by
  refine congrArg (V c main_arg4) (funext fun a => Fin.ext ?_)
  refine (((C2 m).win (2 : Fin 4)).rect_emb_val t _ a).trans ?_
  have e := t2_at (tbl m) (grid2.coords t)
  match a with
  | ⟨0, _⟩ => show cc2_transform_2 k2_off1_inb numel1_S1 (tbl m) (grid2.coords t) 0 * 1 + 0 = _; rw [e]; show (tbl m 0 (ix1 (n0 := 40) (grid2.coords t 0)) : BitVec 32).toNat * 1 + 0 = _; rw [tbl_nat]; simp
  | ⟨1, _⟩ => show cc2_transform_2 k2_off1_inb numel1_S1 (tbl m) (grid2.coords t) 1 * 2 + l.val = _; rw [e]; show 0 * 2 + l.val = _; simp
  | ⟨2, _⟩ => show cc2_transform_2 k2_off1_inb numel1_S1 (tbl m) (grid2.coords t) 2 * 1024 + j.val = _; rw [e]; show 0 * 1024 + j.val = _; simp

/-- A row's two layers, by one expert's weights and biases. -/
abbrev two (x : Fin 1024 → EReal) (E : S8x2x1024x1024.Idx → EReal) (C : S8x2x1024.Idx → EReal) (e : Fin 8) (j : Fin 1024) : EReal :=
  (∑ q : Fin 1024, ((∑ k : Fin 1024, x k * E (ix4 e 0 q k)) + C (ix3 e 0 q)) * E (ix4 e 1 j q)) + C (ix3 e 1 j)

/-- The rows the call leaves: the block's expert's layers of the row. -/
def outRow (r : Fin 5120) (j : Fin 1024) : EReal :=
  two (fun k => V c main_v13 (ix2 r k)) (V c main_arg3) (V c main_arg4) ⟨bx m (r.val / 128), bx_lt m _⟩ j

theorem emb2_3 (t : Fin grid2.N) (i : Fin 128) (k : Fin 1024) : (((C2 m).win (3 : Fin 4)).blk t).view.emb (ix2 i k) = ix2 (n0 := 5120) (n1 := 1024) ⟨128 * t.val + i.val, pt_lt t i⟩ k := by
  refine funext fun a => Fin.ext ((((C2 m).win (3 : Fin 4)).rect_emb_val t _ a).trans ?_)
  match a with
  | ⟨0, _⟩ => show cc2_transform_3 (grid2.coords t) 0 * 128 + i.val = _; rw [(idx2_3 t).1, Nat.mul_comm]; rfl
  | ⟨1, _⟩ => show cc2_transform_3 (grid2.coords t) 1 * 1024 + k.val = _; rw [(idx2_3 t).2]; simp

theorem flush2_3 (t : Fin grid2.N) : ((C2 m).win (3 : Fin 4)).flush t = true :=
  (Pipeline.Window.flush_reads ((C2 m).win (3 : Fin 4)) rfl 0 (show 1 < grid2.bound 0 by decide) (show grid2.fixedAfter reads2_3 0 = true by decide) (Pipeline.Window.sep_of_coord cc2_transform_3 0 0 (fun _ => rfl) (by decide)) (P := 1) (m := 0) (show grid2.stride 0 = 1 by decide) rfl t).mpr (Nat.mod_one _)

theorem arr3 (r : Fin 5120) (j : Fin 1024) : (dat2 (adm m) V c).arrAt (3 : Fin 4) (C2 m).N (ix2 r j) = outRow m V c r j := by
  have h := (dat2 (adm m) V c).arrAt_forall_of_cover (3 : Fin 4) (fun i v => v = outRow m V c (i 0) (i 1)) (fun q _ y => ?_) (fun i => ?_) (ix2 r j)
  · exact h
  · obtain ⟨i, k, rfl⟩ : ∃ (i : Fin 128) (k : Fin 1024), y = ix2 i k := ⟨y 0, y 1, by funext a; fin_cases a <;> rfl⟩
    rw [emb2_3]
    show layers (xE (adm m) V c q) (wE (adm m) V c q) (bE (adm m) V c q) (ix2 i k) = _
    have hq : (128 * q.val + i.val) / 128 = q.val := by have := i.isLt; omega
    rw [layers_at]
    simp only [xE_at, wE_at, bE_at]
    show _ = outRow m V c ⟨128 * q.val + i.val, pt_lt q i⟩ k
    unfold outRow
    dsimp only
    simp only [hq]
  · obtain ⟨t0, k0, rfl⟩ : ∃ (t0 : Fin 5120) (k0 : Fin 1024), i = ix2 t0 k0 := ⟨i 0, i 1, by funext a; fin_cases a <;> rfl⟩
    have hi := t0.isLt
    have hq : t0.val / 128 < grid2.N := by rw [N_2]; omega
    refine ⟨⟨t0.val / 128, hq⟩, flush2_3 m _, ?_⟩
    have e := emb2_3 m ⟨t0.val / 128, hq⟩ ⟨t0.val % 128, Nat.mod_lt _ (by decide)⟩ k0
    have ht : (⟨128 * (t0.val / 128) + t0.val % 128, by omega⟩ : Fin 5120) = t0 := Fin.ext (Nat.div_add_mod _ 128)
    rw [show (ix2 t0 k0 : S5120x1024.Idx) = _ from (e.trans (congrArg (fun t => ix2 (n0 := 5120) (n1 := 1024) t k0) ht)).symm]
    exact View.emb_mem_set _ _

end Cert.Proof.WholeBlocks

end
-- ==== Proof.WholeEnd.lean ====
/-
  The whole kernel at the ideal values: the run's demands hold of any launch memory, and the five results are read at an
  index in terms of the arguments.
-/
module

public import proofs.«01_k».proof.Proof.WholeBlocks

@[expose] public section

set_option synthInstance.maxSize 4096

noncomputable section

namespace Cert.Proof.WholeEnd

open Cert.KernelIdeal Cert.KernelIdeal.Gen Cert.Proof.RouteMath Cert.Proof.WholeRoute Cert.Proof.WholeRun Cert.Proof.WholeGood Cert.Proof.WholeBlocks
open Cert.Proof.WholeRegion2 (dat2)
open Idealize.ShloMosaic
open Idealize.ShloMosaic.Pipeline (afterRegion afterRegion_arr)
open Idealize.ShloMosaic.StableHlo (after)

variable (m : (ℓ : Loc nD τ sig) → Buf (Elt Ideal) ℓ) (d : Dev nD)

theorem dev_zero : d = 0 := Subsingleton.elim d 0

/-! ## Buffers a step leaves alone -/

theorem inj2 : Function.Injective (Pipeline.arrRef spec2) := by decide

theorem V6_out : V6 m (adm m) d (Proc.devRef .tc main_v15) = (dat2 (adm m) (B5 m) d).arrAt (3 : Fin 4) (C2 m).N := by
  unfold V6; exact afterRegion_arr (dat2 (adm m) (B5 m) d) (V5 m d) inj2 (3 : Fin 4)
theorem V6_keep (b : Ref sig .tc) (hb : ∀ w : Fin 4, b ≠ Pipeline.arrRef spec2 w) : V6 m (adm m) d (Proc.devRef .tc b) = V5 m d (Proc.devRef .tc b) := by
  unfold V6; exact Pipeline.afterRegion_of_not_arr (dat2 (adm m) (B5 m) d) (V5 m d) hb
theorem V6_arg (b : Ref sig .tc) (h : ∀ w : Fin 4, Pipeline.arrRef spec2 w = b → ((C2 m).win w).isOut = false) : V6 m (adm m) d (Proc.devRef .tc b) = V5 m d (Proc.devRef .tc b) := by
  unfold V6; exact Pipeline.afterRegion_keeps (dat2 (adm m) (B5 m) d) (V5 m d) inj2 (fun _ => rfl) b h
theorem V2_arg (b : Ref sig .tc) (h : ∀ w : Fin 9, Pipeline.arrRef spec0 w = b → (cfg0.win w).isOut = false) : V2 m d (Proc.devRef .tc b) = V1 m d (Proc.devRef .tc b) := by
  unfold V2; exact Pipeline.afterRegion_keeps (WholeRegion0.dat0 (B1 m) d) (V1 m d) inj0 (fun _ => rfl) b h

/-- What each run of lines between the calls writes. -/
abbrev W0 : List (Ref sig .tc) := [main_v0, main_v1]
abbrev W1 : List (Ref sig .tc) := [main_v3, main_v4, main_v5, main_c, main_v6, main_v7, main_v8, main_v9, main_v10, main_v11]
abbrev W2 : List (Ref sig .tc) := [main_v13, main_v14]
abbrev W3 : List (Ref sig .tc) := [main_v16]
abbrev W4 : List (Ref sig .tc) := [main_v18, main_v19, main_v20, main_v21, main_c_0]

theorem V1_keep (b : Ref sig .tc) (h : b ∉ W0) : V1 m d (Proc.devRef .tc b) = m (d, Proc.devRef .tc b) :=
  StableHlo.after_unwritten W0 rfl h _
theorem V5_keep (b : Ref sig .tc) (h : b ∉ main_v12 :: (W1 ++ W2)) :
    V5 m d (Proc.devRef .tc b) = V2 m d (Proc.devRef .tc b) := by
  simp only [List.mem_cons, List.mem_append, not_or] at h
  refine (StableHlo.after_unwritten (ops := ops2) W2 rfl (by simp only [List.mem_cons, not_or]; exact h.2.2) _).trans ?_
  rw [V4_ne _ _ _ fun e => h.1 (Proc.devRef_injective _ e)]
  exact StableHlo.after_unwritten (ops := ops1) W1 rfl (by simp only [List.mem_cons, not_or]; exact h.2.1) _
theorem V8_keep (b : Ref sig .tc) (h : b ∉ main_v17 :: W3) : V8 m (adm m) d (Proc.devRef .tc b) = V6 m (adm m) d (Proc.devRef .tc b) := by
  rw [V8_ne _ _ _ _ fun e => h (by rw [Proc.devRef_injective _ e]; exact List.mem_cons_self ..)]
  exact StableHlo.after_unwritten (ops := ops3) W3 rfl (fun e => h (List.mem_cons_of_mem _ e)) _
theorem V9_keep (b : Ref sig .tc) (h : b ∉ W4) : V9 m (adm m) d (Proc.devRef .tc b) = V8 m (adm m) d (Proc.devRef .tc b) :=
  StableHlo.after_unwritten (ops := ops4) W4 rfl h _

theorem gI_eq : gI m (adm m) d = cI m d := by
  show after ops3 _ _ = _
  unfold ops3
  after_reads_simp
  rw [V6_keep m d main_v10 (by decide)]
  show after ops2 _ _ = _
  unfold ops2
  after_reads_simp
  rw [V4_ne _ _ _ (by decide)]
  rfl

/-- Nothing is asked of the launch memory. -/
theorem good : Good m (adm m) where
  inRows := inRows m
  distinct := distinct m
  inRows' d j := by rw [gI_eq]; exact inRows m d j
  table d k := by rw [dev_zero d]; rfl

/-! ## The results -/

theorem V5_E : V5 m d (Proc.devRef .tc main_arg3) = argE m d := by
  rw [V5_keep m d main_arg3 (by decide), V2_keep m d main_arg3 (by decide), V1_arg3]
theorem V5_C : V5 m d (Proc.devRef .tc main_arg4) = argC m d := by
  rw [V5_keep m d main_arg4 (by decide), V2_keep m d main_arg4 (by decide), V1_arg4]

theorem out_row (t : Fin 4096) (j : Fin 1024) : outRow m (B5 m) d ⟨rw' m d t.val, rw_lt m d t⟩ j
    = two (fun k => tok (argX m d) t k * top (soft (L m d t))) (argE m d) (argC m d) ⟨ex m d t.val, ex_lt m d t⟩ j := by
  obtain rfl := dev_zero d
  unfold outRow
  have hE : B5 m 0 main_arg3 = argE m 0 := V5_E m 0
  have hC : B5 m 0 main_arg4 = argC m 0 := V5_C m 0
  have hx : (fun k => B5 m 0 main_v13 (ix2 ⟨rw' m 0 t.val, rw_lt m 0 t⟩ k)) = fun k => tok (argX m 0) t k * top (soft (L m 0 t)) := funext fun k => V5_x m 0 t k
  have he : (⟨bx m (rw' m 0 t.val / 128), bx_lt m _⟩ : Fin 8) = ⟨ex m 0 t.val, ex_lt m 0 t⟩ := Fin.ext (by
    show upto (ex m 0) (row (ex m 0) t.val / 128) - 1 = ex m 0 t.val
    rw [upto_row _ _ t.isLt (ex_lt m 0 t)]; rfl)
  rw [hE, hC, hx, he]

theorem gY_at (t : Fin 4096) (q : Fin 8) (l : Fin 128) :
    gY m (adm m) d (ix2 ⟨8 * rw' m d t.val + q.val, by have := rw_lt m d t; omega⟩ l)
      = two (fun k => tok (argX m d) t k * top (soft (L m d t))) (argE m d) (argC m d) ⟨ex m d t.val, ex_lt m d t⟩ ⟨q.val * 128 + l.val, by omega⟩ := by
  have hr := rw_lt m d t
  have h : gY m (adm m) d (ix2 ⟨8 * rw' m d t.val + q.val, by omega⟩ l)
      = V6 m (adm m) d (Proc.devRef .tc main_v15) (ix2 (n0 := 5120) (n1 := 1024) ⟨(8 * rw' m d t.val + q.val) / 8, by omega⟩ ⟨(8 * rw' m d t.val + q.val) % 8 * 128 + l.val, by omega⟩) := by
    show after ops3 _ _ _ = _
    unfold ops3
    after_reads_at
  rw [h, V6_out, WholeBlocks.arr3, ← out_row]
  congr 1
  · exact Fin.ext (by dsimp only; omega)
  · exact Fin.ext (by dsimp only; omega)

theorem V9_out (s : Fin 2048) (b : Fin 2) (k : Fin 1024) : V9 m (adm m) d (Proc.devRef .tc main_v18) (ix3 s b k)
    = two (fun k => tok (argX m d) ⟨2 * s.val + b.val, by omega⟩ k * top (soft (L m d ⟨2 * s.val + b.val, by omega⟩))) (argE m d) (argC m d)
        ⟨ex m d (2 * s.val + b.val), ex_lt m d ⟨2 * s.val + b.val, by omega⟩⟩ k := by
  have h : V9 m (adm m) d (Proc.devRef .tc main_v18) (ix3 s b k)
      = V8 m (adm m) d (Proc.devRef .tc main_v17) (ix2 (n0 := 32768) (n1 := 128) ⟨8 * (2 * s.val + b.val) + k.val / 128, by omega⟩ ⟨k.val % 128, by omega⟩) := by
    show after ops4 _ _ _ = _
    unfold ops4
    after_reads_at
    exact congrArg (fun q : Fin 32768 => V8 m (adm m) d (Proc.devRef .tc main_v17) (ix2 (n0 := 32768) (n1 := 128) q ⟨k.val % 128, by omega⟩)) (Fin.ext (by dsimp only; omega))
  rw [h, V8_eq]
  have hn := cI_nat m d ⟨8 * (2 * s.val + b.val) + k.val / 128, by omega⟩
  have e1 : (8 * (2 * s.val + b.val) + k.val / 128) / 8 = 2 * s.val + b.val := by omega
  have e2 : (8 * (2 * s.val + b.val) + k.val / 128) % 8 = k.val / 128 := by omega
  dsimp only at hn
  rw [e1, e2] at hn
  have hr := rw_lt m d ⟨2 * s.val + b.val, by omega⟩
  dsimp only at hr
  have hg := gY_at m d ⟨2 * s.val + b.val, by omega⟩ ⟨k.val / 128, by omega⟩ ⟨k.val % 128, by omega⟩
  refine Eq.trans ?_ (hg.trans ?_)
  · unfold o2 WholeGather.gat
    rw [gI_eq]
    exact congrArg (fun q : Fin 40960 => gY m (adm m) d (ix2 q ⟨k.val % 128, by omega⟩)) (Fin.ext (by
      show (cI m d (ix1 ⟨8 * (2 * s.val + b.val) + k.val / 128, _⟩)).toNat % 40960 = _
      rw [hn]
      show (8 * rw' m d (2 * s.val + b.val) + k.val / 128) % 40960 = 8 * rw' m d (2 * s.val + b.val) + k.val / 128
      omega))
  · exact congrArg (fun q : Fin 1024 => two (fun k => tok (argX m d) ⟨2 * s.val + b.val, by omega⟩ k * top (soft (L m d ⟨2 * s.val + b.val, by omega⟩))) (argE m d) (argC m d)
        ⟨ex m d (2 * s.val + b.val), ex_lt m d ⟨2 * s.val + b.val, by omega⟩⟩ q) (Fin.ext (by dsimp only; omega))

theorem V9_cnt (e : Fin 8) : V9 m (adm m) d (Proc.devRef .tc main_v19) (ix1 e) = nat (cnt (ex m d) 4096 e.val) := by
  rw [← V2_c, ← V5_keep m d main_v2_2 (by decide), ← V6_keep m d main_v2_2 (by decide), ← V8_keep m d main_v2_2 (by decide)]
  show after ops4 _ _ _ = _
  unfold ops4
  after_reads_at
theorem V9_sum (e : Fin 8) : V9 m (adm m) d (Proc.devRef .tc main_v20) (ix1 e) = ∑ t : Fin 4096, soft (L m d t) e := by
  rw [← V2_s, ← V5_keep m d main_v2_3 (by decide), ← V6_keep m d main_v2_3 (by decide), ← V8_keep m d main_v2_3 (by decide)]
  show after ops4 _ _ _ = _
  unfold ops4
  after_reads_at
theorem V9_max (t : Fin 4096) : V9 m (adm m) d (Proc.devRef .tc main_v21) (ix1 t) = top (soft (L m d t)) := by
  rw [← V2_p, ← V5_keep m d main_v2_1 (by decide), ← V6_keep m d main_v2_1 (by decide), ← V8_keep m d main_v2_1 (by decide)]
  show after ops4 _ _ _ = _
  unfold ops4
  after_reads_at
theorem V9_drop : V9 m (adm m) d (Proc.devRef .tc main_c_0) = (constantI S_ 32 0#32 : S_.Idx → BitVec 32) := by
  show after ops4 _ _ = _
  unfold ops4
  after_reads_simp

/-! ## The arguments -/

/-- The experts' call and the router's write none of the arguments. -/
theorem args_kept : ∀ b ∈ [main_arg0, main_arg1, main_arg2, main_arg3, main_arg4], b ∉ W0 ∧ b ∉ main_v12 :: (W1 ++ W2) ∧ b ∉ main_v17 :: W3 ∧ b ∉ W4
    ∧ (∀ w : Fin 9, Pipeline.arrRef spec0 w = b → (cfg0.win w).isOut = false)
    ∧ (∀ w : Fin 4, Pipeline.arrRef spec2 w = b → (spec2 w).isOut = false) := by decide

theorem V9_arg (b : Ref sig .tc) (h : b ∈ [main_arg0, main_arg1, main_arg2, main_arg3, main_arg4]) : V9 m (adm m) d (Proc.devRef .tc b) = m (d, Proc.devRef .tc b) := by
  obtain ⟨h0, h1, h3, h4, k0, k2⟩ := args_kept b h
  rw [V9_keep m d b h4, V8_keep m d b h3, V6_arg m d b k2, V5_keep m d b h1, V2_arg m d b k0, V1_keep m d b h0]

end Cert.Proof.WholeEnd

end
-- ==== Proof.RefRun.lean ====
/-
  The reference of the whole kernel: its run, as the fold of its operations.
-/
module

public import proofs.«01_k».proof.Defs
public import proofs.«01_k».proof.Proof.Gen.ReferenceIdeal
public import Idealize.ShloMosaic.Lib.Claim
public import Idealize.ShloMosaic.Lib.StableHlo.RunRead

@[expose] public section

set_option synthInstance.maxSize 4096
set_option maxRecDepth 100000

noncomputable section

namespace Cert.Proof.RefRun

open Cert.ReferenceIdeal Cert.ReferenceIdeal.Gen
open Idealize.ShloMosaic Idealize.SL.Sem
open Idealize.ShloMosaic.StableHlo (after)

variable {F : FTy → Type} [FloatOps F]

/-- The logits. -/
abbrev ops0 : List (HloOp τ sig (Elt F)) :=
  [StableHlo.reshape main_arg0 main_v0 (rfl : (.f32 : EltTy) = .f32) shapeCasts_S2048x2x1024_S4096x1024,
   StableHlo.unary main_arg1 main_v1 ((transpose S1024x8 [1, 0] · transposes_S8x1024_S1024x8_1_0) : (⟨S8x1024, .f32⟩ : BufTy).Contents (Elt F) → (⟨S1024x8, .f32⟩ : BufTy).Contents (Elt F)),
   StableHlo.binary main_v0 main_v1 main_v2 ((fun l r => Host.dotGeneral dot_S4096x1024_S1024x8_S4096x8_1_0_0_1_n_n none l r) : (⟨S4096x1024, .f32⟩ : BufTy).Contents (Elt F) → (⟨S1024x8, .f32⟩ : BufTy).Contents (Elt F) → (⟨S4096x8, .f32⟩ : BufTy).Contents (Elt F)),
   StableHlo.unary main_arg2 main_v3 (broadcastInDim S1x8 ![1] bcast_S8_S1x8_1 : (⟨S8, .f32⟩ : BufTy).Contents (Elt F) → (⟨S1x8, .f32⟩ : BufTy).Contents (Elt F)),
   StableHlo.unary main_v3 main_v4 (broadcastInDim S4096x8 ![0, 1] bcast_S1x8_S4096x8_0_1 : (⟨S1x8, .f32⟩ : BufTy).Contents (Elt F) → (⟨S4096x8, .f32⟩ : BufTy).Contents (Elt F)),
   StableHlo.binary main_v2 main_v4 main_v5 (addf : (⟨S4096x8, .f32⟩ : BufTy).Contents (Elt F) → (⟨S4096x8, .f32⟩ : BufTy).Contents (Elt F) → (⟨S4096x8, .f32⟩ : BufTy).Contents (Elt F))]
abbrev W0 : List (Ref sig .tc) := [main_v0, main_v1, main_v2, main_v3, main_v4, main_v5]

/-- The router's probabilities and their greatest. -/
abbrev ops1 : List (HloOp τ sig (Elt F)) :=
  [StableHlo.nullary main_cst (constant S_ .f32 0xFF800000#32),
   StableHlo.binary main_v5 main_cst main_v6 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F)),
   StableHlo.nullary main_cst_0 (constant S_ .f32 0xFF800000#32),
   StableHlo.unary main_cst_0 main_v7 (broadcastInDim S4096 ![] bcast_S_S4096 : (⟨S_, .f32⟩ : BufTy).Contents (Elt F) → (⟨S4096, .f32⟩ : BufTy).Contents (Elt F)),
   StableHlo.binary main_v7 main_v6 main_v8 (maximumf : (⟨S4096, .f32⟩ : BufTy).Contents (Elt F) → (⟨S4096, .f32⟩ : BufTy).Contents (Elt F) → (⟨S4096, .f32⟩ : BufTy).Contents (Elt F)),
   StableHlo.unary main_v8 main_v9 (broadcastInDim S4096x1 ![0] bcast_S4096_S4096x1_0 : (⟨S4096, .f32⟩ : BufTy).Contents (Elt F) → (⟨S4096x1, .f32⟩ : BufTy).Contents (Elt F)),
   StableHlo.unary main_v9 main_v10 (broadcastInDim S4096x8 ![0, 1] bcast_S4096x1_S4096x8_0_1 : (⟨S4096x1, .f32⟩ : BufTy).Contents (Elt F) → (⟨S4096x8, .f32⟩ : BufTy).Contents (Elt F)),
   StableHlo.binary main_v5 main_v10 main_v11 (subf : (⟨S4096x8, .f32⟩ : BufTy).Contents (Elt F) → (⟨S4096x8, .f32⟩ : BufTy).Contents (Elt F) → (⟨S4096x8, .f32⟩ : BufTy).Contents (Elt F)),
   StableHlo.unary main_v11 main_v12 (Host.exp : (⟨S4096x8, .f32⟩ : BufTy).Contents (Elt F) → (⟨S4096x8, .f32⟩ : BufTy).Contents (Elt F)),
   StableHlo.nullary main_cst_1 (constant S_ .f32 0x00000000#32),
   StableHlo.binary main_v12 main_cst_1 main_v13 ((fun x v => Host.reduceAdd x v reducesTo_S4096x8_S4096_d1 h_S_) : (⟨S4096x8, .f32⟩ : BufTy).Contents (Elt F) → (⟨S_, .f32⟩ : BufTy).Contents (Elt F) → (⟨S4096, .f32⟩ : BufTy).Contents (Elt F)),
   StableHlo.unary main_v13 main_v14 (broadcastInDim S4096x1 ![0] bcast_S4096_S4096x1_0 : (⟨S4096, .f32⟩ : BufTy).Contents (Elt F) → (⟨S4096x1, .f32⟩ : BufTy).Contents (Elt F)),
   StableHlo.unary main_v14 main_v15 (broadcastInDim S4096x8 ![0, 1] bcast_S4096x1_S4096x8_0_1 : (⟨S4096x1, .f32⟩ : BufTy).Contents (Elt F) → (⟨S4096x8, .f32⟩ : BufTy).Contents (Elt F)),
   StableHlo.binary main_v12 main_v15 main_v16 (Host.divf : (⟨S4096x8, .f32⟩ : BufTy).Contents (Elt F) → (⟨S4096x8, .f32⟩ : BufTy).Contents (Elt F) → (⟨S4096x8, .f32⟩ : BufTy).Contents (Elt F)),
   StableHlo.nullary main_cst_2 (constant S_ .f32 0xFF800000#32),
   StableHlo.binary main_v16 main_cst_2 main_v17 ((fun x v => Host.reduce FloatOps.maximumf x v reducesTo_S4096x8_S4096_d1 h_S_) : (⟨S4096x8, .f32⟩ : BufTy).Contents (Elt F) → (⟨S_, .f32⟩ : BufTy).Contents (Elt F) → (⟨S4096, .f32⟩ : BufTy).Contents (Elt F))]
abbrev W1 : List (Ref sig .tc) := [main_cst, main_v6, main_cst_0, main_v7, main_v8, main_v9, main_v10, main_v11, main_v12, main_cst_1, main_v13, main_v14, main_v15, main_v16, main_cst_2, main_v17]

/-- The place of the greatest probability. -/
abbrev ops2 : List (HloOp τ sig (Elt F)) :=
  [StableHlo.nullary main_call0_v0 (iotaInDim S4096x8 32 1),
   StableHlo.nullary main_call0_cst (constant S_ .f32 0xFF800000#32),
   StableHlo.nullary main_call0_c (constantI S_ 32 0#32),
   StableHlo.quaternary main_v16 main_call0_v0 main_call0_cst main_call0_c main_call0_v1_0 ((fun x y u v j => (Host.argReduce reducer_argmax_f32_i32 x y u v reducesTo_S4096x8_S4096_d1 h_S_ j).1) : (⟨S4096x8, .f32⟩ : BufTy).Contents (Elt F) → (⟨S4096x8, .i32⟩ : BufTy).Contents (Elt F) → (⟨S_, .f32⟩ : BufTy).Contents (Elt F) → (⟨S_, .i32⟩ : BufTy).Contents (Elt F) → (⟨S4096, .f32⟩ : BufTy).Contents (Elt F)),
   StableHlo.quaternary main_v16 main_call0_v0 main_call0_cst main_call0_c main_v18 ((fun x y u v j => (Host.argReduce reducer_argmax_f32_i32 x y u v reducesTo_S4096x8_S4096_d1 h_S_ j).2) : (⟨S4096x8, .f32⟩ : BufTy).Contents (Elt F) → (⟨S4096x8, .i32⟩ : BufTy).Contents (Elt F) → (⟨S_, .f32⟩ : BufTy).Contents (Elt F) → (⟨S_, .i32⟩ : BufTy).Contents (Elt F) → (⟨S4096, .i32⟩ : BufTy).Contents (Elt F))]
abbrev W2 : List (Ref sig .tc) := [main_call0_v0, main_call0_cst, main_call0_c, main_call0_v1_0, main_v18]

/-- How many tokens went to each expert. -/
abbrev ops3 : List (HloOp τ sig (Elt F)) :=
  [StableHlo.nullary main_c (constantI S_ 32 0#32),
   StableHlo.unary main_c main_v19 (broadcastInDim S8 ![] bcast_S_S8 : (⟨S_, .i32⟩ : BufTy).Contents (Elt F) → (⟨S8, .i32⟩ : BufTy).Contents (Elt F)),
   StableHlo.nullary main_c_3 (constantI S_ 32 0#32),
   StableHlo.unary main_c_3 main_call1_v0 (id : (⟨S_, .i32⟩ : BufTy).Contents (Elt F) → (⟨S_, .i32⟩ : BufTy).Contents (Elt F)),
   StableHlo.unary main_call1_v0 main_call1_v1 (broadcastInDim S4096 ![] bcast_S_S4096 : (⟨S_, .i32⟩ : BufTy).Contents (Elt F) → (⟨S4096, .i32⟩ : BufTy).Contents (Elt F)),
   StableHlo.binary main_call1_v1 main_v18 main_v20 (maxsi : (⟨S4096, .i32⟩ : BufTy).Contents (Elt F) → (⟨S4096, .i32⟩ : BufTy).Contents (Elt F) → (⟨S4096, .i32⟩ : BufTy).Contents (Elt F)),
   StableHlo.nullary main_c_4 (constantI S_ 32 0#32),
   StableHlo.unary main_c_4 main_v21 (broadcastInDim S4096 ![] bcast_S_S4096 : (⟨S_, .i32⟩ : BufTy).Contents (Elt F) → (⟨S4096, .i32⟩ : BufTy).Contents (Elt F)),
   StableHlo.binary main_v20 main_v21 main_v22 (cmpi .slt : (⟨S4096, .i32⟩ : BufTy).Contents (Elt F) → (⟨S4096, .i32⟩ : BufTy).Contents (Elt F) → (⟨S4096, .i1⟩ : BufTy).Contents (Elt F)),
   StableHlo.nullary main_c_5 (constantI S_ 32 8#32),
   StableHlo.unary main_c_5 main_v23 (broadcastInDim S4096 ![] bcast_S_S4096 : (⟨S_, .i32⟩ : BufTy).Contents (Elt F) → (⟨S4096, .i32⟩ : BufTy).Contents (Elt F)),
   StableHlo.binary main_v20 main_v23 main_v24 (addi : (⟨S4096, .i32⟩ : BufTy).Contents (Elt F) → (⟨S4096, .i32⟩ : BufTy).Contents (Elt F) → (⟨S4096, .i32⟩ : BufTy).Contents (Elt F)),
   StableHlo.ternary main_v22 main_v24 main_v20 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
   StableHlo.unary main_v25 main_v26 (broadcastInDim S4096x1 ![0] bcast_S4096_S4096x1_0 : (⟨S4096, .i32⟩ : BufTy).Contents (Elt F) → (⟨S4096x1, .i32⟩ : BufTy).Contents (Elt F)),
   StableHlo.nullary main_c_6 (constantI S_ 32 1#32),
   StableHlo.unary main_c_6 main_v27 (broadcastInDim S4096 ![] bcast_S_S4096 : (⟨S_, .i32⟩ : BufTy).Contents (Elt F) → (⟨S4096, .i32⟩ : BufTy).Contents (Elt F)),
   StableHlo.ternary main_v19 main_v26 main_v27 main_v28 ((fun x i u => Host.scatter scatter_S8_S4096x1_S4096_n_0_0_1 IntOp.addi x i u) : (⟨S8, .i32⟩ : BufTy).Contents (Elt F) → (⟨S4096x1, .i32⟩ : BufTy).Contents (Elt F) → (⟨S4096, .i32⟩ : BufTy).Contents (Elt F) → (⟨S8, .i32⟩ : BufTy).Contents (Elt F)),
   StableHlo.unary main_v28 main_v29 (sitofp .f32 : (⟨S8, .i32⟩ : BufTy).Contents (Elt F) → (⟨S8, .f32⟩ : BufTy).Contents (Elt F))]
abbrev W3 : List (Ref sig .tc) := [main_c, main_v19, main_c_3, main_call1_v0, main_call1_v1, main_v20, main_c_4, main_v21, main_v22, main_c_5, main_v23, main_v24, main_v25, main_v26, main_c_6, main_v27, main_v28, main_v29]

/-- The experts' first layer, of every token. -/
abbrev ops4 : List (HloOp τ sig (Elt F)) :=
  [StableHlo.unary main_v0 main_v30 (broadcastInDim S1x4096x1024 ![1, 2] bcast_S4096x1024_S1x4096x1024_1_2 : (⟨S4096x1024, .f32⟩ : BufTy).Contents (Elt F) → (⟨S1x4096x1024, .f32⟩ : BufTy).Contents (Elt F)),
   StableHlo.unary main_v30 main_v31 (broadcastInDim S8x4096x1024 ![0, 1, 2] bcast_S1x4096x1024_S8x4096x1024_0_1_2 : (⟨S1x4096x1024, .f32⟩ : BufTy).Contents (Elt F) → (⟨S8x4096x1024, .f32⟩ : BufTy).Contents (Elt F)),
   StableHlo.unary main_arg3 main_v32 ((extractStridedSlice S8x1x1024x1024 ![0, 0, 0, 0] · slices_S8x2x1024x1024_S8x1x1024x1024_0_0_0_0) : (⟨S8x2x1024x1024, .f32⟩ : BufTy).Contents (Elt F) → (⟨S8x1x1024x1024, .f32⟩ : BufTy).Contents (Elt F)),
   StableHlo.reshape main_v32 main_v33 (rfl : (.f32 : EltTy) = .f32) shapeCasts_S8x1x1024x1024_S8x1024x1024,
   StableHlo.binary main_v31 main_v33 main_v34 ((fun l r => Host.dotGeneral dot_S8x4096x1024_S8x1024x1024_S8x4096x1024_2_2_1_1_0_0 none l r) : (⟨S8x4096x1024, .f32⟩ : BufTy).Contents (Elt F) → (⟨S8x1024x1024, .f32⟩ : BufTy).Contents (Elt F) → (⟨S8x4096x1024, .f32⟩ : BufTy).Contents (Elt F)),
   StableHlo.unary main_arg4 main_v35 ((extractStridedSlice S8x1x1024 ![0, 0, 0] · slices_S8x2x1024_S8x1x1024_0_0_0) : (⟨S8x2x1024, .f32⟩ : BufTy).Contents (Elt F) → (⟨S8x1x1024, .f32⟩ : BufTy).Contents (Elt F)),
   StableHlo.reshape main_v35 main_v36 (rfl : (.f32 : EltTy) = .f32) shapeCasts_S8x1x1024_S8x1024,
   StableHlo.unary main_v36 main_v37 (broadcastInDim S8x1x1024 ![0, 2] bcast_S8x1024_S8x1x1024_0_2 : (⟨S8x1024, .f32⟩ : BufTy).Contents (Elt F) → (⟨S8x1x1024, .f32⟩ : BufTy).Contents (Elt F)),
   StableHlo.unary main_v37 main_v38 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
   StableHlo.binary main_v34 main_v38 main_v39 (addf : (⟨S8x4096x1024, .f32⟩ : BufTy).Contents (Elt F) → (⟨S8x4096x1024, .f32⟩ : BufTy).Contents (Elt F) → (⟨S8x4096x1024, .f32⟩ : BufTy).Contents (Elt F))]
abbrev W4 : List (Ref sig .tc) := [main_v30, main_v31, main_v32, main_v33, main_v34, main_v35, main_v36, main_v37, main_v38, main_v39]

/-- The experts' second layer. -/
abbrev ops5 : List (HloOp τ sig (Elt F)) :=
  [StableHlo.unary main_arg3 main_v40 ((extractStridedSlice S8x1x1024x1024 ![0, 1, 0, 0] · slices_S8x2x1024x1024_S8x1x1024x1024_0_1_0_0) : (⟨S8x2x1024x1024, .f32⟩ : BufTy).Contents (Elt F) → (⟨S8x1x1024x1024, .f32⟩ : BufTy).Contents (Elt F)),
   StableHlo.reshape main_v40 main_v41 (rfl : (.f32 : EltTy) = .f32) shapeCasts_S8x1x1024x1024_S8x1024x1024,
   StableHlo.binary main_v39 main_v41 main_v42 ((fun l r => Host.dotGeneral dot_S8x4096x1024_S8x1024x1024_S8x4096x1024_2_2_1_1_0_0 none l r) : (⟨S8x4096x1024, .f32⟩ : BufTy).Contents (Elt F) → (⟨S8x1024x1024, .f32⟩ : BufTy).Contents (Elt F) → (⟨S8x4096x1024, .f32⟩ : BufTy).Contents (Elt F)),
   StableHlo.unary main_arg4 main_v43 ((extractStridedSlice S8x1x1024 ![0, 1, 0] · slices_S8x2x1024_S8x1x1024_0_1_0) : (⟨S8x2x1024, .f32⟩ : BufTy).Contents (Elt F) → (⟨S8x1x1024, .f32⟩ : BufTy).Contents (Elt F)),
   StableHlo.reshape main_v43 main_v44 (rfl : (.f32 : EltTy) = .f32) shapeCasts_S8x1x1024_S8x1024,
   StableHlo.unary main_v44 main_v45 (broadcastInDim S8x1x1024 ![0, 2] bcast_S8x1024_S8x1x1024_0_2 : (⟨S8x1024, .f32⟩ : BufTy).Contents (Elt F) → (⟨S8x1x1024, .f32⟩ : BufTy).Contents (Elt F)),
   StableHlo.unary main_v45 main_v46 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
   StableHlo.binary main_v42 main_v46 main_v47 (addf : (⟨S8x4096x1024, .f32⟩ : BufTy).Contents (Elt F) → (⟨S8x4096x1024, .f32⟩ : BufTy).Contents (Elt F) → (⟨S8x4096x1024, .f32⟩ : BufTy).Contents (Elt F))]
abbrev W5 : List (Ref sig .tc) := [main_v40, main_v41, main_v42, main_v43, main_v44, main_v45, main_v46, main_v47]

/-- The columns that name each token's row. -/
abbrev ops6 : List (HloOp τ sig (Elt F)) :=
  [StableHlo.nullary main_v48 (iotaInDim S4096 32 0),
   StableHlo.nullary main_c_7 (constantI S_ 32 0#32),
   StableHlo.unary main_c_7 main_v49 (broadcastInDim S4096 ![] bcast_S_S4096 : (⟨S_, .i32⟩ : BufTy).Contents (Elt F) → (⟨S4096, .i32⟩ : BufTy).Contents (Elt F)),
   StableHlo.binary main_v18 main_v49 main_v50 (cmpi .slt : (⟨S4096, .i32⟩ : BufTy).Contents (Elt F) → (⟨S4096, .i32⟩ : BufTy).Contents (Elt F) → (⟨S4096, .i1⟩ : BufTy).Contents (Elt F)),
   StableHlo.nullary main_c_8 (constantI S_ 32 8#32),
   StableHlo.unary main_c_8 main_v51 (broadcastInDim S4096 ![] bcast_S_S4096 : (⟨S_, .i32⟩ : BufTy).Contents (Elt F) → (⟨S4096, .i32⟩ : BufTy).Contents (Elt F)),
   StableHlo.binary main_v18 main_v51 main_v52 (addi : (⟨S4096, .i32⟩ : BufTy).Contents (Elt F) → (⟨S4096, .i32⟩ : BufTy).Contents (Elt F) → (⟨S4096, .i32⟩ : BufTy).Contents (Elt F)),
   StableHlo.ternary main_v50 main_v52 main_v18 main_v53 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
   StableHlo.nullary main_c_9 (constantI S_ 32 0#32),
   StableHlo.unary main_c_9 main_v54 (broadcastInDim S4096 ![] bcast_S_S4096 : (⟨S_, .i32⟩ : BufTy).Contents (Elt F) → (⟨S4096, .i32⟩ : BufTy).Contents (Elt F)),
   StableHlo.binary main_v48 main_v54 main_v55 (cmpi .slt : (⟨S4096, .i32⟩ : BufTy).Contents (Elt F) → (⟨S4096, .i32⟩ : BufTy).Contents (Elt F) → (⟨S4096, .i1⟩ : BufTy).Contents (Elt F)),
   StableHlo.nullary main_c_10 (constantI S_ 32 4096#32),
   StableHlo.unary main_c_10 main_v56 (broadcastInDim S4096 ![] bcast_S_S4096 : (⟨S_, .i32⟩ : BufTy).Contents (Elt F) → (⟨S4096, .i32⟩ : BufTy).Contents (Elt F)),
   StableHlo.binary main_v48 main_v56 main_v57 (addi : (⟨S4096, .i32⟩ : BufTy).Contents (Elt F) → (⟨S4096, .i32⟩ : BufTy).Contents (Elt F) → (⟨S4096, .i32⟩ : BufTy).Contents (Elt F)),
   StableHlo.ternary main_v55 main_v57 main_v48 main_v58 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
   StableHlo.unary main_v53 main_v59 (broadcastInDim S4096x1 ![0] bcast_S4096_S4096x1_0 : (⟨S4096, .i32⟩ : BufTy).Contents (Elt F) → (⟨S4096x1, .i32⟩ : BufTy).Contents (Elt F)),
   StableHlo.unary main_v58 main_v60 (broadcastInDim S4096x1 ![0] bcast_S4096_S4096x1_0 : (⟨S4096, .i32⟩ : BufTy).Contents (Elt F) → (⟨S4096x1, .i32⟩ : BufTy).Contents (Elt F))]
abbrev W6 : List (Ref sig .tc) := [main_v48, main_c_7, main_v49, main_v50, main_c_8, main_v51, main_v52, main_v53, main_c_9, main_v54, main_v55, main_c_10, main_v56, main_v57, main_v58, main_v59, main_v60]

/-- The two columns side by side. -/
abbrev ops7 : List (HloOp τ sig (Elt F)) :=
  [StableHlo.binary main_v59 main_v60 main_v61 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F))]
abbrev W7 : List (Ref sig .tc) := [main_v61]

/-- Each token's own expert's row. -/
abbrev ops8 : List (HloOp τ sig (Elt F)) :=
  [StableHlo.binary main_v47 main_v61 main_v62 ((fun x i => Host.gather gather_S8x4096x1024_S4096x2_S4096x1024_1_01_n_n_01_1_111024 x i) : (⟨S8x4096x1024, .f32⟩ : BufTy).Contents (Elt F) → (⟨S4096x2, .i32⟩ : BufTy).Contents (Elt F) → (⟨S4096x1024, .f32⟩ : BufTy).Contents (Elt F))]
abbrev W8 : List (Ref sig .tc) := [main_v62]

/-- Each token's own expert's row, scaled, and the sums of the probabilities. -/
abbrev ops9 : List (HloOp τ sig (Elt F)) :=
  [StableHlo.unary main_v17 main_v63 (broadcastInDim S4096x1 ![0] bcast_S4096_S4096x1_0 : (⟨S4096, .f32⟩ : BufTy).Contents (Elt F) → (⟨S4096x1, .f32⟩ : BufTy).Contents (Elt F)),
   StableHlo.unary main_v63 main_v64 (broadcastInDim S4096x1024 ![0, 1] bcast_S4096x1_S4096x1024_0_1 : (⟨S4096x1, .f32⟩ : BufTy).Contents (Elt F) → (⟨S4096x1024, .f32⟩ : BufTy).Contents (Elt F)),
   StableHlo.binary main_v62 main_v64 main_v65 (mulf : (⟨S4096x1024, .f32⟩ : BufTy).Contents (Elt F) → (⟨S4096x1024, .f32⟩ : BufTy).Contents (Elt F) → (⟨S4096x1024, .f32⟩ : BufTy).Contents (Elt F)),
   StableHlo.reshape main_v65 main_v66 (rfl : (.f32 : EltTy) = .f32) shapeCasts_S4096x1024_S2048x2x1024,
   StableHlo.nullary main_cst_11 (constant S_ .f32 0x00000000#32),
   StableHlo.binary main_v16 main_cst_11 main_v67 ((fun x v => Host.reduceAdd x v reducesTo_S4096x8_S8_d0 h_S_) : (⟨S4096x8, .f32⟩ : BufTy).Contents (Elt F) → (⟨S_, .f32⟩ : BufTy).Contents (Elt F) → (⟨S8, .f32⟩ : BufTy).Contents (Elt F)),
   StableHlo.nullary main_c_12 (constantI S_ 32 0#32)]
abbrev W9 : List (Ref sig .tc) := [main_v63, main_v64, main_v65, main_v66, main_cst_11, main_v67, main_c_12]

/-- The reference's operations, in order. -/
abbrev ops : List (HloOp τ sig (Elt F)) := ops0 ++ (ops1 ++ (ops2 ++ (ops3 ++ (ops4 ++ (ops5 ++ (ops6 ++ (ops7 ++ (ops8 ++ ops9))))))))

theorem after_append (l l' : List (HloOp τ sig (Elt F))) (V : Valuation τ sig (Elt F)) : after (l ++ l') V = after l' (after l V) := by
  induction l generalizing V with
  | nil => rfl
  | cons op l ih => exact ih _

variable (m : (ℓ : Loc nD τ sig) → Buf (Elt F) ℓ) (d : Dev nD)

/-- The contents before each segment, and at the end. -/
abbrev V0 : Valuation τ sig (Elt F) := StableHlo.launchContents m d
def V1 : Valuation τ sig (Elt F) := after ops0 (V0 m d)
def V2 : Valuation τ sig (Elt F) := after ops1 (V1 m d)
def V3 : Valuation τ sig (Elt F) := after ops2 (V2 m d)
def V4 : Valuation τ sig (Elt F) := after ops3 (V3 m d)
def V5 : Valuation τ sig (Elt F) := after ops4 (V4 m d)
def V6 : Valuation τ sig (Elt F) := after ops5 (V5 m d)
def V7 : Valuation τ sig (Elt F) := after ops6 (V6 m d)
def V8 : Valuation τ sig (Elt F) := after ops7 (V7 m d)
def V9 : Valuation τ sig (Elt F) := after ops8 (V8 m d)
def V10 : Valuation τ sig (Elt F) := after ops9 (V9 m d)

theorem after_ops : after ops (V0 m d) = V10 m d := by
  simp only [ops, after_append]
  rfl

set_option maxHeartbeats 4000000 in
theorem main_ops (d : Dev nD) : StableHlo.IsSeq (main (F := F) d) ops := by
  unfold StableHlo.IsSeq
  rfl

theorem run (ρ : Dev nD → PrngReg) : θ_run (Cert.ReferenceIdeal.defs (F := F)) (onTc (τ := Cert.ReferenceIdeal.τ) (Cert.ReferenceIdeal.main (F := F))) ⟨m, fun _ => 0, ρ⟩ fun r =>
    ∀ (c : Dev nD) (b : Ref sig .tc), r.2.mem ((c.tc : Thread nD τ).loc b) = V10 m c (Proc.devRef .tc b) := by
  refine θ_run_mono (StableHlo.run_hlo _ _ main_ops (by decide) (by decide) (by simp)
      (by intro _ h; (repeat (cases h with | head => rfl | tail _ h => ?_)); exact nomatch h) m ρ) fun r h c b => ?_
  rw [h c b, after_ops]

end Cert.Proof.RefRun

end
-- ==== Proof.RefValues.lean ====
/-
  The reference of the whole kernel, read at an index.
-/
module

public import proofs.«01_k».proof.Proof.RefRun
public import proofs.«01_k».proof.Proof.WholeEnd
public import Idealize.ShloMosaic.Lib.Pointwise
public import Idealize.ShloMosaic.Lib.StableHlo.ReadAt
public import Idealize.ShloMosaic.Lib.Tactic.WordOmega
public import Idealize.ShloMosaic.Lib.ReduceAll
public import Idealize.ShloMosaic.Lib.Routing.Ops

@[expose] public section

set_option synthInstance.maxSize 4096

noncomputable section

namespace Cert.Proof.RefValues

open Cert.ReferenceIdeal Cert.ReferenceIdeal.Gen Cert.Proof.RouteMath Cert.Proof.RefRun
open Idealize.ShloMosaic
open Idealize.ShloMosaic.StableHlo (after)
open Cert.Proof.WholeGood (tok logits)

variable (m : (ℓ : Loc nD τ sig) → Buf (Elt Ideal) ℓ) (d : Dev nD)

abbrev aX : S2048x2x1024.Idx → EReal := m ((d.tc : Thread nD τ).loc main_arg0)
abbrev aW : S8x1024.Idx → EReal := m ((d.tc : Thread nD τ).loc main_arg1)
abbrev aB : S8.Idx → EReal := m ((d.tc : Thread nD τ).loc main_arg2)
abbrev aE : S8x2x1024x1024.Idx → EReal := m ((d.tc : Thread nD τ).loc main_arg3)
abbrev aC : S8x2x1024.Idx → EReal := m ((d.tc : Thread nD τ).loc main_arg4)

/-- The logits of a token. -/
abbrev L (t : Fin 4096) : Fin 8 → EReal := logits (aX m d) (aW m d) (aB m d) t

theorem v0_at (t : Fin 4096) (k : Fin 1024) : V1 m d (Proc.devRef .tc main_v0) (ix2 t k) = tok (aX m d) t k := by
  show after ops0 _ _ _ = _
  unfold ops0
  after_reads_at

theorem v5_at (t : Fin 4096) (e : Fin 8) : V1 m d (Proc.devRef .tc main_v5) (ix2 t e) = L m d t e := by
  show after ops0 _ _ _ = _
  unfold ops0
  after_reads_at
  rfl

theorem v16_at (t : Fin 4096) (e : Fin 8) : V2 m d (Proc.devRef .tc main_v16) (ix2 t e) = soft (L m d t) e := by
  have h : V2 m d (Proc.devRef .tc main_v16) (ix2 t e) = soft (fun e => V1 m d (Proc.devRef .tc main_v5) (ix2 t e)) e := by
    show after ops1 _ _ _ = _
    unfold ops1
    after_reads_at
    rfl
  rw [h]
  exact congrArg (fun l => soft l e) (funext fun e => v5_at m d t e)

theorem v17_at (t : Fin 4096) : V2 m d (Proc.devRef .tc main_v17) (ix1 t) = top (soft (L m d t)) := by
  have h : V2 m d (Proc.devRef .tc main_v17) (ix1 t) = top (soft fun e => V1 m d (Proc.devRef .tc main_v5) (ix2 t e)) := by
    show after ops1 _ _ _ = _
    unfold ops1
    after_reads_at
    rfl
  rw [h]
  exact congrArg (fun l => top (soft l)) (funext fun e => v5_at m d t e)

/-! ## The place of the greatest probability -/

/-- The reducer keeps one of its two pairs, the one that it keeps having no smaller a value, and no larger a place where
    the values agree. -/
theorem pick (a b : EReal × BitVec 32) :
    (reducer_argmax_f32_i32 (F := Ideal) a b = a ∧ (b.1 < a.1 ∨ b.1 = a.1 ∧ a.2.toInt ≤ b.2.toInt))
      ∨ (reducer_argmax_f32_i32 (F := Ideal) a b = b ∧ (a.1 < b.1 ∨ a.1 = b.1 ∧ b.2.toInt ≤ a.2.toInt)) := by
  obtain ⟨x, i⟩ := a
  obtain ⟨y, j⟩ := b
  have hne : ∀ z : EReal, FloatOps.cmpf (F := Ideal) (φ := .f32) .une z z = 0#1 := fun z => by
    show Ideal.cmp .une z z = _
    simp [Ideal.cmp]
  have hgt : FloatOps.cmpf (F := Ideal) (φ := .f32) .ogt x y = BitVec.ofBool (decide (y < x)) := by
    show Ideal.cmp .ogt x y = _
    simp [Ideal.cmp]
  have heq : FloatOps.cmpf (F := Ideal) (φ := .f32) .oeq x y = BitVec.ofBool (decide (x = y)) := by
    show Ideal.cmp .oeq x y = _
    simp [Ideal.cmp]
  have hlt : IntOp.cmpi .slt i j = BitVec.ofBool (decide (i.toInt < j.toInt)) := by
    simp [IntOp.cmpi, BitVec.slt]
  unfold reducer_argmax_f32_i32
  dsimp only
  rw [hne, hgt, heq, hlt]
  rcases lt_trichotomy x y with h | h | h
  · refine Or.inr ⟨?_, Or.inl h⟩
    simp [IntOp.ori, IntOp.andi, Scalar.select, not_lt.mpr h.le, h.ne]
  · subst h
    by_cases hi : i.toInt < j.toInt
    · refine Or.inl ⟨?_, Or.inr ⟨rfl, hi.le⟩⟩
      simp [IntOp.ori, IntOp.andi, Scalar.select, hi]
    · refine Or.inr ⟨?_, Or.inr ⟨rfl, not_lt.mp hi⟩⟩
      simp [IntOp.ori, IntOp.andi, Scalar.select, hi]
  · refine Or.inl ⟨?_, Or.inl h⟩
    simp [IntOp.ori, IntOp.andi, Scalar.select, h, h.ne']

/-- The pair that a fold of the reducer ends with is one of those it met, and beats all of them. -/
theorem pick_fold (l : List (EReal × BitVec 32)) (r : EReal × BitVec 32) :
    (l.foldl (reducer_argmax_f32_i32 (F := Ideal)) r ∈ r :: l)
      ∧ ∀ q ∈ r :: l, q.1 < (l.foldl (reducer_argmax_f32_i32 (F := Ideal)) r).1
          ∨ q.1 = (l.foldl (reducer_argmax_f32_i32 (F := Ideal)) r).1 ∧ (l.foldl (reducer_argmax_f32_i32 (F := Ideal)) r).2.toInt ≤ q.2.toInt := by
  induction l generalizing r with
  | nil => exact ⟨List.mem_cons_self .., fun q hq => by rw [List.mem_singleton.mp hq]; exact Or.inr ⟨rfl, le_rfl⟩⟩
  | cons b l ih =>
    rw [List.foldl_cons]
    obtain ⟨hm, hb⟩ := ih (reducer_argmax_f32_i32 (F := Ideal) r b)
    have hstart := hb _ (List.mem_cons_self ..)
    generalize l.foldl (reducer_argmax_f32_i32 (F := Ideal)) (reducer_argmax_f32_i32 (F := Ideal) r b) = z at *
    have tr : ∀ q s : EReal × BitVec 32, (q.1 < s.1 ∨ q.1 = s.1 ∧ s.2.toInt ≤ q.2.toInt) → (s.1 < z.1 ∨ s.1 = z.1 ∧ z.2.toInt ≤ s.2.toInt)
        → (q.1 < z.1 ∨ q.1 = z.1 ∧ z.2.toInt ≤ q.2.toInt) := by
      rintro q s (h | ⟨h, h'⟩) (k | ⟨k, k'⟩)
      · exact Or.inl (h.trans k)
      · exact Or.inl (k ▸ h)
      · exact Or.inl (h ▸ k)
      · exact Or.inr ⟨h.trans k, k'.trans h'⟩
    rcases pick r b with ⟨e, h⟩ | ⟨e, h⟩ <;> rw [e] at hm hstart
    · refine ⟨?_, fun q hq => ?_⟩
      · rcases List.mem_cons.mp hm with h | h
        · rw [h]; exact List.mem_cons_self ..
        · exact List.mem_cons_of_mem _ (List.mem_cons_of_mem _ h)
      · rcases List.mem_cons.mp hq with rfl | hq
        · exact hstart
        rcases List.mem_cons.mp hq with rfl | hq
        · exact tr _ _ h hstart
        · exact hb q (List.mem_cons_of_mem _ hq)
    · refine ⟨List.mem_cons_of_mem _ hm, fun q hq => ?_⟩
      rcases List.mem_cons.mp hq with rfl | hq
      · exact tr _ _ h hstart
      rcases List.mem_cons.mp hq with rfl | hq
      · exact hstart
      · exact hb q (List.mem_cons_of_mem _ hq)

theorem argmax_at (P : S4096x8.Idx → EReal) (t : Fin 4096) :
    (Host.argReduce (F := Ideal) (φ := .f32) reducer_argmax_f32_i32 P (iotaInDim S4096x8 32 1) (constant S_ .f32 0xFF800000#32) (constantI S_ 32 0#32)
      reducesTo_S4096x8_S4096_d1 h_S_ (ix1 t)).2 = BitVec.ofNat 32 (best fun e => P (ix2 t e)) := by
  rw [Ideal.argReduce_eq_reduce2, Host.reduce2_eq_foldl_fiber]
  have hmem : ∀ q, q ∈ Host.argReduceFiber P (iotaInDim S4096x8 32 1) reducesTo_S4096x8_S4096_d1 (ix1 t)
      ↔ ∃ e : Fin 8, q = (P (ix2 t e), BitVec.ofNat 32 e.val) := fun q => by
    unfold Host.argReduceFiber
    simp only [List.mem_map, List.mem_filter, List.mem_finRange, true_and, decide_eq_true_eq]
    have hd : ∀ (s : Fin 4096) (e : Fin 8), reducesTo_S4096x8_S4096_d1.drop (ix2 s e) = ix1 s := fun s e => by
      funext b
      match b with
      | ⟨0, _⟩ => rfl
    constructor
    · rintro ⟨n, hn, rfl⟩
      generalize S4096x8.rowMajor.symm n = i at hn ⊢
      idx_vars i
      rw [hd] at hn
      have : i0 = t := congrFun hn 0
      subst this
      exact ⟨i1, rfl⟩
    · rintro ⟨e, rfl⟩
      refine ⟨S4096x8.rowMajor (ix2 t e), ?_, ?_⟩
      · rw [Equiv.symm_apply_apply]; exact hd t e
      · rw [Equiv.symm_apply_apply]; rfl
  have hbot : ((constant (F := Ideal) S_ .f32 0xFF800000#32) (Shape.Idx.first h_S_), (constantI S_ 32 0#32) (Shape.Idx.first h_S_)) = ((⊥ : EReal), 0#32) :=
    Prod.ext low_eq rfl
  rw [hbot]
  obtain ⟨hin, hall⟩ := pick_fold (Host.argReduceFiber P (iotaInDim S4096x8 32 1) reducesTo_S4096x8_S4096_d1 (ix1 t)) ((⊥ : EReal), 0#32)
  generalize List.foldl (reducer_argmax_f32_i32 (F := Ideal)) ((⊥ : EReal), 0#32) (Host.argReduceFiber P (iotaInDim S4096x8 32 1) reducesTo_S4096x8_S4096_d1 (ix1 t)) = z at *
  have beats := fun e : Fin 8 => hall _ (List.mem_cons_of_mem _ ((hmem _).mpr ⟨e, rfl⟩))
  have hb := best_lt fun e => P (ix2 t e)
  have htop := best_top fun e => P (ix2 t e)
  rcases List.mem_cons.mp hin with rfl | hin
  · have h0 : ∀ e, P (ix2 t e) = ⊥ := fun e => (beats e).elim (fun h => absurd h not_lt_bot) fun h => h.1
    have := best_le (fun e => P (ix2 t e)) 0 (by rw [← htop, h0, h0])
    have h1 : best (fun e => P (ix2 t e)) = 0 := Nat.le_zero.mp this
    rw [h1]
  · obtain ⟨e, rfl⟩ := (hmem _).mp hin
    have hmax : P (ix2 t e) = top fun e => P (ix2 t e) := by
      refine le_antisymm (le_top (fun e => P (ix2 t e)) e) ?_
      rw [← htop]
      exact (beats ⟨_, hb⟩).elim (fun h => h.le) fun h => h.1.le
    have h1 := best_le (fun e => P (ix2 t e)) e hmax
    have h2 := (beats ⟨_, hb⟩).elim (fun h => absurd (htop.trans hmax.symm) h.ne) fun h => h.2
    dsimp only at h1 h2
    rw [toInt_small _ (by omega), toInt_small _ (by omega)] at h2
    have : e.val = best fun e => P (ix2 t e) := by omega
    rw [← this]

theorem V3_keep (b : Ref sig .tc) (h : b ∉ W2) : V3 m d (Proc.devRef .tc b) = V2 m d (Proc.devRef .tc b) := StableHlo.after_unwritten W2 rfl h _

theorem v18_at (t : Fin 4096) : V3 m d (Proc.devRef .tc main_v18) (ix1 t) = BitVec.ofNat 32 (best (soft (L m d t))) := by
  have h : V3 m d (Proc.devRef .tc main_v18) = fun j => (Host.argReduce (F := Ideal) (φ := .f32) reducer_argmax_f32_i32 (V2 m d (Proc.devRef .tc main_v16)) (iotaInDim S4096x8 32 1) (constant S_ .f32 0xFF800000#32) (constantI S_ 32 0#32)
      reducesTo_S4096x8_S4096_d1 h_S_ j).2 := by
    show after ops2 _ _ = _
    unfold ops2
    after_reads_simp
  rw [h]
  refine (argmax_at _ t).trans ?_
  exact congrArg (fun p => BitVec.ofNat 32 (best p)) (funext fun e => v16_at m d t e)

/-! ## The counts -/

/-- An update of the histogram lands at its index. -/
theorem lands (idx : IVec S4096x1 32) (i : Fin 4096) (x : Fin 8) (n : ℕ) (hn : n < 2 ^ 31) (h : idx (ix2 i (0 : Fin 1)) = BitVec.ofNat 32 n) :
    scatter_S8_S4096x1_S4096_n_0_0_1.resultIdx? (ix1 i) idx = some (ix1 x) ↔ n = x.val := by
  have hs : scatter_S8_S4096x1_S4096_n_0_0_1.start (ix1 i) idx 0 = (n : Int) := by
    rw [← toInt_small n hn, ← h]
    unfold ScatterDims.start
    rw [dif_pos (show (0 : Fin S8.rank) ∈ scatter_S8_S4096x1_S4096_n_0_0_1.scatterDimsToOperandDims from List.mem_singleton.2 rfl)]
    refine congrArg (fun j => (idx j).toInt) (funext fun b => ?_)
    match b with
    | ⟨0, _⟩ => rfl
    | ⟨1, _⟩ => rfl
  have hw : scatter_S8_S4096x1_S4096_n_0_0_1.window (ix1 i) 0 = 0 := rfl
  have hx := x.isLt
  unfold ScatterDims.resultIdx?
  constructor
  · intro e
    split at e
    · have e0 := congrArg Fin.val (congrFun (Option.some.inj e) 0)
      change (scatter_S8_S4096x1_S4096_n_0_0_1.start (ix1 i) idx 0 + (scatter_S8_S4096x1_S4096_n_0_0_1.window (ix1 i) 0 : Int)).toNat = x.val at e0
      rw [hs, hw] at e0
      omega
    · cases e
  · rintro rfl
    rw [dif_pos fun a => by
      match a with
      | ⟨0, _⟩ =>
        show 0 ≤ scatter_S8_S4096x1_S4096_n_0_0_1.start (ix1 i) idx 0 + (scatter_S8_S4096x1_S4096_n_0_0_1.window (ix1 i) 0 : Int)
          ∧ scatter_S8_S4096x1_S4096_n_0_0_1.start (ix1 i) idx 0 + (scatter_S8_S4096x1_S4096_n_0_0_1.window (ix1 i) 0 : Int) < 8
        rw [hs, hw]; omega]
    refine congrArg some (funext fun a => Fin.ext ?_)
    match a with
    | ⟨0, _⟩ =>
      show (scatter_S8_S4096x1_S4096_n_0_0_1.start (ix1 i) idx 0 + (scatter_S8_S4096x1_S4096_n_0_0_1.window (ix1 i) 0 : Int)).toNat = x.val
      rw [hs, hw]; omega

theorem hist (x0 : IVec S8 32) (hx0 : ∀ i, x0 i = 0#32) (idx : IVec S4096x1 32) (upd : IVec S4096 32) (hupd : ∀ i, upd i = 1#32) (g : ℕ → ℕ)
    (hg : ∀ i : Fin 4096, idx (ix2 i (0 : Fin 1)) = BitVec.ofNat 32 (g i.val)) (hg31 : ∀ i : Fin 4096, g i.val < 2 ^ 31) (x : Fin 8) :
    Host.scatter scatter_S8_S4096x1_S4096_n_0_0_1 IntOp.addi x0 idx upd (ix1 x) = BitVec.ofNat 32 (Nat.count (fun i => g i = x.val) 4096) := by
  unfold Host.scatter
  refine (Routing.foldl_count _ (ix1 x) (fun n => decide (g n.val = x.val)) (fun r n => ?_) _ x0 0 (hx0 _)).trans ?_
  · obtain ⟨i, hi, hiv⟩ : ∃ i : Fin 4096, S4096.rowMajor.symm n = ix1 i ∧ i.val = n.val := ⟨n.cast (Routing.numel1 4096), Routing.symm1 n, rfl⟩
    rw [hi, ← hiv]
    have hl := lands idx i x (g i.val) (hg31 i) (hg i)
    generalize scatter_S8_S4096x1_S4096_n_0_0_1.resultIdx? (ix1 i) idx = o at hl ⊢
    cases o with
    | none =>
      dsimp only
      rw [if_neg fun h => nomatch hl.2 (of_decide_eq_true h)]
    | some k =>
      dsimp only
      by_cases e : g i.val = x.val
      · rw [Option.some.inj (hl.2 e), if_pos rfl, hupd, if_pos (decide_eq_true e)]
      · rw [if_neg fun h : ix1 x = k => e (hl.1 (congrArg some h.symm)), if_neg fun h => e (of_decide_eq_true h)]
  · rw [Nat.zero_add, Routing.countP_finRange _ (fun i => g i = x.val)]
    exact congrArg (fun n => BitVec.ofNat 32 (Nat.count (fun i => g i = x.val) n)) (Routing.numel1 4096)

/-- A token's expert. -/
abbrev ex (t : ℕ) : ℕ := WholeRoute.route (L m d) t

theorem v18_ex (t : Fin 4096) : V3 m d (Proc.devRef .tc main_v18) (ix1 t) = BitVec.ofNat 32 (ex m d t.val) := by
  rw [v18_at]; unfold ex WholeRoute.route; rw [dif_pos t.isLt]

theorem ex_lt (t : Fin 4096) : ex m d t.val < 8 := WholeRoute.route_lt _ _ t.isLt

theorem v29_at (e : Fin 8) : V4 m d (Proc.devRef .tc main_v29) (ix1 e) = nat (cnt (ex m d) 4096 e.val) := by
  have h' : ∀ (t : Fin 4096) (v : BitVec 32), v = BitVec.ofNat 32 (ex m d t.val) → Scalar.select (IntOp.cmpi .slt (IntOp.maxsi 0#32 v) 0#32) (IntOp.addi (IntOp.maxsi 0#32 v) 8#32) (IntOp.maxsi 0#32 v) = BitVec.ofNat 32 (ex m d t.val) := fun t v hv => by
    have hx := ex_lt m d t
    subst hv
    generalize ex m d t.val = n at hx ⊢
    interval_cases n <;> rfl
  show after ops3 _ _ _ = _
  unfold ops3
  after_reads_simp
  refine (congrArg (FloatOps.sitofp (F := Ideal) .f32) (hist _ (fun _ => rfl) _ _ (fun _ => rfl) (ex m d) (fun i => ?_) (fun i => by have := ex_lt m d i; omega) e)).trans ?_
  · rw [← h' i _ (v18_ex m d i)]
    show broadcastInDim (s := S4096) S4096x1 (![0] : Fin S4096.rank → Fin S4096x1.rank) bcast_S4096_S4096x1_0 _ (ix2 i (0 : Fin 1)) = _
    pointwise
    rfl
  · have := Nat.count_le (p := fun i => ex m d i = e.val) (n := 4096)
    exact nat_word _ (by omega)

/-! ## The experts' layers -/

theorem V4_keep (b : Ref sig .tc) (h : b ∉ W3) : V4 m d (Proc.devRef .tc b) = V3 m d (Proc.devRef .tc b) := StableHlo.after_unwritten W3 rfl h _
theorem V5_keep (b : Ref sig .tc) (h : b ∉ W4) : V5 m d (Proc.devRef .tc b) = V4 m d (Proc.devRef .tc b) := StableHlo.after_unwritten W4 rfl h _
theorem V6_keep (b : Ref sig .tc) (h : b ∉ W5) : V6 m d (Proc.devRef .tc b) = V5 m d (Proc.devRef .tc b) := StableHlo.after_unwritten W5 rfl h _
theorem V7_keep (b : Ref sig .tc) (h : b ∉ W6) : V7 m d (Proc.devRef .tc b) = V6 m d (Proc.devRef .tc b) := StableHlo.after_unwritten W6 rfl h _
theorem V8_keep (b : Ref sig .tc) (h : b ∉ W7) : V8 m d (Proc.devRef .tc b) = V7 m d (Proc.devRef .tc b) := StableHlo.after_unwritten W7 rfl h _
theorem V9_keep (b : Ref sig .tc) (h : b ∉ W8) : V9 m d (Proc.devRef .tc b) = V8 m d (Proc.devRef .tc b) := StableHlo.after_unwritten W8 rfl h _
theorem V10_keep (b : Ref sig .tc) (h : b ∉ W9) : V10 m d (Proc.devRef .tc b) = V9 m d (Proc.devRef .tc b) := StableHlo.after_unwritten W9 rfl h _
theorem V9_from (b : Ref sig .tc) (h : b ∉ W4 ++ (W5 ++ (W6 ++ (W7 ++ W8)))) : V9 m d (Proc.devRef .tc b) = V4 m d (Proc.devRef .tc b) := by
  simp only [List.mem_append, not_or] at h
  rw [V9_keep m d b h.2.2.2.2, V8_keep m d b h.2.2.2.1, V7_keep m d b h.2.2.1, V6_keep m d b h.2.1, V5_keep m d b h.1]
theorem V2_keep (b : Ref sig .tc) (h : b ∉ W1) : V2 m d (Proc.devRef .tc b) = V1 m d (Proc.devRef .tc b) := StableHlo.after_unwritten W1 rfl h _
theorem V1_keep (b : Ref sig .tc) (h : b ∉ W0) : V1 m d (Proc.devRef .tc b) = V0 m d (Proc.devRef .tc b) := StableHlo.after_unwritten W0 rfl h _

theorem V4_from (b : Ref sig .tc) (h : b ∉ W1 ++ (W2 ++ W3)) : V4 m d (Proc.devRef .tc b) = V1 m d (Proc.devRef .tc b) := by
  simp only [List.mem_append, not_or] at h
  rw [V4_keep m d b h.2.2, V3_keep m d b h.2.1, V2_keep m d b h.1]

theorem v39_at (e : Fin 8) (t : Fin 4096) (q : Fin 1024) : V5 m d (Proc.devRef .tc main_v39) (ix3 e t q)
    = (∑ k, tok (aX m d) t k * aE m d (ix4 e 0 q k)) + aC m d (ix3 e 0 q) := by
  have hE : V4 m d (Proc.devRef .tc main_arg3) = aE m d := by rw [V4_from m d _ (by decide), V1_keep m d _ (by decide)]
  have hC : V4 m d (Proc.devRef .tc main_arg4) = aC m d := by rw [V4_from m d _ (by decide), V1_keep m d _ (by decide)]
  have hX : ∀ k, V4 m d (Proc.devRef .tc main_v0) (ix2 t k) = tok (aX m d) t k := fun k => by rw [V4_from m d _ (by decide), v0_at]
  rw [← hE, ← hC]
  simp only [← hX]
  show after ops4 _ _ _ = _
  unfold ops4
  after_reads_at

theorem v47_at (e : Fin 8) (t : Fin 4096) (j : Fin 1024) : V6 m d (Proc.devRef .tc main_v47) (ix3 e t j)
    = (∑ q, ((∑ k, tok (aX m d) t k * aE m d (ix4 e 0 q k)) + aC m d (ix3 e 0 q)) * aE m d (ix4 e 1 j q)) + aC m d (ix3 e 1 j) := by
  have hE : V5 m d (Proc.devRef .tc main_arg3) = aE m d := by rw [V5_keep m d _ (by decide), V4_from m d _ (by decide), V1_keep m d _ (by decide)]
  have hC : V5 m d (Proc.devRef .tc main_arg4) = aC m d := by rw [V5_keep m d _ (by decide), V4_from m d _ (by decide), V1_keep m d _ (by decide)]
  have h : ∀ (f : S8x4096x1024.Idx → EReal) (E : S8x2x1024x1024.Idx → EReal) (C : S8x2x1024.Idx → EReal), V5 m d (Proc.devRef .tc main_v39) = f
      → V5 m d (Proc.devRef .tc main_arg3) = E → V5 m d (Proc.devRef .tc main_arg4) = C
      → V6 m d (Proc.devRef .tc main_v47) (ix3 e t j) = (∑ q : Fin 1024, f (ix3 e t q) * E (ix4 e 1 j q)) + C (ix3 e 1 j) := by
    rintro f E C rfl rfl rfl
    show after ops5 _ _ _ = _
    unfold ops5
    after_reads_at
  rw [h _ _ _ rfl hE hC]
  exact congrArg (fun f : Fin 1024 → EReal => (∑ q, f q * aE m d (ix4 e 1 j q)) + aC m d (ix3 e 1 j)) (funext fun q => v39_at m d e t q)

/-! ## The results -/

/-- The gather takes the row of the expert and the token that its two columns name. -/
theorem take (x : S8x4096x1024.Idx → EReal) (idx : IVec S4096x2 32) (t : Fin 4096) (j : Fin 1024) (e : Fin 8)
    (h0 : idx (ix2 t (0 : Fin 2)) = BitVec.ofNat 32 e.val) (h1 : idx (ix2 t (1 : Fin 2)) = BitVec.ofNat 32 t.val) :
    Host.gather gather_S8x4096x1024_S4096x2_S4096x1024_1_01_n_n_01_1_111024 x idx (ix2 t j) = x (ix3 e t j) := by
  have hs : ∀ (a : Fin 3) (c : Fin 2) (n : ℕ) (ha : a ∈ gather_S8x4096x1024_S4096x2_S4096x1024_1_01_n_n_01_1_111024.startIndexMap)
      (_ : gather_S8x4096x1024_S4096x2_S4096x1024_1_01_n_n_01_1_111024.siIdx (ix2 t j) ⟨_, List.idxOf_lt_length_iff.2 ha⟩ = ix2 t c)
      (_ : idx (ix2 t c) = BitVec.ofNat 32 n) (_ : n < 2 ^ 31) (_ : n ≤ S8x4096x1024.size a - gather_S8x4096x1024_S4096x2_S4096x1024_1_01_n_n_01_1_111024.sliceSizes a),
      gather_S8x4096x1024_S4096x2_S4096x1024_1_01_n_n_01_1_111024.start (ix2 t j) idx a = n := fun a c n ha hi hn h31 hle => by
    unfold GatherDims.start
    rw [dif_pos ha, hi, hn, toInt_small n h31]
    omega
  unfold Host.gather
  refine congrArg x (funext fun a => Fin.ext ?_)
  match a with
  | ⟨0, _⟩ =>
    refine (congrArg (fun n => n + _ + _) (hs 0 0 e.val (by decide) (funext fun b => ?_) h0 (by omega) (by have := e.isLt; show e.val ≤ 8 - 1; omega))).trans rfl
    match b with
    | ⟨0, _⟩ => rfl
    | ⟨1, _⟩ => rfl
  | ⟨1, _⟩ =>
    refine (congrArg (fun n => n + _ + _) (hs 1 1 t.val (by decide) (funext fun b => ?_) h1 (by omega) (by have := t.isLt; show t.val ≤ 4096 - 1; omega))).trans rfl
    match b with
    | ⟨0, _⟩ => rfl
    | ⟨1, _⟩ => rfl
  | ⟨2, _⟩ => exact Nat.zero_add _

theorem V6_from (b : Ref sig .tc) (h : b ∉ W4 ++ W5) : V6 m d (Proc.devRef .tc b) = V4 m d (Proc.devRef .tc b) := by
  simp only [List.mem_append, not_or] at h
  rw [V6_keep m d b h.2, V5_keep m d b h.1]

theorem v59_at (t : Fin 4096) : V7 m d (Proc.devRef .tc main_v59) (ix2 t (0 : Fin 1)) = BitVec.ofNat 32 (ex m d t.val) := by
  have hv : V6 m d (Proc.devRef .tc main_v18) (ix1 t) = BitVec.ofNat 32 (ex m d t.val) := by
    rw [V6_from m d _ (by decide), V4_keep m d _ (by decide)]; exact v18_ex m d t
  have h' : ∀ v : BitVec 32, v = BitVec.ofNat 32 (ex m d t.val) → Scalar.select (IntOp.cmpi .slt v 0#32) (IntOp.addi v 8#32) v = BitVec.ofNat 32 (ex m d t.val) := fun v hv => by
    have hx := ex_lt m d t
    subst hv
    generalize ex m d t.val = n at hx ⊢
    interval_cases n <;> rfl
  rw [← h' _ hv]
  show after ops6 _ _ _ = _
  unfold ops6
  after_reads_at

theorem v60_at (t : Fin 4096) : V7 m d (Proc.devRef .tc main_v60) (ix2 t (0 : Fin 1)) = BitVec.ofNat 32 t.val := by
  show after ops6 _ _ _ = _
  unfold ops6
  after_reads_at
  word_omega

theorem v61_0 (t : Fin 4096) : V8 m d (Proc.devRef .tc main_v61) (ix2 t (0 : Fin 2)) = BitVec.ofNat 32 (ex m d t.val) := by
  rw [← v59_at]
  show after ops7 _ _ _ = _
  unfold ops7
  after_reads_at

theorem v61_1 (t : Fin 4096) : V8 m d (Proc.devRef .tc main_v61) (ix2 t (1 : Fin 2)) = BitVec.ofNat 32 t.val := by
  rw [← v60_at m d]
  show after ops7 _ _ _ = _
  unfold ops7
  after_reads_at

theorem v62_at (t : Fin 4096) (j : Fin 1024) : V9 m d (Proc.devRef .tc main_v62) (ix2 t j) = V6 m d (Proc.devRef .tc main_v47) (ix3 ⟨ex m d t.val, ex_lt m d t⟩ t j) := by
  rw [← V7_keep m d main_v47 (by decide), ← V8_keep m d main_v47 (by decide)]
  show after ops8 _ _ _ = _
  unfold ops8
  after_reads_simp
  exact take _ _ t j ⟨ex m d t.val, ex_lt m d t⟩ (v61_0 m d t) (v61_1 m d t)

theorem V9_17 (t : Fin 4096) : V9 m d (Proc.devRef .tc main_v17) (ix1 t) = top (soft (L m d t)) := by
  rw [V9_from m d _ (by decide), V4_keep m d _ (by decide), V3_keep m d _ (by decide)]; exact v17_at m d t

theorem v66_at (s : Fin 2048) (b : Fin 2) (k : Fin 1024) : V10 m d (Proc.devRef .tc main_v66) (ix3 s b k)
    = WholeBlocks.two (fun k => tok (aX m d) ⟨2 * s.val + b.val, by omega⟩ k) (aE m d) (aC m d) ⟨ex m d (2 * s.val + b.val), ex_lt m d ⟨2 * s.val + b.val, by omega⟩⟩ k
        * top (soft (L m d ⟨2 * s.val + b.val, by omega⟩)) := by
  have e : (⟨s.val * 2 + b.val, by omega⟩ : Fin 4096) = ⟨2 * s.val + b.val, by omega⟩ := Fin.ext (by dsimp only; omega)
  have h : ∀ (Y : S4096x1024.Idx → EReal) (p : S4096.Idx → EReal), V9 m d (Proc.devRef .tc main_v62) = Y → V9 m d (Proc.devRef .tc main_v17) = p
      → V10 m d (Proc.devRef .tc main_v66) (ix3 s b k) = Y (ix2 (⟨s.val * 2 + b.val, by omega⟩ : Fin 4096) k) * p (ix1 (⟨s.val * 2 + b.val, by omega⟩ : Fin 4096)) := by
    rintro Y p rfl rfl
    show after ops9 _ _ _ = _
    unfold ops9
    after_reads_at
  rw [h _ _ rfl rfl, e]
  exact congrArg₂ (fun y p : EReal => y * p) ((v62_at m d _ k).trans (v47_at m d _ _ k)) (V9_17 m d _)

theorem v67_at (e : Fin 8) : V10 m d (Proc.devRef .tc main_v67) (ix1 e) = ∑ t : Fin 4096, soft (L m d t) e := by
  have h : ∀ P : S4096x8.Idx → EReal, V9 m d (Proc.devRef .tc main_v16) = P → V10 m d (Proc.devRef .tc main_v67) (ix1 e) = (∑ t : Fin 4096, P (ix2 t e) : EReal) := by
    rintro P rfl
    show after ops9 _ _ _ = _
    unfold ops9
    after_reads_at
  refine (h (fun i => soft (L m d (i 0)) (i 1)) ?_).trans rfl
  rw [V9_from m d _ (by decide), V4_keep m d _ (by decide), V3_keep m d _ (by decide)]
  funext i
  idx_vars i
  exact v16_at m d i0 i1

theorem r29_at (e : Fin 8) : V10 m d (Proc.devRef .tc main_v29) (ix1 e) = nat (cnt (ex m d) 4096 e.val) := by
  rw [V10_keep m d _ (by decide), V9_from m d _ (by decide)]; exact v29_at m d e

theorem r17_at (t : Fin 4096) : V10 m d (Proc.devRef .tc main_v17) (ix1 t) = top (soft (L m d t)) := by
  rw [V10_keep m d _ (by decide)]; exact V9_17 m d t

theorem r_drop : V10 m d (Proc.devRef .tc main_c_12) = (constantI S_ 32 0#32 : S_.Idx → BitVec 32) := by
  show after ops9 _ _ = _
  unfold ops9
  after_reads_simp

/-- The reference leaves its arguments alone. -/
theorem args_kept : ∀ b ∈ [main_arg0, main_arg1, main_arg2, main_arg3, main_arg4], b ∉ W0 ∧ b ∉ W1 ++ (W2 ++ W3) ∧ b ∉ W4 ++ (W5 ++ (W6 ++ (W7 ++ W8))) ∧ b ∉ W9 := by decide

theorem V10_arg (b : Ref sig .tc) (h : b ∈ [main_arg0, main_arg1, main_arg2, main_arg3, main_arg4]) : V10 m d (Proc.devRef .tc b) = m ((d.tc : Thread nD τ).loc b) := by
  obtain ⟨h0, h1, h2, h3⟩ := args_kept b h
  rw [V10_keep m d b h3, V9_from m d b h2, V4_from m d b h1, V1_keep m d b h0]

end Cert.Proof.RefValues

end
-- ==== Proof.WholeClaim.lean ====
/-
  The whole kernel against its reference: what the precondition says of the arguments, why scaling a token before its
  expert's layers is scaling the result, and the five results' agreement.
-/
module

public import proofs.«01_k».proof.Proof.WholeEnd
public import proofs.«01_k».proof.Proof.RefValues
public import proofs.«01_k».proof.Proof.Gen.Pre_router_finite_bias_zero
public import Idealize.ShloMosaic.Lib.Claim

@[expose] public section

set_option synthInstance.maxSize 4096

noncomputable section

namespace Cert.Proof.WholeClaim

open Idealize.ShloMosaic Idealize.SL.Sem
open Cert.KernelIdeal (nD τ sig S2048x2x1024 S8x1024 S8 S8x2x1024x1024 S8x2x1024)
open Cert.Proof.RouteMath Cert.Proof.WholeRoute Cert.Proof.WholeBlocks
open Cert.Proof.WholeGood (tok logits)

/-! ## Scaling before and after the layers -/

theorem sum_scale {n : ℕ} (f : Fin n → EReal) (p : EReal) (h0 : 0 ≤ p) (ht : p ≠ ⊤) : (∑ k, f k * p) = (∑ k, f k) * p := by
  classical
  induction (Finset.univ : Finset (Fin n)) using Finset.induction_on with
  | empty => simp
  | insert a s ha ih => rw [Finset.sum_insert ha, Finset.sum_insert ha, ih, EReal.right_distrib_of_nonneg_of_ne_top h0 ht]

/-- Two linear layers without biases commute with a finite scale. -/
theorem two_scale (x : Fin 1024 → EReal) (E : S8x2x1024x1024.Idx → EReal) (C : S8x2x1024.Idx → EReal) (hC : ∀ i, C i = 0) (e : Fin 8) (j : Fin 1024)
    (p : EReal) (h0 : 0 ≤ p) (ht : p ≠ ⊤) : two (fun k => x k * p) E C e j = two x E C e j * p := by
  unfold two
  simp only [hC, add_zero]
  rw [← sum_scale _ p h0 ht]
  refine Finset.sum_congr rfl fun q _ => ?_
  rw [mul_right_comm, ← sum_scale _ p h0 ht]
  exact congrArg (· * _) (Finset.sum_congr rfl fun k _ => mul_right_comm _ _ _)

/-- Of real logits the greatest probability is a real, and not negative. -/
theorem top_soft (r : Fin 8 → ℝ) : ∃ p : ℝ, 0 ≤ p ∧ top (soft fun e => ((r e : ℝ) : EReal)) = (p : EReal) := by
  obtain ⟨j0, hj0⟩ := exists_top fun e => ((r e : ℝ) : EReal)
  obtain ⟨j, hj⟩ := exists_top (soft fun e => ((r e : ℝ) : EReal))
  have hM : max low (top fun e => ((r e : ℝ) : EReal)) = ((r j0 : ℝ) : EReal) := by
    rw [← hj0, low_eq]; exact max_eq_right bot_le
  have hpos : 0 < ∑ k, Real.exp (r k - r j0) := Finset.sum_pos (fun k _ => Real.exp_pos _) ⟨0, Finset.mem_univ _⟩
  have hs : ∀ k, Ideal.exp (((r k : ℝ) : EReal) - ((r j0 : ℝ) : EReal)) = ((Real.exp (r k - r j0) : ℝ) : EReal) := fun k => by
    rw [← EReal.coe_sub]; rfl
  refine ⟨Real.exp (r j - r j0) * (1 / ∑ k, Real.exp (r k - r j0)), mul_nonneg (Real.exp_pos _).le (by positivity), ?_⟩
  rw [← hj]
  unfold soft
  rw [hM]
  simp only [hs]
  rw [coe_sum, Ideal.div_coe hpos.ne', EReal.coe_mul]

theorem coe_of (x : EReal) (h : max x (-x) < ⊤) : ∃ r : ℝ, x = (r : EReal) := by
  induction x using EReal.rec with
  | bot => simp at h
  | top => simp at h
  | coe r => exact ⟨r, rfl⟩

/-- The logits of real arguments are real. -/
theorem logits_real (X : S2048x2x1024.Idx → EReal) (W : S8x1024.Idx → EReal) (B : S8.Idx → EReal)
    (hX : ∀ i, ∃ r : ℝ, X i = (r : EReal)) (hW : ∀ i, ∃ r : ℝ, W i = (r : EReal)) (hB : ∀ i, ∃ r : ℝ, B i = (r : EReal)) (t : Fin 4096) :
    ∃ r : Fin 8 → ℝ, logits X W B t = fun e => ((r e : ℝ) : EReal) := by
  choose x hx using hX
  choose w hw using hW
  choose b hb using hB
  refine ⟨fun e => (∑ k : Fin 1024, x (ix3 ⟨t.val / 2, by omega⟩ ⟨t.val % 2, by omega⟩ k) * w (ix2 e k)) + b (ix1 e), funext fun e => ?_⟩
  unfold logits lgs tok
  rw [EReal.coe_add, ← coe_sum]
  refine congrArg₂ (· + ·) (Finset.sum_congr rfl fun k _ => ?_) (hb _)
  rw [EReal.coe_mul, ← hx, ← hw]

/-! ## The results -/

/-- A token's result with its scale before the layers, as the kernel has it. -/
def before (X : S2048x2x1024.Idx → EReal) (W : S8x1024.Idx → EReal) (B : S8.Idx → EReal) (E : S8x2x1024x1024.Idx → EReal) (C : S8x2x1024.Idx → EReal)
    (t : Fin 4096) (k : Fin 1024) : EReal :=
  two (fun k => tok X t k * top (soft (logits X W B t))) E C ⟨route (logits X W B) t.val, route_lt _ _ t.isLt⟩ k
/-- A token's result with its scale after the layers, as the reference has it. -/
def behind (X : S2048x2x1024.Idx → EReal) (W : S8x1024.Idx → EReal) (B : S8.Idx → EReal) (E : S8x2x1024x1024.Idx → EReal) (C : S8x2x1024.Idx → EReal)
    (t : Fin 4096) (k : Fin 1024) : EReal :=
  two (fun k => tok X t k) E C ⟨route (logits X W B) t.val, route_lt _ _ t.isLt⟩ k * top (soft (logits X W B t))

theorem before_eq (X : S2048x2x1024.Idx → EReal) (W : S8x1024.Idx → EReal) (B : S8.Idx → EReal) (E : S8x2x1024x1024.Idx → EReal) (C : S8x2x1024.Idx → EReal)
    (hX : ∀ i, ∃ r : ℝ, X i = (r : EReal)) (hW : ∀ i, ∃ r : ℝ, W i = (r : EReal)) (hB : ∀ i, ∃ r : ℝ, B i = (r : EReal)) (hC : ∀ i, C i = 0)
    (t : Fin 4096) (k : Fin 1024) : before X W B E C t k = behind X W B E C t k := by
  obtain ⟨r, hr⟩ := logits_real X W B hX hW hB t
  obtain ⟨p, hp, e⟩ := top_soft r
  rw [← hr] at e
  exact two_scale _ E C hC _ k _ (by rw [e]; exact_mod_cast hp) (by rw [e]; exact EReal.coe_ne_top p)

variable (m : (ℓ : Loc nD τ sig) → Buf (Elt Ideal) ℓ)

/-- What the precondition says of the arguments. -/
theorem pre (h : Cert.Pre_KernelIdeal_router_finite_bias_zero m) (d : Dev nD) :
    (∀ i, ∃ r : ℝ, WholeGood.argX m d i = (r : EReal)) ∧ (∀ i, ∃ r : ℝ, WholeGood.argW m d i = (r : EReal))
      ∧ (∀ i, ∃ r : ℝ, WholeGood.argB m d i = (r : EReal)) ∧ ∀ i, WholeGood.argC m d i = 0 := by
  have h0 := congrFun (h d) ix0
  unfold Cert.Pre_router_finite_bias_zero.fn Cert.Pre_router_finite_bias_zero.fn_part1 at h0
  dsimp only at h0
  have and1 : ∀ {a b : BitVec 1}, IntOp.andi a b = 1#1 → a = 1#1 ∧ b = 1#1 := fun {a b} => by revert a b; decide
  obtain ⟨h1, hC⟩ := and1 h0
  obtain ⟨h2, hB⟩ := and1 h1
  obtain ⟨hX, hW⟩ := and1 h2
  have inf : (Ideal.ofBits .f32 0x7F800000#32 : EReal) = ⊤ := by simp [Ideal.ofBits, Ideal.ieee]
  have fin : ∀ x : EReal, FloatOps.cmpf (F := Ideal) (φ := .f32) .olt (max x (-x)) (Ideal.ofBits .f32 0x7F800000#32) = 1#1 → ∃ r : ℝ, x = (r : EReal) := fun x hx => by
    rw [inf] at hx
    refine coe_of x ?_
    change Ideal.cmp .olt _ _ = 1#1 at hx
    by_contra hn
    simp [Ideal.cmp, hn] at hx
  refine ⟨fun i => fin _ (Host.reduce_andi_all _ _ _ _ _ hX i), fun i => fin _ (Host.reduce_andi_all _ _ _ _ _ hW i), fun i => fin _ (Host.reduce_andi_all _ _ _ _ _ hB i), fun i => ?_⟩
  have hx := Host.reduce_andi_all _ _ _ _ _ hC i
  change Ideal.cmp .oeq (WholeGood.argC m d i) (Ideal.ofBits .f32 0x00000000#32) = 1#1 at hx
  have hz : (Ideal.ofBits .f32 0x00000000#32 : EReal) = 0 := by simp [Ideal.ofBits, Ideal.ieee]
  rw [hz] at hx
  by_contra hn
  simp [Ideal.cmp, hn] at hx

variable (m' : (ℓ : Loc Cert.ReferenceIdeal.nD Cert.ReferenceIdeal.τ Cert.ReferenceIdeal.sig) → Buf (Elt Ideal) ℓ) (d : Dev nD)

/-- The launch memories of the two programs hold the same arguments. -/
structure Agree : Prop where
  X : RefValues.aX m' d = WholeGood.argX m d
  W : RefValues.aW m' d = WholeGood.argW m d
  B : RefValues.aB m' d = WholeGood.argB m d
  E : RefValues.aE m' d = WholeGood.argE m d
  C : RefValues.aC m' d = WholeGood.argC m d

variable {m m' d} (ha : Agree m m' d)
include ha

theorem logits_eq : RefValues.L m' d = WholeGood.L m d := by
  show logits (RefValues.aX m' d) (RefValues.aW m' d) (RefValues.aB m' d) = _
  rw [ha.X, ha.W, ha.B]

theorem out_eq (h : Cert.Pre_KernelIdeal_router_finite_bias_zero m) :
    (RefRun.V10 m' d (Proc.devRef .tc Cert.ReferenceIdeal.main_v66) : S2048x2x1024.Idx → EReal) = WholeRun.V9 m (adm m) d (Proc.devRef .tc Cert.KernelIdeal.main_v18) := by
  obtain ⟨hX, hW, hB, hC⟩ := pre m h d
  funext i
  idx_vars i
  refine (RefValues.v66_at m' d i0 i1 i2).trans (Eq.trans ?_ (WholeEnd.V9_out m d i0 i1 i2).symm)
  show behind (RefValues.aX m' d) (RefValues.aW m' d) (RefValues.aB m' d) (RefValues.aE m' d) (RefValues.aC m' d) ⟨2 * i0.val + i1.val, by omega⟩ i2
    = before (WholeGood.argX m d) (WholeGood.argW m d) (WholeGood.argB m d) (WholeGood.argE m d) (WholeGood.argC m d) ⟨2 * i0.val + i1.val, by omega⟩ i2
  rw [ha.X, ha.W, ha.B, ha.E, ha.C, before_eq _ _ _ _ _ hX hW hB hC]

theorem cnt_eq : (RefRun.V10 m' d (Proc.devRef .tc Cert.ReferenceIdeal.main_v29) : S8.Idx → EReal) = WholeRun.V9 m (adm m) d (Proc.devRef .tc Cert.KernelIdeal.main_v19) := by
  funext i
  idx_vars i
  refine (RefValues.r29_at m' d i0).trans (Eq.trans ?_ (WholeEnd.V9_cnt m d i0).symm)
  show nat (cnt (route (RefValues.L m' d)) 4096 i0.val) = nat (cnt (route (WholeGood.L m d)) 4096 i0.val)
  rw [logits_eq ha]

theorem sum_eq : (RefRun.V10 m' d (Proc.devRef .tc Cert.ReferenceIdeal.main_v67) : S8.Idx → EReal) = WholeRun.V9 m (adm m) d (Proc.devRef .tc Cert.KernelIdeal.main_v20) := by
  funext i
  idx_vars i
  refine (RefValues.v67_at m' d i0).trans (Eq.trans ?_ (WholeEnd.V9_sum m d i0).symm)
  exact congrArg (fun l : Fin 4096 → Fin 8 → EReal => ∑ t : Fin 4096, soft (l t) i0) (logits_eq ha)

theorem max_eq : (RefRun.V10 m' d (Proc.devRef .tc Cert.ReferenceIdeal.main_v17) : Cert.KernelIdeal.S4096.Idx → EReal) = WholeRun.V9 m (adm m) d (Proc.devRef .tc Cert.KernelIdeal.main_v21) := by
  funext i
  idx_vars i
  refine (RefValues.r17_at m' d i0).trans (Eq.trans ?_ (WholeEnd.V9_max m d i0).symm)
  exact congrArg (fun l : Fin 4096 → Fin 8 → EReal => top (soft (l i0))) (logits_eq ha)

omit ha in
theorem drop_eq : (RefRun.V10 m' d (Proc.devRef .tc Cert.ReferenceIdeal.main_c_12) : Cert.KernelIdeal.S_.Idx → BitVec 32) = WholeRun.V9 m (adm m) d (Proc.devRef .tc Cert.KernelIdeal.main_c_0) :=
  (RefValues.r_drop m' d).trans (WholeEnd.V9_drop m d).symm

end Cert.Proof.WholeClaim

end
-- ==== Proof.lean ====
/-
  The proof of `Cert.Claim`. The gather call's run is proved once over any float values (Proof/GatherTile.lean, Proof/GatherRun.lean);
  what it leaves at an index is Proof/GatherValue.lean, the reference's rows are Proof/GatherRef.lean. The whole kernel's run
  is Proof/WholeRun.lean, what it leaves at an index Proof/WholeEnd.lean; the reference's are Proof/RefRun.lean and
  Proof/RefValues.lean, and the two agree by Proof/WholeClaim.lean.
-/
module

public import proofs.«01_k».proof.Defs
public import proofs.«01_k».proof.Proof.Gen.Gather
public import proofs.«01_k».proof.Proof.Gen.GatherIdeal
public import proofs.«01_k».proof.Proof.Gen.GatherReferenceIdeal
public import proofs.«01_k».proof.Proof.Gen.Pre_dest_in_rows
public import proofs.«01_k».proof.Proof.Gen.Pre_router_finite_bias_zero
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.GatherRun
public import proofs.«01_k».proof.Proof.GatherValue
public import proofs.«01_k».proof.Proof.GatherRef
public import Idealize.ShloMosaic.Lib.Claim
public import proofs.«01_k».proof.Proof.WholeClaim

@[expose] public section

noncomputable section

namespace Cert.Proof

open Idealize.ShloMosaic Idealize.SL.Sem
open Idealize.ShloMosaic.Pipeline (ucRefs)

/-! ## The gather -/

section Gather
open Cert.GatherIdeal Cert.GatherIdeal.Gen Cert.Proof.GatherRun Cert.Proof.GatherValue

/-- The gather's run read at its result and its arguments, over any float values. -/
theorem gather_run {F : FTy → Type} [FloatOps F] [∀ e, Nonempty (Elt F e)]
    (m : (ℓ : Loc nD τ sig) → Buf (Elt F) ℓ) (ρ : Dev nD → PrngReg)
    (h : ∀ d, Cert.Pre_dest_in_rows.fn (F := F) (ys m d) (dst m d) = fun _ => 1#1) :
    θ_run (Cert.GatherIdeal.defs (F := F)) (Cert.GatherIdeal.threads (F := F)) ⟨m, fun _ => 0, ρ⟩ fun r =>
      (∀ c : Dev nD, r.2.mem (c.tc.loc main_v9) = rows (ys m c) (dst m c)
        ∧ r.2.mem (c.tc.loc main_arg0) = m (c.tc.loc main_arg0) ∧ r.2.mem (c.tc.loc main_arg1) = m (c.tc.loc main_arg1))
      ∧ r.2.sem = fun _ => 0 := by
  have hd := fun d => dest_lt m (h d)
  refine (θ_run Cert.GatherIdeal.defs _ _).mono (fun r hr => ⟨fun c => ⟨?_, ?_, ?_⟩, hr.2⟩) (run_main m ρ (inRows m hd))
  · exact (hr.1 c (Proc.devRef .tc main_v9) (by decide)).trans (V3_out m (hd c))
  · exact (hr.1 c (Proc.devRef .tc main_arg0) (by decide)).trans (V3_arg0 m c)
  · exact (hr.1 c (Proc.devRef .tc main_arg1) (by decide)).trans (V3_arg1 m c)

theorem frame_gather_ideal : Cert.quiescent_GatherIdeal := fun m ρ hpre =>
  (θ_run Cert.GatherIdeal.defs _ _).mono (fun _ h => ⟨fun c => (h.1 c).2, h.2⟩) (gather_run m ρ hpre)

theorem frame_gather : Cert.quiescent_Gather := fun m ρ hpre =>
  (θ_run Cert.GatherIdeal.defs _ _).mono (fun _ h => ⟨fun c => (h.1 c).2, h.2⟩) (gather_run (F := Bits) m ρ hpre)

end Gather

theorem frame_gather_reference : Cert.quiescent_GatherReferenceIdeal := by
  intro m ρ _
  refine θ_run_mono (Q := fun r => ∀ c : Dev Cert.GatherReferenceIdeal.nD, r.2.mem _ = _ ∧ r.2.mem _ = _) ?_ (fun r h => ⟨h, sem_eq_zero_of_no_sems (by decide) r.2⟩)
  hlo_run

theorem algebraic_gather : Cert.algebraic_GatherIdeal_GatherReferenceIdeal := by
  intro m g m' g' hpre hagree
  refine ⟨fun c => GatherValue.rows (GatherValue.ys m c) (GatherValue.dst m c), ?_, ?_⟩
  · exact (θ_run Cert.GatherIdeal.defs _ _).mono (fun _ h => h.1) (gather_run m g hpre)
  · hlo_run
    exact GatherRef.take_rows _ _ (GatherValue.dest_lt m (hpre c))

/-! ## The whole kernel -/

section Whole
open Cert.KernelIdeal Cert.KernelIdeal.Gen Cert.Proof.WholeClaim

/-- The whole kernel's run at the ideal values: every buffer ends as the fold of its steps leaves it. -/
theorem whole_run (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩
      (WholeRun.QC m (WholeBlocks.adm m)) :=
  WholeRun.run_main m ρ _ (WholeEnd.good m)

theorem frame_whole : Cert.quiescent_KernelIdeal := fun m ρ _ =>
  (θ_run Cert.KernelIdeal.defs _ _).mono (fun r h => ⟨fun c =>
    have k : ∀ (b : Ref sig .tc) (_ : Proc.devRef .tc b ∈ ucRefs τ sig) (_ : b ∈ [main_arg0, main_arg1, main_arg2, main_arg3, main_arg4]),
        r.2.mem (c, Proc.devRef .tc b) = m (c, Proc.devRef .tc b) := fun b hu ha =>
      (h.1 c (Proc.devRef .tc b) hu).trans (WholeEnd.V9_arg m c b ha)
    ⟨k main_arg0 (by decide) (by decide), k main_arg1 (by decide) (by decide), k main_arg2 (by decide) (by decide),
      k main_arg3 (by decide) (by decide), k main_arg4 (by decide) (by decide)⟩, h.2⟩) (whole_run m ρ)

theorem frame_whole_pre : Cert.quiescent_KernelIdeal_pre_router_finite_bias_zero := fun m ρ _ => frame_whole m ρ trivial

theorem frame_whole_reference : Cert.quiescent_ReferenceIdeal := fun m ρ _ =>
  θ_run_mono (RefRun.run m ρ) fun r h => ⟨fun c =>
    have k := fun b hb => (h c b).trans (RefValues.V10_arg m c b hb)
    ⟨k _ (by decide), k _ (by decide), k _ (by decide), k _ (by decide), k _ (by decide)⟩, sem_eq_zero_of_no_sems (by decide) r.2⟩

theorem frame_whole_reference_pre : Cert.quiescent_ReferenceIdeal_pre_router_finite_bias_zero := fun m ρ _ => frame_whole_reference m ρ trivial

theorem algebraic_whole : Cert.algebraic_KernelIdeal_ReferenceIdeal_pre_router_finite_bias_zero := by
  intro m g m' g' hpre hagree
  have ha : ∀ c, Agree m m' c := fun c => ⟨(hagree c).1, (hagree c).2.1, (hagree c).2.2.1, (hagree c).2.2.2.1, (hagree c).2.2.2.2⟩
  refine ⟨fun c => WholeRun.V9 m (WholeBlocks.adm m) c (Proc.devRef .tc main_v18), fun c => WholeRun.V9 m (WholeBlocks.adm m) c (Proc.devRef .tc main_v19),
    fun c => WholeRun.V9 m (WholeBlocks.adm m) c (Proc.devRef .tc main_v20), fun c => WholeRun.V9 m (WholeBlocks.adm m) c (Proc.devRef .tc main_c_0),
    fun c => WholeRun.V9 m (WholeBlocks.adm m) c (Proc.devRef .tc main_v21), ?_, ?_⟩
  · refine (θ_run Cert.KernelIdeal.defs _ _).mono (fun r h c => ?_) (θ_run_and (whole_run m g) (frame_whole m g trivial))
    exact ⟨h.1.1 c (Proc.devRef .tc main_v18) (by decide), h.1.1 c (Proc.devRef .tc main_v19) (by decide), h.1.1 c (Proc.devRef .tc main_v20) (by decide),
      h.1.1 c (Proc.devRef .tc main_c_0) (by decide), h.1.1 c (Proc.devRef .tc main_v21) (by decide), h.2.1 c⟩
  · refine θ_run_mono (θ_run_and (RefRun.run m' g') (frame_whole_reference m' g' trivial)) fun r h c => ?_
    exact ⟨(h.1 c _).trans (out_eq (ha c) hpre), (h.1 c _).trans (cnt_eq (ha c)), (h.1 c _).trans (sum_eq (ha c)), (h.1 c _).trans drop_eq,
      (h.1 c _).trans (max_eq (ha c)), h.2.1 c⟩

end Whole

theorem claim : Cert.Claim :=
  ⟨Cert.KernelIdeal.Gen.facts, Cert.ReferenceIdeal.Gen.facts, Cert.Gather.Gen.facts, Cert.GatherIdeal.Gen.facts, Cert.GatherReferenceIdeal.Gen.facts,
    Cert.Pre_router_finite_bias_zero.Gen.facts, Cert.Pre_dest_in_rows.Gen.facts,
    frame_whole, frame_whole_pre, frame_whole_reference, frame_whole_reference_pre,
    frame_gather, frame_gather_ideal, frame_gather_reference, algebraic_whole, trivial, algebraic_gather⟩

end Cert.Proof
